-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pair.BufferStatement Cert.KernelIdeal.S4x72x2x128 Cert.KernelIdeal.S4x72x1x128
  ∧ IdealRules.bf16_pair.Statement Cert.KernelIdeal.S16x128 Cert.KernelIdeal.S8x128
  ∧ IdealRules.bf16_pair.Statement Cert.KernelIdeal.S1x8x2x128 Cert.KernelIdeal.S1x8x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x3584 : Shape := ⟨3, ![4, 8192, 3584]⟩
abbrev S4x8192x112 : Shape := ⟨3, ![4, 8192, 112]⟩
abbrev S4x3584x8192 : Shape := ⟨3, ![4, 3584, 8192]⟩
abbrev S4x3584x256 : Shape := ⟨3, ![4, 3584, 256]⟩
abbrev S1x3584 : Shape := ⟨2, ![1, 3584]⟩
abbrev S1x4096x512 : Shape := ⟨3, ![1, 4096, 512]⟩
abbrev S1x4096x112 : Shape := ⟨3, ![1, 4096, 112]⟩
abbrev S1x512x4096 : Shape := ⟨3, ![1, 512, 4096]⟩
abbrev S1x512x128 : Shape := ⟨3, ![1, 512, 128]⟩
abbrev S4096x128 : Shape := ⟨2, ![4096, 128]⟩
abbrev S128x4096 : Shape := ⟨2, ![128, 4096]⟩
abbrev S256x256 : Shape := ⟨2, ![256, 256]⟩
abbrev S4x72x128 : Shape := ⟨3, ![4, 72, 128]⟩
abbrev S4x8x128 : Shape := ⟨3, ![4, 8, 128]⟩
abbrev S256x512 : Shape := ⟨2, ![256, 512]⟩
abbrev S128x512 : Shape := ⟨2, ![128, 512]⟩
abbrev S7x16x512 : Shape := ⟨3, ![7, 16, 512]⟩
abbrev S16x512 : Shape := ⟨2, ![16, 512]⟩
abbrev S1x16x512 : Shape := ⟨3, ![1, 16, 512]⟩
abbrev S1x256x112 : Shape := ⟨3, ![1, 256, 112]⟩
abbrev S256x112 : Shape := ⟨2, ![256, 112]⟩
abbrev S256x16 : Shape := ⟨2, ![256, 16]⟩
abbrev S256x128 : Shape := ⟨2, ![256, 128]⟩
abbrev S128x256 : Shape := ⟨2, ![128, 256]⟩
abbrev S16x256 : Shape := ⟨2, ![16, 256]⟩
abbrev S256x128x1 : Shape := ⟨3, ![256, 128, 1]⟩
abbrev S4096x512 : Shape := ⟨2, ![4096, 512]⟩
abbrev S16x128 : Shape := ⟨2, ![16, 128]⟩
abbrev S8x128 : Shape := ⟨2, ![8, 128]⟩
abbrev S1x8x128 : Shape := ⟨3, ![1, 8, 128]⟩
abbrev S1x1x128 : Shape := ⟨3, ![1, 1, 128]⟩
abbrev S1x128 : Shape := ⟨2, ![1, 128]⟩
abbrev S32x128 : Shape := ⟨2, ![32, 128]⟩
abbrev S2x16x128 : Shape := ⟨3, ![2, 16, 128]⟩
abbrev S1x16x128 : Shape := ⟨3, ![1, 16, 128]⟩
abbrev S1x16x256 : Shape := ⟨3, ![1, 16, 256]⟩
abbrev S1x256x256 : Shape := ⟨3, ![1, 256, 256]⟩
abbrev S512x128 : Shape := ⟨2, ![512, 128]⟩
abbrev S512 : Shape := ⟨1, ![512]⟩
abbrev S1x512 : Shape := ⟨2, ![1, 512]⟩

abbrev nBuf : Space → Nat
  | .hbm => 5
  | .vmem => 17
  | .smem => 0
  | _ => 0

abbrev bufTy : (tb : Table) → Fin (tcTables nBuf tb) → BufTy
  | .hbm, ⟨0, _⟩ => ⟨S4x8192x3584, .fp8e4m3⟩
  | .hbm, ⟨1, _⟩ => ⟨S4x8192x112, .i8⟩
  | .hbm, ⟨2, _⟩ => ⟨S4x3584x8192, .fp8e4m3⟩
  | .hbm, ⟨3, _⟩ => ⟨S4x3584x256, .i8⟩
  | .hbm, ⟨4, _⟩ => ⟨S1x3584, .f32⟩
  | .local _ .vmem, ⟨0, _⟩ => ⟨S1x4096x512, .fp8e4m3⟩
  | .local _ .vmem, ⟨1, _⟩ => ⟨S1x4096x512, .fp8e4m3⟩
  | .local _ .vmem, ⟨2, _⟩ => ⟨S1x4096x112, .i8⟩
  | .local _ .vmem, ⟨3, _⟩ => ⟨S1x4096x112, .i8⟩
  | .local _ .vmem, ⟨4, _⟩ => ⟨S1x512x4096, .fp8e4m3⟩
  | .local _ .vmem, ⟨5, _⟩ => ⟨S1x512x4096, .fp8e4m3⟩
  | .local _ .vmem, ⟨6, _⟩ => ⟨S1x512x128, .i8⟩
  | .local _ .vmem, ⟨7, _⟩ => ⟨S1x512x128, .i8⟩
  | .local _ .vmem, ⟨8, _⟩ => ⟨S1x3584, .f32⟩
  | .local _ .vmem, ⟨9, _⟩ => ⟨S4096x128, .bf16⟩
  | .local _ .vmem, ⟨10, _⟩ => ⟨S128x4096, .bf16⟩
  | .local _ .vmem, ⟨11, _⟩ => ⟨S256x256, .fp8e4m3⟩
  | .local _ .vmem, ⟨12, _⟩ => ⟨S4x72x128, .i32⟩
  | .local _ .vmem, ⟨13, _⟩ => ⟨S4x8x128, .i32⟩
  | .local _ .vmem, ⟨14, _⟩ => ⟨S256x512, .fp8e4m3⟩
  | .local _ .vmem, ⟨15, _⟩ => ⟨S128x512, .i32⟩
  | .local _ .vmem, ⟨16, _⟩ => ⟨S7x16x512, .f32⟩
  | _, _ => ⟨S4x8192x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [BitOps F]

abbrev grid0 : Pipeline.Grid := ⟨3, ![4, 2, 7], ![false, false, false]⟩

def k0_cond2 (i : grid0.Coords) : BitVec 1 :=
  let arg0 : BitVec 32 := BitVec.ofNat 32 (i 0).val
  let c0_i32_3 : BitVec 32 := 0#32
  let v7 : BitVec 1 := Scalar.cmpi .eq arg0 c0_i32_3
  let arg1 : BitVec 32 := BitVec.ofNat 32 (i 1).val
  let c0_i32_4 : BitVec 32 := 0#32
  let v8 : BitVec 1 := Scalar.cmpi .eq arg1 c0_i32_4
  let v9 : BitVec 1 := Scalar.andi v7 v8
  let v10 : BitVec 32 := Scalar.extui v9
  let c0_i32_5 : BitVec 32 := 0#32
  let v11 : BitVec 1 := Scalar.cmpi .ne v10 c0_i32_5
  v11

def k0_off1 (i : grid0.Coords) : Fin 3 → Nat :=
  let arg2 : BitVec 32 := BitVec.ofNat 32 (i 2).val
  let v28 : Index := Scalar.indexCast arg2
  let c0_16 : Index := 0#32
  let c0_17 : Index := 0#32
  ![v28.toNat, 0, 0]
def k0_cond3 (i : grid0.Coords) : BitVec 1 :=
  let arg2 : BitVec 32 := BitVec.ofNat 32 (i 2).val
  let c0_i32_6 : BitVec 32 := 0#32
  let v12 : BitVec 1 := Scalar.cmpi .eq arg2 c0_i32_6
  let v13 : BitVec 32 := Scalar.extui v12
  let c0_i32_7 : BitVec 32 := 0#32
  let v14 : BitVec 1 := Scalar.cmpi .ne v13 c0_i32_7
  v14

@[reducible] def k0_t1_loop : Scf.Loop 32 :=
  let c0_i32_16 : BitVec 32 := 0#32
  let c16_i32_17 : BitVec 32 := 16#32
  let v27 : BitVec 32 := Scalar.addi c0_i32_16 c16_i32_17
  let c1_i32_18 : BitVec 32 := 1#32
  ⟨c0_i32_16, v27, c1_i32_18⟩
def k0_off2 (k0_t1 : Fin k0_t1_loop.trips) : Fin 3 → Nat :=
  let c0_20 : Index := 0#32
  let c0_i32_16 : BitVec 32 := 0#32
  let c1_i32_18 : BitVec 32 := 1#32
  let arg16 : BitVec 32 := Scf.iv c0_i32_16 c1_i32_18 k0_t1
  let c256_i32 : BitVec 32 := 256#32
  let v28 : BitVec 32 := Scalar.muli arg16 c256_i32
  let v29 : Index := Scalar.indexCast v28
  let c0_21 : Index := 0#32
  ![0, v29.toNat, 0]
def k0_off3 (k0_t1 : Fin k0_t1_loop.trips) : Fin 2 → Nat :=
  let c0_i32_16 : BitVec 32 := 0#32
  let c1_i32_18 : BitVec 32 := 1#32
  let arg16 : BitVec 32 := Scf.iv c0_i32_16 c1_i32_18 k0_t1
  let c256_i32_22 : BitVec 32 := 256#32
  let v39 : BitVec 32 := Scalar.muli arg16 c256_i32_22
  let v40 : Index := Scalar.indexCast v39
  let c0_23 : Index := 0#32
  ![v40.toNat, 0]
def k0_off4 (k0_t1 : Fin k0_t1_loop.trips) : Fin 2 → Nat :=
  let c0_25 : Index := 0#32
  let c0_i32_16 : BitVec 32 := 0#32
  let c1_i32_18 : BitVec 32 := 1#32
  let arg16 : BitVec 32 := Scf.iv c0_i32_16 c1_i32_18 k0_t1
  let c256_i32_24 : BitVec 32 := 256#32
  let v46 : BitVec 32 := Scalar.muli arg16 c256_i32_24
  let v47 : Index := Scalar.indexCast v46
  ![0, v47.toNat]
@[reducible] def k0_t2_loop : Scf.Loop 32 :=
  let c0_i32_8 : BitVec 32 := 0#32
  let c16_i32 : BitVec 32 := 16#32
  let v15 : BitVec 32 := Scalar.addi c0_i32_8 c16_i32
  let c1_i32 : BitVec 32 := 1#32
  ⟨c0_i32_8, v15, c1_i32⟩
def k0_mult1 (k0_t2 : Fin k0_t2_loop.trips) : BitVec 32 :=
  let c0_i32_8 : BitVec 32 := 0#32
  let c1_i32 : BitVec 32 := 1#32
  let arg16 : BitVec 32 := Scf.iv c0_i32_8 c1_i32 k0_t2
  let c256_i32 : BitVec 32 := 256#32
  let v27 : BitVec 32 := Scalar.muli arg16 c256_i32
  v27
def k0_mult2 (i : grid0.Coords) : BitVec 32 :=
  let arg2 : BitVec 32 := BitVec.ofNat 32 (i 2).val
  let c16_i32_16 : BitVec 32 := 16#32
  let v29 : BitVec 32 := Scalar.muli arg2 c16_i32_16
  v29
def k0_off5 (i : grid0.Coords) (k0_t2 : Fin k0_t2_loop.trips) : Fin 2 → Nat :=
  let arg2 : BitVec 32 := BitVec.ofNat 32 (i 2).val
  let c16_i32_16 : BitVec 32 := 16#32
  let v29 : BitVec 32 := Scalar.muli arg2 c16_i32_16
  let v30 : BitVec 32 := v29
  let v31 : Index := Scalar.indexCast v30
  let c0_i32_8 : BitVec 32 := 0#32
  let c1_i32 : BitVec 32 := 1#32
  let arg16 : BitVec 32 := Scf.iv c0_i32_8 c1_i32 k0_t2
  let c256_i32 : BitVec 32 := 256#32
  let v27 : BitVec 32 := Scalar.muli arg16 c256_i32
  let v28 : BitVec 32 := v27
  let v32 : Index := Scalar.indexCast v28
  ![v31.toNat, v32.toNat]
def k0_off6 (k0_t2 : Fin k0_t2_loop.trips) : Fin 2 → Nat :=
  let c0_i32_8 : BitVec 32 := 0#32
  let c1_i32 : BitVec 32 := 1#32
  let arg16 : BitVec 32 := Scf.iv c0_i32_8 c1_i32 k0_t2
  let c256_i32 : BitVec 32 := 256#32
  let v27 : BitVec 32 := Scalar.muli arg16 c256_i32
  let v28 : BitVec 32 := v27
  let v34 : Index := Scalar.indexCast v28
  let c0_17 : Index := 0#32
  ![v34.toNat, 0]
def k0_off7 (k0_t2 : Fin k0_t2_loop.trips) : Fin 2 → Nat :=
  let c0_i32_8 : BitVec 32 := 0#32
  let c1_i32 : BitVec 32 := 1#32
  let arg16 : BitVec 32 := Scf.iv c0_i32_8 c1_i32 k0_t2
  let c256_i32 : BitVec 32 := 256#32
  let v27 : BitVec 32 := Scalar.muli arg16 c256_i32
  let v28 : BitVec 32 := v27
  let v77 : Index := Scalar.indexCast v28
  let c0_30 : Index := 0#32
  ![v77.toNat, 0]
def k0_off8 (k0_t2 : Fin k0_t2_loop.trips) : Fin 2 → Nat :=
  let c0_i32_8 : BitVec 32 := 0#32
  let c1_i32 : BitVec 32 := 1#32
  let arg16 : BitVec 32 := Scf.iv c0_i32_8 c1_i32 k0_t2
  let c8_i32_80 : BitVec 32 := 8#32
  let v245 : BitVec 32 := Scalar.muli arg16 c8_i32_80
  let v246 : Index := Scalar.indexCast v245
  let c0_81 : Index := 0#32
  ![v246.toNat, 0]
def k0_off9 (k0_t2 : Fin k0_t2_loop.trips) : Fin 2 → Nat :=
  let c0_i32_8 : BitVec 32 := 0#32
  let c1_i32 : BitVec 32 := 1#32
  let arg16 : BitVec 32 := Scf.iv c0_i32_8 c1_i32 k0_t2
  let c256_i32 : BitVec 32 := 256#32
  let v27 : BitVec 32 := Scalar.muli arg16 c256_i32
  let v28 : BitVec 32 := v27
  let v471 : Index := Scalar.indexCast v28
  let c128_150 : Index := 128#32
  ![v471.toNat, 128]
def k0_off10 (k0_t2 : Fin k0_t2_loop.trips) : Fin 2 → Nat :=
  let c0_i32_8 : BitVec 32 := 0#32
  let c1_i32 : BitVec 32 := 1#32
  let arg16 : BitVec 32 := Scf.iv c0_i32_8 c1_i32 k0_t2
  let c8_i32_223 : BitVec 32 := 8#32
  let v639 : BitVec 32 := Scalar.muli arg16 c8_i32_223
  let v640 : Index := Scalar.indexCast v639
  let c128_224 : Index := 128#32
  ![v640.toNat, 128]
def k0_off11 (k0_t2 : Fin k0_t2_loop.trips) : Fin 2 → Nat :=
  let c0_i32_8 : BitVec 32 := 0#32
  let c1_i32 : BitVec 32 := 1#32
  let arg16 : BitVec 32 := Scf.iv c0_i32_8 c1_i32 k0_t2
  let c256_i32 : BitVec 32 := 256#32
  let v27 : BitVec 32 := Scalar.muli arg16 c256_i32
  let v28 : BitVec 32 := v27
  let v865 : Index := Scalar.indexCast v28
  let c256 : Index := 256#32
  ![v865.toNat, 256]
def k0_off12 (k0_t2 : Fin k0_t2_loop.trips) : Fin 2 → Nat :=
  let c0_i32_8 : BitVec 32 := 0#32
  let c1_i32 : BitVec 32 := 1#32
  let arg16 : BitVec 32 := Scf.iv c0_i32_8 c1_i32 k0_t2
  let c8_i32_374 : BitVec 32 := 8#32
  let v1033 : BitVec 32 := Scalar.muli arg16 c8_i32_374
  let v1034 : Index := Scalar.indexCast v1033
  let c256_375 : Index := 256#32
  ![v1034.toNat, 256]
def k0_off13 (k0_t2 : Fin k0_t2_loop.trips) : Fin 2 → Nat :=
  let c0_i32_8 : BitVec 32 := 0#32
  let c1_i32 : BitVec 32 := 1#32
  let arg16 : BitVec 32 := Scf.iv c0_i32_8 c1_i32 k0_t2
  let c256_i32 : BitVec 32 := 256#32
  let v27 : BitVec 32 := Scalar.muli arg16 c256_i32
  let v28 : BitVec 32 := v27
  let v1259 : Index := Scalar.indexCast v28
  let c384 : Index := 384#32
  ![v1259.toNat, 384]
def k0_off14 (k0_t2 : Fin k0_t2_loop.trips) : Fin 2 → Nat :=
  let c0_i32_8 : BitVec 32 := 0#32
  let c1_i32 : BitVec 32 := 1#32
  let arg16 : BitVec 32 := Scf.iv c0_i32_8 c1_i32 k0_t2
  let c8_i32_524 : BitVec 32 := 8#32
  let v1427 : BitVec 32 := Scalar.muli arg16 c8_i32_524
  let v1428 : Index := Scalar.indexCast v1427
  let c384_525 : Index := 384#32
  ![v1428.toNat, 384]
def k0_off15 (i : grid0.Coords) : Fin 3 → Nat :=
  let arg2 : BitVec 32 := BitVec.ofNat 32 (i 2).val
  let v1610 : Index := Scalar.indexCast arg2
  let c0_588 : Index := 0#32
  let c0_589 : Index := 0#32
  ![v1610.toNat, 0, 0]
def k0_off16 (k0_t2 : Fin k0_t2_loop.trips) : Fin 3 → Nat :=
  let c0_590 : Index := 0#32
  let c0_i32_8 : BitVec 32 := 0#32
  let c1_i32 : BitVec 32 := 1#32
  let arg16 : BitVec 32 := Scf.iv c0_i32_8 c1_i32 k0_t2
  let c256_i32 : BitVec 32 := 256#32
  let v27 : BitVec 32 := Scalar.muli arg16 c256_i32
  let v28 : BitVec 32 := v27
  let v1613 : Index := Scalar.indexCast v28
  let c0_591 : Index := 0#32
  ![0, v1613.toNat, 0]
def k0_off17 (k0_t2 : Fin k0_t2_loop.trips) : Fin 3 → Nat :=
  let c0_600 : Index := 0#32
  let c0_601 : Index := 0#32
  let c0_i32_8 : BitVec 32 := 0#32
  let c1_i32 : BitVec 32 := 1#32
  let arg16 : BitVec 32 := Scf.iv c0_i32_8 c1_i32 k0_t2
  let c256_i32 : BitVec 32 := 256#32
  let v27 : BitVec 32 := Scalar.muli arg16 c256_i32
  let v28 : BitVec 32 := v27
  let v1626 : Index := Scalar.indexCast v28
  ![0, 0, v1626.toNat]
def k0_off18 (i : grid0.Coords) : Fin 3 → Nat :=
  let arg2 : BitVec 32 := BitVec.ofNat 32 (i 2).val
  let v1630 : Index := Scalar.indexCast arg2
  let c0_602 : Index := 0#32
  let c256_603 : Index := 256#32
  ![v1630.toNat, 0, 256]
def k0_off19 (k0_t2 : Fin k0_t2_loop.trips) : Fin 3 → Nat :=
  let c0_604 : Index := 0#32
  let c0_i32_8 : BitVec 32 := 0#32
  let c1_i32 : BitVec 32 := 1#32
  let arg16 : BitVec 32 := Scf.iv c0_i32_8 c1_i32 k0_t2
  let c256_i32 : BitVec 32 := 256#32
  let v27 : BitVec 32 := Scalar.muli arg16 c256_i32
  let v28 : BitVec 32 := v27
  let v1633 : Index := Scalar.indexCast v28
  let c256_605 : Index := 256#32
  ![0, v1633.toNat, 256]
def k0_off20 (k0_t2 : Fin k0_t2_loop.trips) : Fin 3 → Nat :=
  let c0_614 : Index := 0#32
  let c256_615 : Index := 256#32
  let c0_i32_8 : BitVec 32 := 0#32
  let c1_i32 : BitVec 32 := 1#32
  let arg16 : BitVec 32 := Scf.iv c0_i32_8 c1_i32 k0_t2
  let c256_i32 : BitVec 32 := 256#32
  let v27 : BitVec 32 := Scalar.muli arg16 c256_i32
  let v28 : BitVec 32 := v27
  let v1646 : Index := Scalar.indexCast v28
  ![0, 256, v1646.toNat]
def k0_cond4 (i : grid0.Coords) : BitVec 1 :=
  let arg0 : BitVec 32 := BitVec.ofNat 32 (i 0).val
  let c3_i32 : BitVec 32 := 3#32
  let v22 : BitVec 1 := Scalar.cmpi .eq arg0 c3_i32
  let arg1 : BitVec 32 := BitVec.ofNat 32 (i 1).val
  let c1_i32_14 : BitVec 32 := 1#32
  let v23 : BitVec 1 := Scalar.cmpi .eq arg1 c1_i32_14
  let v24 : BitVec 1 := Scalar.andi v22 v23
  let v25 : BitVec 32 := Scalar.extui v24
  let c0_i32_15 : BitVec 32 := 0#32
  let v26 : BitVec 1 := Scalar.cmpi .ne v25 c0_i32_15
  v26

def k0_off21 (i : grid0.Coords) : Fin 3 → Nat :=
  let arg2 : BitVec 32 := BitVec.ofNat 32 (i 2).val
  let v54 : Index := Scalar.indexCast arg2
  let c0_22 : Index := 0#32
  let c0_23 : Index := 0#32
  ![v54.toNat, 0, 0]
def k0_mult3 (i : grid0.Coords) : BitVec 32 :=
  let arg2 : BitVec 32 := BitVec.ofNat 32 (i 2).val
  let c512_i32 : BitVec 32 := 512#32
  let v61 : BitVec 32 := Scalar.muli arg2 c512_i32
  v61
def k0_off22 (i : grid0.Coords) : Fin 2 → Nat :=
  let c0_25 : Index := 0#32
  let arg2 : BitVec 32 := BitVec.ofNat 32 (i 2).val
  let c512_i32 : BitVec 32 := 512#32
  let v61 : BitVec 32 := Scalar.muli arg2 c512_i32
  let v62 : BitVec 32 := v61
  let v63 : Index := Scalar.indexCast v62
  ![0, v63.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x112 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]
-- ==== KernelIdeal.lean ====
abbrev S4x72x2x128 : Shape := ⟨4, ![4, 72, 2, 128]⟩
abbrev S4x72x1x128 : Shape := ⟨4, ![4, 72, 1, 128]⟩
abbrev S1x8x2x128 : Shape := ⟨4, ![1, 8, 2, 128]⟩
abbrev S1x8x1x128 : Shape := ⟨4, ![1, 8, 1, 128]⟩
  | .local _ .vmem, ⟨12, _⟩ => ⟨S4x72x2x128, .bf16⟩
variable {F : FTy → Type} [FloatOps F]
-- ==== ReferenceIdeal.lean ====
abbrev S4x8192x3584 : Shape := ⟨3, ![4, 8192, 3584]⟩
abbrev S4x8192x112 : Shape := ⟨3, ![4, 8192, 112]⟩
abbrev S4x3584x8192 : Shape := ⟨3, ![4, 3584, 8192]⟩
abbrev S4x3584x256 : Shape := ⟨3, ![4, 3584, 256]⟩
abbrev S1x3584 : Shape := ⟨2, ![1, 3584]⟩
abbrev S4x8192x112x32 : Shape := ⟨4, ![4, 8192, 112, 32]⟩
abbrev S4x8192x112x1 : Shape := ⟨4, ![4, 8192, 112, 1]⟩
abbrev S3584 : Shape := ⟨1, ![3584]⟩
abbrev S4x3584x256x32 : Shape := ⟨4, ![4, 3584, 256, 32]⟩
abbrev S4x3584x256x254 : Shape := ⟨4, ![4, 3584, 256, 254]⟩
abbrev S4x3584x256x1 : Shape := ⟨4, ![4, 3584, 256, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x8192x3584, .fp8e4m3⟩
  | .hbm, ⟨1, _⟩ => ⟨S4x8192x112, .i8⟩
  | .hbm, ⟨2, _⟩ => ⟨S4x3584x8192, .fp8e4m3⟩
  | .hbm, ⟨3, _⟩ => ⟨S4x3584x256, .i8⟩
  | .hbm, ⟨4, _⟩ => ⟨S1x3584, .f32⟩
  | .local _ .vmem, ⟨0, _⟩ => ⟨S4x8192x3584, .fp8e4m3⟩
  | .local _ .vmem, ⟨1, _⟩ => ⟨S4x8192x112, .i8⟩
  | .local _ .vmem, ⟨2, _⟩ => ⟨S4x3584x8192, .fp8e4m3⟩
  | .local _ .vmem, ⟨3, _⟩ => ⟨S4x3584x256, .i8⟩
  | .local _ .vmem, ⟨4, _⟩ => ⟨S1x3584, .f32⟩
  | _, _ => ⟨S4x8192x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4x8192x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8192x112 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x3584x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x3584x256 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.BodyKernel.lean ====
module

public import proofs.«01_k».proof.Proof.Gen.Kernel.Frame
public import proofs.«01_k».proof.Proof.Gen.Kernel.Loops
public import proofs.«01_k».proof.Proof.Gen.Kernel.Skeleton
public import Idealize.ShloMosaic.Lib.Pipeline.Frame
public import Idealize.ShloMosaic.Lib.Tactic

@[expose] public section

set_option maxRecDepth 8192
set_option maxHeartbeats 8000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

/-- One trip of the row-group loop: from every buffer the trip touches at known contents, it runs to its end and hands
    them back, the ones it only reads unchanged, the ones it stores into at some contents. -/
theorem trip (𝒱 : Variants) (c : Dev nD) (bd : Option 𝒱.V) (E : Set ℕ) (i : grid0.Coords) (arg3 : Memref sig .tc .vmem S1x4096x512 .fp8e4m3) (harg3 : arg3.IsWhole) (arg4 : Memref sig .tc .vmem S1x4096x112 .i8) (harg4 : arg4.IsWhole) (arg5 : Memref sig .tc .vmem S1x512x4096 .fp8e4m3) (harg5 : arg5.IsWhole) (arg6 : Memref sig .tc .vmem S1x512x128 .i8) (harg6 : arg6.IsWhole) (arg7 : Memref sig .tc .vmem S1x3584 .f32) (harg7 : arg7.IsWhole) (arg8 : Memref sig .tc .vmem S4096x128 .bf16) (harg8 : arg8.IsWhole) (arg9 : Memref sig .tc .vmem S128x4096 .bf16) (harg9 : arg9.IsWhole) (arg10 : Memref sig .tc .vmem S256x256 .fp8e4m3) (harg10 : arg10.IsWhole) (arg11 : Memref sig .tc .vmem S4x72x128 .i32) (harg11 : arg11.IsWhole) (arg12 : Memref sig .tc .vmem S4x8x128 .i32) (harg12 : arg12.IsWhole) (arg13 : Memref sig .tc .vmem S256x512 .fp8e4m3) (harg13 : arg13.IsWhole) (arg14 : Memref sig .tc .vmem S128x512 .i32) (harg14 : arg14.IsWhole) (arg15 : Memref sig .tc .vmem S7x16x512 .f32) (harg15 : arg15.IsWhole) (arg2 : BitVec 32)
   (k : Fin k0_t2_loop.trips) (f_arg3 : BufTy.Contents (Elt F) arg3.view.ty) (f_arg5 : BufTy.Contents (Elt F) arg5.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) :
   (iprop((arg3.view.loc (c : Thread nD τ) ↦[arg3.view.set]{fullShare} f_arg3) ∗ (arg5.view.loc (c : Thread nD τ) ↦[arg5.view.set]{fullShare} f_arg5) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15)) : sProp 𝕄)
   ⊢ wp frame (wpE (defs₀ (F := F)) 𝒱 (c : Thread nD τ) bd) E (k0_t2_body (F := F) i arg3 harg3 arg4 harg4 arg5 harg5 arg6 harg6 arg7 harg7 arg8 harg8 arg9 harg9 arg10 harg10 arg11 harg11 arg12 harg12 arg13 harg13 arg14 harg14 arg15 harg15 arg2 k PUnit.unit)
     (fun _ => iprop((arg3.view.loc (c : Thread nD τ) ↦[arg3.view.set]{fullShare} f_arg3) ∗ (∃ f, (arg5.view.loc (c : Thread nD τ) ↦[arg5.view.set]{fullShare} f)) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))) := by
  have hk : k.val < 16 := Nat.lt_of_lt_of_le k.isLt k0_t2_abs.2.1
  unfold k0_t2_body
  iintro ⟨Harg3, Harg5, Harg8, Harg9, Harg10, Harg11, Harg12, Harg13, Harg14, Harg15⟩
  sl_exec
  sl_step
  isplitl [Harg3]; · iexact Harg3
  isplitl [Harg5]; · iexists _; iexact Harg5
  isplitl [Harg8]; · iexact Harg8
  isplitl [Harg9]; · iexact Harg9
  isplitl [Harg10]; · iexact Harg10
  isplitl [Harg11]; · iexists _; iexact Harg11
  isplitl [Harg12]; · iexists _; iexact Harg12
  isplitl [Harg13]; · iexists _; iexact Harg13
  isplitl [Harg14]; · iexists _; iexact Harg14
  iexists _; iexact Harg15

/-- The row-group loop's invariant: the buffers it reads at their contents, the ones it writes at any. -/
@[sl_loop] def loopInv_k0_t2 (c : Dev nD) (i : grid0.Coords) (arg3 : Memref sig .tc .vmem S1x4096x512 .fp8e4m3) (harg3 : arg3.IsWhole) (arg4 : Memref sig .tc .vmem S1x4096x112 .i8) (harg4 : arg4.IsWhole) (arg5 : Memref sig .tc .vmem S1x512x4096 .fp8e4m3) (harg5 : arg5.IsWhole) (arg6 : Memref sig .tc .vmem S1x512x128 .i8) (harg6 : arg6.IsWhole) (arg7 : Memref sig .tc .vmem S1x3584 .f32) (harg7 : arg7.IsWhole) (arg8 : Memref sig .tc .vmem S4096x128 .bf16) (harg8 : arg8.IsWhole) (arg9 : Memref sig .tc .vmem S128x4096 .bf16) (harg9 : arg9.IsWhole) (arg10 : Memref sig .tc .vmem S256x256 .fp8e4m3) (harg10 : arg10.IsWhole) (arg11 : Memref sig .tc .vmem S4x72x128 .i32) (harg11 : arg11.IsWhole) (arg12 : Memref sig .tc .vmem S4x8x128 .i32) (harg12 : arg12.IsWhole) (arg13 : Memref sig .tc .vmem S256x512 .fp8e4m3) (harg13 : arg13.IsWhole) (arg14 : Memref sig .tc .vmem S128x512 .i32) (harg14 : arg14.IsWhole) (arg15 : Memref sig .tc .vmem S7x16x512 .f32) (harg15 : arg15.IsWhole) (arg2 : BitVec 32) (f_arg3 : BufTy.Contents (Elt F) arg3.view.ty) (f_arg8 : BufTy.Contents (Elt F) arg8.view.ty) (f_arg9 : BufTy.Contents (Elt F) arg9.view.ty) (f_arg10 : BufTy.Contents (Elt F) arg10.view.ty) :
    LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg2 where
  inv := fun _ _ => iprop((arg3.view.loc (c : Thread nD τ) ↦[arg3.view.set]{fullShare} f_arg3) ∗ (∃ f, (arg5.view.loc (c : Thread nD τ) ↦[arg5.view.set]{fullShare} f)) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))
  step := fun k acc => by
    iintro ⟨Harg3, ⟨%f_arg5, Harg5⟩, Harg8, Harg9, Harg10, ⟨%f_arg11, Harg11⟩, ⟨%f_arg12, Harg12⟩, ⟨%f_arg13, Harg13⟩, ⟨%f_arg14, Harg14⟩, ⟨%f_arg15, Harg15⟩⟩
    iapply (trip Variants.none c none Set.univ i arg3 harg3 arg4 harg4 arg5 harg5 arg6 harg6 arg7 harg7 arg8 harg8 arg9 harg9 arg10 harg10 arg11 harg11 arg12 harg12 arg13 harg13 arg14 harg14 arg15 harg15 arg2 k f_arg3 f_arg5 f_arg8 f_arg9 f_arg10 f_arg11 f_arg12 f_arg13 f_arg14 f_arg15)
    isplitl [Harg3]; · iexact Harg3
    isplitl [Harg5]; · iexact Harg5
    isplitl [Harg8]; · iexact Harg8
    isplitl [Harg9]; · iexact Harg9
    isplitl [Harg10]; · iexact Harg10
    isplitl [Harg11]; · iexact Harg11
    isplitl [Harg12]; · iexact Harg12
    isplitl [Harg13]; · iexact Harg13
    isplitl [Harg14]; · iexact Harg14
    iexact Harg15

/-- The kernel's body at a grid point: from the two input blocks and every other buffer at any contents it runs to its
    return, leaving the input blocks as they were. -/
theorem bodyRun (c : Dev nD) (i : grid0.Coords) (arg3 : Memref sig .tc .vmem S1x4096x512 .fp8e4m3) (harg3 : arg3.IsWhole) (arg4 : Memref sig .tc .vmem S1x4096x112 .i8) (harg4 : arg4.IsWhole) (arg5 : Memref sig .tc .vmem S1x512x4096 .fp8e4m3) (harg5 : arg5.IsWhole) (arg6 : Memref sig .tc .vmem S1x512x128 .i8) (harg6 : arg6.IsWhole) (arg7 : Memref sig .tc .vmem S1x3584 .f32) (harg7 : arg7.IsWhole) (arg8 : Memref sig .tc .vmem S4096x128 .bf16) (harg8 : arg8.IsWhole) (arg9 : Memref sig .tc .vmem S128x4096 .bf16) (harg9 : arg9.IsWhole) (arg10 : Memref sig .tc .vmem S256x256 .fp8e4m3) (harg10 : arg10.IsWhole) (arg11 : Memref sig .tc .vmem S4x72x128 .i32) (harg11 : arg11.IsWhole) (arg12 : Memref sig .tc .vmem S4x8x128 .i32) (harg12 : arg12.IsWhole) (arg13 : Memref sig .tc .vmem S256x512 .fp8e4m3) (harg13 : arg13.IsWhole) (arg14 : Memref sig .tc .vmem S128x512 .i32) (harg14 : arg14.IsWhole) (arg15 : Memref sig .tc .vmem S7x16x512 .f32) (harg15 : arg15.IsWhole) (f_arg3 : BufTy.Contents (Elt F) arg3.view.ty) (f_arg4 : BufTy.Contents (Elt F) arg4.view.ty) (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) :
   (iprop((arg3.view.loc (c : Thread nD τ) ↦[arg3.view.set]{fullShare} f_arg3) ∗ (arg4.view.loc (c : Thread nD τ) ↦[arg4.view.set]{fullShare} f_arg4) ∗ (arg5.view.loc (c : Thread nD τ) ↦[arg5.view.set]{fullShare} f_arg5) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15)) : sProp 𝕄)
   ⊢ wp frame (wpE (defs₀ (F := F)) Variants.none (c : Thread nD τ) none) Set.univ (cc0_requant (F := F) i arg3 harg3 arg4 harg4 arg5 harg5 arg6 harg6 arg7 harg7 arg8 harg8 arg9 harg9 arg10 harg10 arg11 harg11 arg12 harg12 arg13 harg13 arg14 harg14 arg15 harg15)
     (fun _ => iprop((arg3.view.loc (c : Thread nD τ) ↦[arg3.view.set]{fullShare} f_arg3) ∗ (arg4.view.loc (c : Thread nD τ) ↦[arg4.view.set]{fullShare} f_arg4) ∗ (∃ f, (arg5.view.loc (c : Thread nD τ) ↦[arg5.view.set]{fullShare} f)) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))) := by
  simp only [cc0_requant_eq_skeleton]; unfold cc0_requant_skel
  iintro ⟨Harg3, Harg4, Harg5, Harg6, Harg7, Harg8, Harg9, Harg10, Harg11, Harg12, Harg13, Harg14, Harg15⟩
  by_cases hc3 : k0_cond3 i = 1#1 <;>
  ( sl_exec (disch := sl_exact hc3)
    sl_step
    isplitl [Harg3]; · iexact Harg3
    isplitl [Harg4]; · iexact Harg4
    isplitl [Harg5]; · iexists _; iexact Harg5
    isplitl [Harg6]; · iexists _; iexact Harg6
    isplitl [Harg7]; · iexists _; iexact Harg7
    isplitl [Harg8]; · iexists _; iexact Harg8
    isplitl [Harg9]; · iexists _; iexact Harg9
    isplitl [Harg10]; · iexists _; iexact Harg10
    isplitl [Harg11]; · iexists _; iexact Harg11
    isplitl [Harg12]; · iexists _; iexact Harg12
    isplitl [Harg13]; · iexists _; iexact Harg13
    isplitl [Harg14]; · iexists _; iexact Harg14
    iexists _; iexact Harg15)

end Cert.Kernel.Hand
end
-- ==== Proof.FrameKernel.lean ====
module

public import proofs.«01_k».proof.Proof.BodyKernel

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The invariant between two grid points: the eight scratch buffers at some contents, the generator register at some
    state. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

/-- The windows nothing is claimed of: the three outputs. -/
def forgets0 : Fin 5 → Bool := ![false, false, true, true, true]

/-- The proof data on a core: the arrays as the region finds them; the two inputs' blocks left in place; what the body
    leaves in the outputs unnamed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => Pipeline.Dat.unnamed (cfg := cfg0) 2 t
    | 3 => Pipeline.Dat.unnamed (cfg := cfg0) 3 t
    | 4 => Pipeline.Dat.unnamed (cfg := cfg0) 4 t
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d)
    ∗ (∃ d, owns (c : Thread nD τ) (st0_3 t) fullShare d)
    ∗ (∃ d, owns (c : Thread nD τ) (st0_4 t) fullShare d))
/-- What the body returns at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare d)
    ∗ (∃ d, owns (c : Thread nD τ) (st0_3 t) fullShare d)
    ∗ (∃ d, owns (c : Thread nD τ) (st0_4 t) fullShare d))

/-- The body at a grid point: the scratch and the outputs opened, `bodyRun`, everything closed again. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, PhiA_eq]
  simp only [before0_0_of m (dats m 0 c) (A_eq m c 0) (fun _ => rfl), before0_1_of m (dats m 0 c) (A_eq m c 1) (fun _ => rfl)]
  rw [show (dats m 0 c).after 0 t = iblk m c 0 t from rfl, show (dats m 0 c).after 1 t = iblk m c 1 t from rfl]
  unfold owns
  iintro ⟨⟨⟨⟨%darg8, %farg8, -, Harg8⟩, ⟨%darg9, %farg9, -, Harg9⟩, ⟨%darg10, %farg10, -, Harg10⟩, ⟨%darg11, %farg11, -, Harg11⟩, ⟨%darg12, %farg12, -, Harg12⟩, ⟨%darg13, %farg13, -, Harg13⟩, ⟨%darg14, %farg14, -, Harg14⟩, ⟨%darg15, %farg15, -, Harg15⟩⟩, Hg⟩, HO, ⟨%d3, %farg3, %h3, Harg3⟩, ⟨%d4, %farg4, %h4, Harg4⟩, ⟨%darg5, %farg5, -, Harg5⟩, ⟨%darg6, %farg6, -, Harg6⟩, ⟨%darg7, %farg7, -, Harg7⟩⟩
  iapply (wp_wand_r frame (wpE (defs₀ (F := F)) Variants.none (c : Thread nD τ) none) Set.univ)
  isplitl [Harg3 Harg4 Harg5 Harg6 Harg7 Harg8 Harg9 Harg10 Harg11 Harg12 Harg13 Harg14 Harg15]
  · iapply (bodyRun c (grid0.coords t) _ _ _ _ _ _ _ _ _ _ _ _ _ _ _ _ _ _ _ _ _ _ _ _ _ _ farg3 farg4 farg5 farg6 farg7 farg8 farg9 farg10 farg11 farg12 farg13 farg14 farg15)
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg10]; · iexact Harg10
    isplitl [Harg11]; · iexact Harg11
    isplitl [Harg12]; · iexact Harg12
    isplitl [Harg13]; · iexact Harg13
    isplitl [Harg14]; · iexact Harg14
    iexact Harg15
  iintro %_ ⟨Harg3, Harg4, ⟨%garg5, Harg5⟩, ⟨%garg6, Harg6⟩, ⟨%garg7, Harg7⟩, ⟨%garg8, Harg8⟩, ⟨%garg9, Harg9⟩, ⟨%garg10, Harg10⟩, ⟨%garg11, Harg11⟩, ⟨%garg12, Harg12⟩, ⟨%garg13, Harg13⟩, ⟨%garg14, Harg14⟩, ⟨%garg15, Harg15⟩⟩
  isplitl [Harg8 Harg9 Harg10 Harg11 Harg12 Harg13 Harg14 Harg15 Hg]
  · isplitr [Hg]
    · isplitl [Harg8]
      · iexists _, _; isplitr; swap; · iexact Harg8
        ipureintro; rfl
      isplitl [Harg9]
      · iexists _, _; isplitr; swap; · iexact Harg9
        ipureintro; rfl
      isplitl [Harg10]
      · iexists _, _; isplitr; swap; · iexact Harg10
        ipureintro; rfl
      isplitl [Harg11]
      · iexists _, _; isplitr; swap; · iexact Harg11
        ipureintro; rfl
      isplitl [Harg12]
      · iexists _, _; isplitr; swap; · iexact Harg12
        ipureintro; rfl
      isplitl [Harg13]
      · iexists _, _; isplitr; swap; · iexact Harg13
        ipureintro; rfl
      isplitl [Harg14]
      · iexists _, _; isplitr; swap; · iexact Harg14
        ipureintro; rfl
      iexists _, _; isplitr; swap; · iexact Harg15
      ipureintro; rfl
    iexact Hg
  isplitl [HO]; · iexact HO
  isplitl [Harg3]
  · iexists _; isplitr; swap; · iexact Harg3
    ipureintro; exact h3
  isplitl [Harg4]
  · iexists _; isplitr; swap; · iexact Harg4
    ipureintro; exact h4
  isplitl [Harg5]
  · iexists _, _; isplitr; swap; · iexact Harg5
    ipureintro; rfl
  isplitl [Harg6]
  · iexists _, _; isplitr; swap; · iexact Harg6
    ipureintro; rfl
  iexists _, _; isplitr; swap; · iexact Harg7
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- From any memory with zero counters every weakly fair execution ends; the argument arrays end as they were and every
    semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The frame claim: every execution ends, the arguments unchanged, every semaphore counter at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1.arr_in c 0 rfl).trans (A_eq m c 0), (h.1.arr_in c 1 rfl).trans (A_eq m c 1)⟩, h.2⟩) (run_main m ρ)

end Cert.Kernel.Hand
end
-- ==== Proof.BodyKernelIdeal.lean ====
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.Frame
public import Idealize.ShloMosaic.Lib.Tactic

@[expose] public section

set_option maxRecDepth 8192
set_option maxHeartbeats 8000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- One trip of the row-group loop: from every buffer the trip touches at known contents, it runs to its end and hands
    them back, the ones it only reads unchanged, the ones it stores into at some contents. -/
theorem trip (𝒱 : Variants) (c : Dev nD) (bd : Option 𝒱.V) (E : Set ℕ) (i : grid0.Coords) (arg3 : Memref sig .tc .vmem S1x4096x512 .fp8e4m3) (harg3 : arg3.IsWhole) (arg4 : Memref sig .tc .vmem S1x4096x112 .i8) (harg4 : arg4.IsWhole) (arg5 : Memref sig .tc .vmem S1x512x4096 .fp8e4m3) (harg5 : arg5.IsWhole) (arg6 : Memref sig .tc .vmem S1x512x128 .i8) (harg6 : arg6.IsWhole) (arg7 : Memref sig .tc .vmem S1x3584 .f32) (harg7 : arg7.IsWhole) (arg8 : Memref sig .tc .vmem S4096x128 .bf16) (harg8 : arg8.IsWhole) (arg9 : Memref sig .tc .vmem S128x4096 .bf16) (harg9 : arg9.IsWhole) (arg10 : Memref sig .tc .vmem S256x256 .fp8e4m3) (harg10 : arg10.IsWhole) (arg11 : Memref sig .tc .vmem S4x72x2x128 .bf16) (harg11 : arg11.IsWhole) (arg12 : Memref sig .tc .vmem S4x8x128 .i32) (harg12 : arg12.IsWhole) (arg13 : Memref sig .tc .vmem S256x512 .fp8e4m3) (harg13 : arg13.IsWhole) (arg14 : Memref sig .tc .vmem S128x512 .i32) (harg14 : arg14.IsWhole) (arg15 : Memref sig .tc .vmem S7x16x512 .f32) (harg15 : arg15.IsWhole) (arg2 : BitVec 32)
   (k : Fin k0_t2_loop.trips) (f_arg3 : BufTy.Contents (Elt F) arg3.view.ty) (f_arg5 : BufTy.Contents (Elt F) arg5.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) :
   (iprop((arg3.view.loc (c : Thread nD τ) ↦[arg3.view.set]{fullShare} f_arg3) ∗ (arg5.view.loc (c : Thread nD τ) ↦[arg5.view.set]{fullShare} f_arg5) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15)) : sProp 𝕄)
   ⊢ wp frame (wpE (defs₀ (F := F)) 𝒱 (c : Thread nD τ) bd) E (k0_t2_body (F := F) i arg3 harg3 arg4 harg4 arg5 harg5 arg6 harg6 arg7 harg7 arg8 harg8 arg9 harg9 arg10 harg10 arg11 harg11 arg12 harg12 arg13 harg13 arg14 harg14 arg15 harg15 arg2 k PUnit.unit)
     (fun _ => iprop((arg3.view.loc (c : Thread nD τ) ↦[arg3.view.set]{fullShare} f_arg3) ∗ (∃ f, (arg5.view.loc (c : Thread nD τ) ↦[arg5.view.set]{fullShare} f)) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))) := by
  have hk : k.val < 16 := Nat.lt_of_lt_of_le k.isLt k0_t2_abs.2.1
  unfold k0_t2_body
  iintro ⟨Harg3, Harg5, Harg8, Harg9, Harg10, Harg11, Harg12, Harg13, Harg14, Harg15⟩
  sl_exec
  sl_step
  isplitl [Harg3]; · iexact Harg3
  isplitl [Harg5]; · iexists _; iexact Harg5
  isplitl [Harg8]; · iexact Harg8
  isplitl [Harg9]; · iexact Harg9
  isplitl [Harg10]; · iexact Harg10
  isplitl [Harg11]; · iexists _; iexact Harg11
  isplitl [Harg12]; · iexists _; iexact Harg12
  isplitl [Harg13]; · iexists _; iexact Harg13
  isplitl [Harg14]; · iexists _; iexact Harg14
  iexists _; iexact Harg15

/-- The row-group loop's invariant: the buffers it reads at their contents, the ones it writes at any. -/
@[sl_loop] def loopInv_k0_t2 (c : Dev nD) (i : grid0.Coords) (arg3 : Memref sig .tc .vmem S1x4096x512 .fp8e4m3) (harg3 : arg3.IsWhole) (arg4 : Memref sig .tc .vmem S1x4096x112 .i8) (harg4 : arg4.IsWhole) (arg5 : Memref sig .tc .vmem S1x512x4096 .fp8e4m3) (harg5 : arg5.IsWhole) (arg6 : Memref sig .tc .vmem S1x512x128 .i8) (harg6 : arg6.IsWhole) (arg7 : Memref sig .tc .vmem S1x3584 .f32) (harg7 : arg7.IsWhole) (arg8 : Memref sig .tc .vmem S4096x128 .bf16) (harg8 : arg8.IsWhole) (arg9 : Memref sig .tc .vmem S128x4096 .bf16) (harg9 : arg9.IsWhole) (arg10 : Memref sig .tc .vmem S256x256 .fp8e4m3) (harg10 : arg10.IsWhole) (arg11 : Memref sig .tc .vmem S4x72x2x128 .bf16) (harg11 : arg11.IsWhole) (arg12 : Memref sig .tc .vmem S4x8x128 .i32) (harg12 : arg12.IsWhole) (arg13 : Memref sig .tc .vmem S256x512 .fp8e4m3) (harg13 : arg13.IsWhole) (arg14 : Memref sig .tc .vmem S128x512 .i32) (harg14 : arg14.IsWhole) (arg15 : Memref sig .tc .vmem S7x16x512 .f32) (harg15 : arg15.IsWhole) (arg2 : BitVec 32) (f_arg3 : BufTy.Contents (Elt F) arg3.view.ty) (f_arg8 : BufTy.Contents (Elt F) arg8.view.ty) (f_arg9 : BufTy.Contents (Elt F) arg9.view.ty) (f_arg10 : BufTy.Contents (Elt F) arg10.view.ty) :
    LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg2 where
  inv := fun _ _ => iprop((arg3.view.loc (c : Thread nD τ) ↦[arg3.view.set]{fullShare} f_arg3) ∗ (∃ f, (arg5.view.loc (c : Thread nD τ) ↦[arg5.view.set]{fullShare} f)) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))
  step := fun k acc => by
    iintro ⟨Harg3, ⟨%f_arg5, Harg5⟩, Harg8, Harg9, Harg10, ⟨%f_arg11, Harg11⟩, ⟨%f_arg12, Harg12⟩, ⟨%f_arg13, Harg13⟩, ⟨%f_arg14, Harg14⟩, ⟨%f_arg15, Harg15⟩⟩
    iapply (trip Variants.none c none Set.univ i arg3 harg3 arg4 harg4 arg5 harg5 arg6 harg6 arg7 harg7 arg8 harg8 arg9 harg9 arg10 harg10 arg11 harg11 arg12 harg12 arg13 harg13 arg14 harg14 arg15 harg15 arg2 k f_arg3 f_arg5 f_arg8 f_arg9 f_arg10 f_arg11 f_arg12 f_arg13 f_arg14 f_arg15)
    isplitl [Harg3]; · iexact Harg3
    isplitl [Harg5]; · iexact Harg5
    isplitl [Harg8]; · iexact Harg8
    isplitl [Harg9]; · iexact Harg9
    isplitl [Harg10]; · iexact Harg10
    isplitl [Harg11]; · iexact Harg11
    isplitl [Harg12]; · iexact Harg12
    isplitl [Harg13]; · iexact Harg13
    isplitl [Harg14]; · iexact Harg14
    iexact Harg15

/-- The kernel's body at a grid point: from the two input blocks and every other buffer at any contents it runs to its
    return, leaving the input blocks as they were. -/
theorem bodyRun (c : Dev nD) (i : grid0.Coords) (arg3 : Memref sig .tc .vmem S1x4096x512 .fp8e4m3) (harg3 : arg3.IsWhole) (arg4 : Memref sig .tc .vmem S1x4096x112 .i8) (harg4 : arg4.IsWhole) (arg5 : Memref sig .tc .vmem S1x512x4096 .fp8e4m3) (harg5 : arg5.IsWhole) (arg6 : Memref sig .tc .vmem S1x512x128 .i8) (harg6 : arg6.IsWhole) (arg7 : Memref sig .tc .vmem S1x3584 .f32) (harg7 : arg7.IsWhole) (arg8 : Memref sig .tc .vmem S4096x128 .bf16) (harg8 : arg8.IsWhole) (arg9 : Memref sig .tc .vmem S128x4096 .bf16) (harg9 : arg9.IsWhole) (arg10 : Memref sig .tc .vmem S256x256 .fp8e4m3) (harg10 : arg10.IsWhole) (arg11 : Memref sig .tc .vmem S4x72x2x128 .bf16) (harg11 : arg11.IsWhole) (arg12 : Memref sig .tc .vmem S4x8x128 .i32) (harg12 : arg12.IsWhole) (arg13 : Memref sig .tc .vmem S256x512 .fp8e4m3) (harg13 : arg13.IsWhole) (arg14 : Memref sig .tc .vmem S128x512 .i32) (harg14 : arg14.IsWhole) (arg15 : Memref sig .tc .vmem S7x16x512 .f32) (harg15 : arg15.IsWhole) (f_arg3 : BufTy.Contents (Elt F) arg3.view.ty) (f_arg4 : BufTy.Contents (Elt F) arg4.view.ty) (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) :
   (iprop((arg3.view.loc (c : Thread nD τ) ↦[arg3.view.set]{fullShare} f_arg3) ∗ (arg4.view.loc (c : Thread nD τ) ↦[arg4.view.set]{fullShare} f_arg4) ∗ (arg5.view.loc (c : Thread nD τ) ↦[arg5.view.set]{fullShare} f_arg5) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15)) : sProp 𝕄)
   ⊢ wp frame (wpE (defs₀ (F := F)) Variants.none (c : Thread nD τ) none) Set.univ (cc0_requant (F := F) i arg3 harg3 arg4 harg4 arg5 harg5 arg6 harg6 arg7 harg7 arg8 harg8 arg9 harg9 arg10 harg10 arg11 harg11 arg12 harg12 arg13 harg13 arg14 harg14 arg15 harg15)
     (fun _ => iprop((arg3.view.loc (c : Thread nD τ) ↦[arg3.view.set]{fullShare} f_arg3) ∗ (arg4.view.loc (c : Thread nD τ) ↦[arg4.view.set]{fullShare} f_arg4) ∗ (∃ f, (arg5.view.loc (c : Thread nD τ) ↦[arg5.view.set]{fullShare} f)) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))) := by
  simp only [cc0_requant_eq_skeleton]; unfold cc0_requant_skel
  iintro ⟨Harg3, Harg4, Harg5, Harg6, Harg7, Harg8, Harg9, Harg10, Harg11, Harg12, Harg13, Harg14, Harg15⟩
  by_cases hc3 : k0_cond3 i = 1#1 <;>
  ( sl_exec (disch := sl_exact hc3)
    sl_step
    isplitl [Harg3]; · iexact Harg3
    isplitl [Harg4]; · iexact Harg4
    isplitl [Harg5]; · iexists _; iexact Harg5
    isplitl [Harg6]; · iexists _; iexact Harg6
    isplitl [Harg7]; · iexists _; iexact Harg7
    isplitl [Harg8]; · iexists _; iexact Harg8
    isplitl [Harg9]; · iexists _; iexact Harg9
    isplitl [Harg10]; · iexists _; iexact Harg10
    isplitl [Harg11]; · iexists _; iexact Harg11
    isplitl [Harg12]; · iexists _; iexact Harg12
    isplitl [Harg13]; · iexists _; iexact Harg13
    isplitl [Harg14]; · iexists _; iexact Harg14
    iexists _; iexact Harg15)

end Cert.KernelIdeal.Hand
end
-- ==== Proof.FrameKernelIdeal.lean ====
module

public import proofs.«01_k».proof.Proof.BodyKernelIdeal

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The invariant between two grid points: the eight scratch buffers at some contents, the generator register at some
    state. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

/-- The windows nothing is claimed of: the three outputs. -/
def forgets0 : Fin 5 → Bool := ![false, false, true, true, true]

/-- The proof data on a core: the arrays as the region finds them; the two inputs' blocks left in place; what the body
    leaves in the outputs unnamed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => Pipeline.Dat.unnamed (cfg := cfg0) 2 t
    | 3 => Pipeline.Dat.unnamed (cfg := cfg0) 3 t
    | 4 => Pipeline.Dat.unnamed (cfg := cfg0) 4 t
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d)
    ∗ (∃ d, owns (c : Thread nD τ) (st0_3 t) fullShare d)
    ∗ (∃ d, owns (c : Thread nD τ) (st0_4 t) fullShare d))
/-- What the body returns at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare d)
    ∗ (∃ d, owns (c : Thread nD τ) (st0_3 t) fullShare d)
    ∗ (∃ d, owns (c : Thread nD τ) (st0_4 t) fullShare d))

/-- The body at a grid point: the scratch and the outputs opened, `bodyRun`, everything closed again. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, PhiA_eq]
  simp only [before0_0_of m (dats m 0 c) (A_eq m c 0) (fun _ => rfl), before0_1_of m (dats m 0 c) (A_eq m c 1) (fun _ => rfl)]
  rw [show (dats m 0 c).after 0 t = iblk m c 0 t from rfl, show (dats m 0 c).after 1 t = iblk m c 1 t from rfl]
  unfold owns
  iintro ⟨⟨⟨⟨%darg8, %farg8, -, Harg8⟩, ⟨%darg9, %farg9, -, Harg9⟩, ⟨%darg10, %farg10, -, Harg10⟩, ⟨%darg11, %farg11, -, Harg11⟩, ⟨%darg12, %farg12, -, Harg12⟩, ⟨%darg13, %farg13, -, Harg13⟩, ⟨%darg14, %farg14, -, Harg14⟩, ⟨%darg15, %farg15, -, Harg15⟩⟩, Hg⟩, HO, ⟨%d3, %farg3, %h3, Harg3⟩, ⟨%d4, %farg4, %h4, Harg4⟩, ⟨%darg5, %farg5, -, Harg5⟩, ⟨%darg6, %farg6, -, Harg6⟩, ⟨%darg7, %farg7, -, Harg7⟩⟩
  iapply (wp_wand_r frame (wpE (defs₀ (F := F)) Variants.none (c : Thread nD τ) none) Set.univ)
  isplitl [Harg3 Harg4 Harg5 Harg6 Harg7 Harg8 Harg9 Harg10 Harg11 Harg12 Harg13 Harg14 Harg15]
  · iapply (bodyRun c (grid0.coords t) _ _ _ _ _ _ _ _ _ _ _ _ _ _ _ _ _ _ _ _ _ _ _ _ _ _ farg3 farg4 farg5 farg6 farg7 farg8 farg9 farg10 farg11 farg12 farg13 farg14 farg15)
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg10]; · iexact Harg10
    isplitl [Harg11]; · iexact Harg11
    isplitl [Harg12]; · iexact Harg12
    isplitl [Harg13]; · iexact Harg13
    isplitl [Harg14]; · iexact Harg14
    iexact Harg15
  iintro %_ ⟨Harg3, Harg4, ⟨%garg5, Harg5⟩, ⟨%garg6, Harg6⟩, ⟨%garg7, Harg7⟩, ⟨%garg8, Harg8⟩, ⟨%garg9, Harg9⟩, ⟨%garg10, Harg10⟩, ⟨%garg11, Harg11⟩, ⟨%garg12, Harg12⟩, ⟨%garg13, Harg13⟩, ⟨%garg14, Harg14⟩, ⟨%garg15, Harg15⟩⟩
  isplitl [Harg8 Harg9 Harg10 Harg11 Harg12 Harg13 Harg14 Harg15 Hg]
  · isplitr [Hg]
    · isplitl [Harg8]
      · iexists _, _; isplitr; swap; · iexact Harg8
        ipureintro; rfl
      isplitl [Harg9]
      · iexists _, _; isplitr; swap; · iexact Harg9
        ipureintro; rfl
      isplitl [Harg10]
      · iexists _, _; isplitr; swap; · iexact Harg10
        ipureintro; rfl
      isplitl [Harg11]
      · iexists _, _; isplitr; swap; · iexact Harg11
        ipureintro; rfl
      isplitl [Harg12]
      · iexists _, _; isplitr; swap; · iexact Harg12
        ipureintro; rfl
      isplitl [Harg13]
      · iexists _, _; isplitr; swap; · iexact Harg13
        ipureintro; rfl
      isplitl [Harg14]
      · iexists _, _; isplitr; swap; · iexact Harg14
        ipureintro; rfl
      iexists _, _; isplitr; swap; · iexact Harg15
      ipureintro; rfl
    iexact Hg
  isplitl [HO]; · iexact HO
  isplitl [Harg3]
  · iexists _; isplitr; swap; · iexact Harg3
    ipureintro; exact h3
  isplitl [Harg4]
  · iexists _; isplitr; swap; · iexact Harg4
    ipureintro; exact h4
  isplitl [Harg5]
  · iexists _, _; isplitr; swap; · iexact Harg5
    ipureintro; rfl
  isplitl [Harg6]
  · iexists _, _; isplitr; swap; · iexact Harg6
    ipureintro; rfl
  iexists _, _; isplitr; swap; · iexact Harg7
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- From any memory with zero counters every weakly fair execution ends; the argument arrays end as they were and every
    semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The frame claim: every execution ends, the arguments unchanged, every semaphore counter at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1.arr_in c 0 rfl).trans (A_eq m c 0), (h.1.arr_in c 1 rfl).trans (A_eq m c 1)⟩, h.2⟩) (run_main m ρ)

end Cert.KernelIdeal.Hand
end
-- ==== Proof.TripV.lean ====
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Tactic

@[expose] public section

set_option maxRecDepth 8192
set_option maxHeartbeats 8000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option sl_exec.stridedRows true in
def tripV (𝒱 : Variants) (c : Dev nD) (bd : Option 𝒱.V) (i : grid0.Coords) (arg3 : Memref sig .tc .vmem S1x4096x512 .fp8e4m3) (harg3 : arg3.IsWhole) (arg4 : Memref sig .tc .vmem S1x4096x112 .i8) (harg4 : arg4.IsWhole) (arg5 : Memref sig .tc .vmem S1x512x4096 .fp8e4m3) (harg5 : arg5.IsWhole) (arg6 : Memref sig .tc .vmem S1x512x128 .i8) (harg6 : arg6.IsWhole) (arg7 : Memref sig .tc .vmem S1x3584 .f32) (harg7 : arg7.IsWhole) (arg8 : Memref sig .tc .vmem S4096x128 .bf16) (harg8 : arg8.IsWhole) (arg9 : Memref sig .tc .vmem S128x4096 .bf16) (harg9 : arg9.IsWhole) (arg10 : Memref sig .tc .vmem S256x256 .fp8e4m3) (harg10 : arg10.IsWhole) (arg11 : Memref sig .tc .vmem S4x72x2x128 .bf16) (harg11 : arg11.IsWhole) (arg12 : Memref sig .tc .vmem S4x8x128 .i32) (harg12 : arg12.IsWhole) (arg13 : Memref sig .tc .vmem S256x512 .fp8e4m3) (harg13 : arg13.IsWhole) (arg14 : Memref sig .tc .vmem S128x512 .i32) (harg14 : arg14.IsWhole) (arg15 : Memref sig .tc .vmem S7x16x512 .f32) (harg15 : arg15.IsWhole) (arg2 : BitVec 32)
   (k : Fin k0_t2_loop.trips) (f_arg3 : BufTy.Contents (Elt F) arg3.view.ty) (f_arg8 : BufTy.Contents (Elt F) arg8.view.ty) (f_arg9 : BufTy.Contents (Elt F) arg9.view.ty) (f_arg10 : BufTy.Contents (Elt F) arg10.view.ty) (f_arg15 : BufTy.Contents (Elt F) arg15.view.ty) :
   Σ' (L_arg5 : List (View.Piece (Elt F) S1x512x4096 .fp8e4m3)) (L_arg14 : List (View.Piece (Elt F) S128x512 .i32)), { L_arg15 : List (View.Piece (Elt F) S7x16x512 .f32) //
     ∀ (E : Set ℕ) (f_arg5 : BufTy.Contents (Elt F) arg5.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty),
   (iprop((arg3.view.loc (c : Thread nD τ) ↦[arg3.view.set]{fullShare} f_arg3) ∗ (arg5.view.loc (c : Thread nD τ) ↦[arg5.view.set]{fullShare} f_arg5) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15)) : sProp 𝕄) ⊢ wp frame (wpE (defs₀ (F := F)) 𝒱 (c : Thread nD τ) bd) E (k0_t2_body (F := F) i arg3 harg3 arg4 harg4 arg5 harg5 arg6 harg6 arg7 harg7 arg8 harg8 arg9 harg9 arg10 harg10 arg11 harg11 arg12 harg12 arg13 harg13 arg14 harg14 arg15 harg15 arg2 k PUnit.unit)
     (fun _ => iprop((arg3.view.loc (c : Thread nD τ) ↦[arg3.view.set]{fullShare} f_arg3) ∗ (arg5.view.loc (c : Thread nD τ) ↦[arg5.view.set]{fullShare} (arg5.view.writes (Elt F) f_arg5 L_arg5)) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (arg14.view.loc (c : Thread nD τ) ↦[arg14.view.set]{fullShare} (arg14.view.writes (Elt F) f_arg14 L_arg14)) ∗ (arg15.view.loc (c : Thread nD τ) ↦[arg15.view.set]{fullShare} (arg15.view.writes (Elt F) f_arg15 L_arg15)))) } := by
  have hk : k.val < 16 := Nat.lt_of_lt_of_le k.isLt k0_t2_abs.2.1
  refine ⟨?_, ?_, ?_, fun E f_arg5 f_arg11 f_arg12 f_arg13 f_arg14 => ?run⟩
  case run =>
    unfold k0_t2_body
    iintro ⟨Harg3, Harg5, Harg8, Harg9, Harg10, Harg11, Harg12, Harg13, Harg14, Harg15⟩
    sl_exec
    sl_step

    isplitl [Harg3]; · iexact Harg3
    isplitl [Harg5]; · iexact Harg5
    isplitl [Harg8]; · iexact Harg8
    isplitl [Harg9]; · iexact Harg9
    isplitl [Harg10]; · iexact Harg10
    isplitl [Harg11]; · iexists _; iexact Harg11
    isplitl [Harg12]; · iexists _; iexact Harg12
    isplitl [Harg13]; · iexists _; iexact Harg13
    isplitl [Harg14]; · iexact Harg14
    iexact Harg15

end Cert.KernelIdeal.Hand
end
-- ==== Proof.LoopV.lean ====
module

public import proofs.«01_k».proof.Proof.TripV
public import Idealize.ShloMosaic.Lib.Pipeline.Frame
public import Idealize.ShloMosaic.Lib.Tactic

@[expose] public section

set_option maxRecDepth 8192
set_option maxHeartbeats 8000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- Group `k`'s contribution to the pieces written so far (`prev`): its own pieces in front. -/
@[irreducible] def groupStep (𝒱 : Variants) (c : Dev nD) (bd : Option 𝒱.V) (i : grid0.Coords) (arg3 : Memref sig .tc .vmem S1x4096x512 .fp8e4m3) (harg3 : arg3.IsWhole) (arg4 : Memref sig .tc .vmem S1x4096x112 .i8) (harg4 : arg4.IsWhole) (arg5 : Memref sig .tc .vmem S1x512x4096 .fp8e4m3) (harg5 : arg5.IsWhole) (arg6 : Memref sig .tc .vmem S1x512x128 .i8) (harg6 : arg6.IsWhole) (arg7 : Memref sig .tc .vmem S1x3584 .f32) (harg7 : arg7.IsWhole) (arg8 : Memref sig .tc .vmem S4096x128 .bf16) (harg8 : arg8.IsWhole) (arg9 : Memref sig .tc .vmem S128x4096 .bf16) (harg9 : arg9.IsWhole) (arg10 : Memref sig .tc .vmem S256x256 .fp8e4m3) (harg10 : arg10.IsWhole) (arg11 : Memref sig .tc .vmem S4x72x2x128 .bf16) (harg11 : arg11.IsWhole) (arg12 : Memref sig .tc .vmem S4x8x128 .i32) (harg12 : arg12.IsWhole) (arg13 : Memref sig .tc .vmem S256x512 .fp8e4m3) (harg13 : arg13.IsWhole) (arg14 : Memref sig .tc .vmem S128x512 .i32) (harg14 : arg14.IsWhole) (arg15 : Memref sig .tc .vmem S7x16x512 .f32) (harg15 : arg15.IsWhole) (arg2 : BitVec 32) (f_arg3 : BufTy.Contents (Elt F) arg3.view.ty) (f_arg8 : BufTy.Contents (Elt F) arg8.view.ty) (f_arg9 : BufTy.Contents (Elt F) arg9.view.ty) (f_arg10 : BufTy.Contents (Elt F) arg10.view.ty) (G_arg15 : BufTy.Contents (Elt F) arg15.view.ty) (k : ℕ) (prev : List (View.Piece (Elt F) S1x512x4096 .fp8e4m3) × List (View.Piece (Elt F) S128x512 .i32) × List (View.Piece (Elt F) S7x16x512 .f32)) : List (View.Piece (Elt F) S1x512x4096 .fp8e4m3) × List (View.Piece (Elt F) S128x512 .i32) × List (View.Piece (Elt F) S7x16x512 .f32) :=
  if h : k < k0_t2_loop.trips then
    ((tripV (F := F) 𝒱 c bd i arg3 harg3 arg4 harg4 arg5 harg5 arg6 harg6 arg7 harg7 arg8 harg8 arg9 harg9 arg10 harg10 arg11 harg11 arg12 harg12 arg13 harg13 arg14 harg14 arg15 harg15 arg2 ⟨k, h⟩ f_arg3 f_arg8 f_arg9 f_arg10 (arg15.view.writes (Elt F) G_arg15 prev.2.2)).1 ++ prev.1,
     (tripV (F := F) 𝒱 c bd i arg3 harg3 arg4 harg4 arg5 harg5 arg6 harg6 arg7 harg7 arg8 harg8 arg9 harg9 arg10 harg10 arg11 harg11 arg12 harg12 arg13 harg13 arg14 harg14 arg15 harg15 arg2 ⟨k, h⟩ f_arg3 f_arg8 f_arg9 f_arg10 (arg15.view.writes (Elt F) G_arg15 prev.2.2)).2.1 ++ prev.2.1,
     (tripV (F := F) 𝒱 c bd i arg3 harg3 arg4 harg4 arg5 harg5 arg6 harg6 arg7 harg7 arg8 harg8 arg9 harg9 arg10 harg10 arg11 harg11 arg12 harg12 arg13 harg13 arg14 harg14 arg15 harg15 arg2 ⟨k, h⟩ f_arg3 f_arg8 f_arg9 f_arg10 (arg15.view.writes (Elt F) G_arg15 prev.2.2)).2.2.1 ++ prev.2.2)
  else prev

/-- The pieces of the codes, the exponents and the accumulator that the row groups before `k` have written. -/
def groups (𝒱 : Variants) (c : Dev nD) (bd : Option 𝒱.V) (i : grid0.Coords) (arg3 : Memref sig .tc .vmem S1x4096x512 .fp8e4m3) (harg3 : arg3.IsWhole) (arg4 : Memref sig .tc .vmem S1x4096x112 .i8) (harg4 : arg4.IsWhole) (arg5 : Memref sig .tc .vmem S1x512x4096 .fp8e4m3) (harg5 : arg5.IsWhole) (arg6 : Memref sig .tc .vmem S1x512x128 .i8) (harg6 : arg6.IsWhole) (arg7 : Memref sig .tc .vmem S1x3584 .f32) (harg7 : arg7.IsWhole) (arg8 : Memref sig .tc .vmem S4096x128 .bf16) (harg8 : arg8.IsWhole) (arg9 : Memref sig .tc .vmem S128x4096 .bf16) (harg9 : arg9.IsWhole) (arg10 : Memref sig .tc .vmem S256x256 .fp8e4m3) (harg10 : arg10.IsWhole) (arg11 : Memref sig .tc .vmem S4x72x2x128 .bf16) (harg11 : arg11.IsWhole) (arg12 : Memref sig .tc .vmem S4x8x128 .i32) (harg12 : arg12.IsWhole) (arg13 : Memref sig .tc .vmem S256x512 .fp8e4m3) (harg13 : arg13.IsWhole) (arg14 : Memref sig .tc .vmem S128x512 .i32) (harg14 : arg14.IsWhole) (arg15 : Memref sig .tc .vmem S7x16x512 .f32) (harg15 : arg15.IsWhole) (arg2 : BitVec 32) (f_arg3 : BufTy.Contents (Elt F) arg3.view.ty) (f_arg8 : BufTy.Contents (Elt F) arg8.view.ty) (f_arg9 : BufTy.Contents (Elt F) arg9.view.ty) (f_arg10 : BufTy.Contents (Elt F) arg10.view.ty) (G_arg15 : BufTy.Contents (Elt F) arg15.view.ty) : ℕ → List (View.Piece (Elt F) S1x512x4096 .fp8e4m3) × List (View.Piece (Elt F) S128x512 .i32) × List (View.Piece (Elt F) S7x16x512 .f32)
  | 0 => ([], [], [])
  | k + 1 => groupStep 𝒱 c bd i arg3 harg3 arg4 harg4 arg5 harg5 arg6 harg6 arg7 harg7 arg8 harg8 arg9 harg9 arg10 harg10 arg11 harg11 arg12 harg12 arg13 harg13 arg14 harg14 arg15 harg15 arg2 f_arg3 f_arg8 f_arg9 f_arg10 G_arg15 k (groups 𝒱 c bd i arg3 harg3 arg4 harg4 arg5 harg5 arg6 harg6 arg7 harg7 arg8 harg8 arg9 harg9 arg10 harg10 arg11 harg11 arg12 harg12 arg13 harg13 arg14 harg14 arg15 harg15 arg2 f_arg3 f_arg8 f_arg9 f_arg10 G_arg15 k)

theorem groups_succ (𝒱 : Variants) (c : Dev nD) (bd : Option 𝒱.V) (i : grid0.Coords) (arg3 : Memref sig .tc .vmem S1x4096x512 .fp8e4m3) (harg3 : arg3.IsWhole) (arg4 : Memref sig .tc .vmem S1x4096x112 .i8) (harg4 : arg4.IsWhole) (arg5 : Memref sig .tc .vmem S1x512x4096 .fp8e4m3) (harg5 : arg5.IsWhole) (arg6 : Memref sig .tc .vmem S1x512x128 .i8) (harg6 : arg6.IsWhole) (arg7 : Memref sig .tc .vmem S1x3584 .f32) (harg7 : arg7.IsWhole) (arg8 : Memref sig .tc .vmem S4096x128 .bf16) (harg8 : arg8.IsWhole) (arg9 : Memref sig .tc .vmem S128x4096 .bf16) (harg9 : arg9.IsWhole) (arg10 : Memref sig .tc .vmem S256x256 .fp8e4m3) (harg10 : arg10.IsWhole) (arg11 : Memref sig .tc .vmem S4x72x2x128 .bf16) (harg11 : arg11.IsWhole) (arg12 : Memref sig .tc .vmem S4x8x128 .i32) (harg12 : arg12.IsWhole) (arg13 : Memref sig .tc .vmem S256x512 .fp8e4m3) (harg13 : arg13.IsWhole) (arg14 : Memref sig .tc .vmem S128x512 .i32) (harg14 : arg14.IsWhole) (arg15 : Memref sig .tc .vmem S7x16x512 .f32) (harg15 : arg15.IsWhole) (arg2 : BitVec 32) (f_arg3 : BufTy.Contents (Elt F) arg3.view.ty) (f_arg8 : BufTy.Contents (Elt F) arg8.view.ty) (f_arg9 : BufTy.Contents (Elt F) arg9.view.ty) (f_arg10 : BufTy.Contents (Elt F) arg10.view.ty) (G_arg15 : BufTy.Contents (Elt F) arg15.view.ty) (k : Fin k0_t2_loop.trips) :
    groups (F := F) 𝒱 c bd i arg3 harg3 arg4 harg4 arg5 harg5 arg6 harg6 arg7 harg7 arg8 harg8 arg9 harg9 arg10 harg10 arg11 harg11 arg12 harg12 arg13 harg13 arg14 harg14 arg15 harg15 arg2 f_arg3 f_arg8 f_arg9 f_arg10 G_arg15 (k.val + 1)
      = ((tripV (F := F) 𝒱 c bd i arg3 harg3 arg4 harg4 arg5 harg5 arg6 harg6 arg7 harg7 arg8 harg8 arg9 harg9 arg10 harg10 arg11 harg11 arg12 harg12 arg13 harg13 arg14 harg14 arg15 harg15 arg2 k f_arg3 f_arg8 f_arg9 f_arg10 (arg15.view.writes (Elt F) G_arg15 (groups (F := F) 𝒱 c bd i arg3 harg3 arg4 harg4 arg5 harg5 arg6 harg6 arg7 harg7 arg8 harg8 arg9 harg9 arg10 harg10 arg11 harg11 arg12 harg12 arg13 harg13 arg14 harg14 arg15 harg15 arg2 f_arg3 f_arg8 f_arg9 f_arg10 G_arg15 k.val).2.2)).1 ++ (groups (F := F) 𝒱 c bd i arg3 harg3 arg4 harg4 arg5 harg5 arg6 harg6 arg7 harg7 arg8 harg8 arg9 harg9 arg10 harg10 arg11 harg11 arg12 harg12 arg13 harg13 arg14 harg14 arg15 harg15 arg2 f_arg3 f_arg8 f_arg9 f_arg10 G_arg15 k.val).1,
         (tripV (F := F) 𝒱 c bd i arg3 harg3 arg4 harg4 arg5 harg5 arg6 harg6 arg7 harg7 arg8 harg8 arg9 harg9 arg10 harg10 arg11 harg11 arg12 harg12 arg13 harg13 arg14 harg14 arg15 harg15 arg2 k f_arg3 f_arg8 f_arg9 f_arg10 (arg15.view.writes (Elt F) G_arg15 (groups (F := F) 𝒱 c bd i arg3 harg3 arg4 harg4 arg5 harg5 arg6 harg6 arg7 harg7 arg8 harg8 arg9 harg9 arg10 harg10 arg11 harg11 arg12 harg12 arg13 harg13 arg14 harg14 arg15 harg15 arg2 f_arg3 f_arg8 f_arg9 f_arg10 G_arg15 k.val).2.2)).2.1 ++ (groups (F := F) 𝒱 c bd i arg3 harg3 arg4 harg4 arg5 harg5 arg6 harg6 arg7 harg7 arg8 harg8 arg9 harg9 arg10 harg10 arg11 harg11 arg12 harg12 arg13 harg13 arg14 harg14 arg15 harg15 arg2 f_arg3 f_arg8 f_arg9 f_arg10 G_arg15 k.val).2.1,
         (tripV (F := F) 𝒱 c bd i arg3 harg3 arg4 harg4 arg5 harg5 arg6 harg6 arg7 harg7 arg8 harg8 arg9 harg9 arg10 harg10 arg11 harg11 arg12 harg12 arg13 harg13 arg14 harg14 arg15 harg15 arg2 k f_arg3 f_arg8 f_arg9 f_arg10 (arg15.view.writes (Elt F) G_arg15 (groups (F := F) 𝒱 c bd i arg3 harg3 arg4 harg4 arg5 harg5 arg6 harg6 arg7 harg7 arg8 harg8 arg9 harg9 arg10 harg10 arg11 harg11 arg12 harg12 arg13 harg13 arg14 harg14 arg15 harg15 arg2 f_arg3 f_arg8 f_arg9 f_arg10 G_arg15 k.val).2.2)).2.2.1 ++ (groups (F := F) 𝒱 c bd i arg3 harg3 arg4 harg4 arg5 harg5 arg6 harg6 arg7 harg7 arg8 harg8 arg9 harg9 arg10 harg10 arg11 harg11 arg12 harg12 arg13 harg13 arg14 harg14 arg15 harg15 arg2 f_arg3 f_arg8 f_arg9 f_arg10 G_arg15 k.val).2.2) := by
  rw [groups.eq_2]; unfold groupStep; exact dif_pos k.isLt

set_option warn.classDefReducibility false in
/-- The row-group loop's invariant: the buffers it reads at their contents, the codes, the exponents and the accumulator
    at the pieces of the groups before `k` over what they held at entry, the three small buffers at any contents. -/
@[sl_loop] def loopGroups (c : Dev nD) (i : grid0.Coords) (arg3 : Memref sig .tc .vmem S1x4096x512 .fp8e4m3) (harg3 : arg3.IsWhole) (arg4 : Memref sig .tc .vmem S1x4096x112 .i8) (harg4 : arg4.IsWhole) (arg5 : Memref sig .tc .vmem S1x512x4096 .fp8e4m3) (harg5 : arg5.IsWhole) (arg6 : Memref sig .tc .vmem S1x512x128 .i8) (harg6 : arg6.IsWhole) (arg7 : Memref sig .tc .vmem S1x3584 .f32) (harg7 : arg7.IsWhole) (arg8 : Memref sig .tc .vmem S4096x128 .bf16) (harg8 : arg8.IsWhole) (arg9 : Memref sig .tc .vmem S128x4096 .bf16) (harg9 : arg9.IsWhole) (arg10 : Memref sig .tc .vmem S256x256 .fp8e4m3) (harg10 : arg10.IsWhole) (arg11 : Memref sig .tc .vmem S4x72x2x128 .bf16) (harg11 : arg11.IsWhole) (arg12 : Memref sig .tc .vmem S4x8x128 .i32) (harg12 : arg12.IsWhole) (arg13 : Memref sig .tc .vmem S256x512 .fp8e4m3) (harg13 : arg13.IsWhole) (arg14 : Memref sig .tc .vmem S128x512 .i32) (harg14 : arg14.IsWhole) (arg15 : Memref sig .tc .vmem S7x16x512 .f32) (harg15 : arg15.IsWhole) (arg2 : BitVec 32) (f_arg3 : BufTy.Contents (Elt F) arg3.view.ty) (f_arg8 : BufTy.Contents (Elt F) arg8.view.ty) (f_arg9 : BufTy.Contents (Elt F) arg9.view.ty) (f_arg10 : BufTy.Contents (Elt F) arg10.view.ty) (G_arg5 : BufTy.Contents (Elt F) arg5.view.ty) (G_arg14 : BufTy.Contents (Elt F) arg14.view.ty) (G_arg15 : BufTy.Contents (Elt F) arg15.view.ty) :
    LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg2 where
  inv := fun k _ => iprop((arg3.view.loc (c : Thread nD τ) ↦[arg3.view.set]{fullShare} f_arg3) ∗ (∃ f, (arg5.view.loc (c : Thread nD τ) ↦[arg5.view.set]{fullShare} f) ∗ ⌜f = arg5.view.writes (Elt F) G_arg5 (groups (F := F) Variants.none c none i arg3 harg3 arg4 harg4 arg5 harg5 arg6 harg6 arg7 harg7 arg8 harg8 arg9 harg9 arg10 harg10 arg11 harg11 arg12 harg12 arg13 harg13 arg14 harg14 arg15 harg15 arg2 f_arg3 f_arg8 f_arg9 f_arg10 G_arg15 k).1⌝) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f) ∗ ⌜f = arg14.view.writes (Elt F) G_arg14 (groups (F := F) Variants.none c none i arg3 harg3 arg4 harg4 arg5 harg5 arg6 harg6 arg7 harg7 arg8 harg8 arg9 harg9 arg10 harg10 arg11 harg11 arg12 harg12 arg13 harg13 arg14 harg14 arg15 harg15 arg2 f_arg3 f_arg8 f_arg9 f_arg10 G_arg15 k).2.1⌝) ∗ (∃ f, (arg15.view.loc (c : Thread nD τ) ↦[arg15.view.set]{fullShare} f) ∗ ⌜f = arg15.view.writes (Elt F) G_arg15 (groups (F := F) Variants.none c none i arg3 harg3 arg4 harg4 arg5 harg5 arg6 harg6 arg7 harg7 arg8 harg8 arg9 harg9 arg10 harg10 arg11 harg11 arg12 harg12 arg13 harg13 arg14 harg14 arg15 harg15 arg2 f_arg3 f_arg8 f_arg9 f_arg10 G_arg15 k).2.2⌝))
  step := fun k acc => by
    iintro ⟨Harg3, ⟨%f_arg5, Harg5, %h5⟩, Harg8, Harg9, Harg10, ⟨%f_arg11, Harg11⟩, ⟨%f_arg12, Harg12⟩, ⟨%f_arg13, Harg13⟩, ⟨%f_arg14, Harg14, %h14⟩, ⟨%f_arg15, Harg15, %h15⟩⟩
    subst h5 h14 h15
    iapply (wp_wand_r Idealize.ShloMosaic.frame (wpE (defs₀ (F := F)) Variants.none (c : Thread nD τ) none) Set.univ)
    isplitl [Harg3 Harg5 Harg8 Harg9 Harg10 Harg11 Harg12 Harg13 Harg14 Harg15]
    · iapply ((tripV (F := F) Variants.none c none i arg3 harg3 arg4 harg4 arg5 harg5 arg6 harg6 arg7 harg7 arg8 harg8 arg9 harg9 arg10 harg10 arg11 harg11 arg12 harg12 arg13 harg13 arg14 harg14 arg15 harg15 arg2 k f_arg3 f_arg8 f_arg9 f_arg10 (arg15.view.writes (Elt F) G_arg15 (groups (F := F) Variants.none c none i arg3 harg3 arg4 harg4 arg5 harg5 arg6 harg6 arg7 harg7 arg8 harg8 arg9 harg9 arg10 harg10 arg11 harg11 arg12 harg12 arg13 harg13 arg14 harg14 arg15 harg15 arg2 f_arg3 f_arg8 f_arg9 f_arg10 G_arg15 k.val).2.2)).2.2.2 Set.univ _ f_arg11 f_arg12 f_arg13 _)
      isplitl [Harg3]; · iexact Harg3
      isplitl [Harg5]; · iexact Harg5
      isplitl [Harg8]; · iexact Harg8
      isplitl [Harg9]; · iexact Harg9
      isplitl [Harg10]; · iexact Harg10
      isplitl [Harg11]; · iexact Harg11
      isplitl [Harg12]; · iexact Harg12
      isplitl [Harg13]; · iexact Harg13
      isplitl [Harg14]; · iexact Harg14
      iexact Harg15
    iintro %_ ⟨Harg3, Harg5, Harg8, Harg9, Harg10, ⟨%g_arg11, Harg11⟩, ⟨%g_arg12, Harg12⟩, ⟨%g_arg13, Harg13⟩, Harg14, Harg15⟩
    rw [groups_succ]
    isplitl [Harg3]; · iexact Harg3
    isplitl [Harg5]
    · iexists _; isplitl; · iexact Harg5
      ipureintro; rw [← View.writes_append]
    isplitl [Harg8]; · iexact Harg8
    isplitl [Harg9]; · iexact Harg9
    isplitl [Harg10]; · iexact Harg10
    isplitl [Harg11]; · iexists _; iexact Harg11
    isplitl [Harg12]; · iexists _; iexact Harg12
    isplitl [Harg13]; · iexists _; iexact Harg13
    isplitl [Harg14]
    · iexists _; isplitl; · iexact Harg14
      ipureintro; rw [← View.writes_append]
    iexists _; isplitl; · iexact Harg15
    ipureintro; rw [← View.writes_append]

end Cert.KernelIdeal.Hand
end
-- ==== Proof.Scalars.lean ====
module

public import Idealize.ShloMosaic.PureOps.Ideal.Laws

/-!
The scalar facts of the requantisation: powers of two by their bit patterns, the scale exponent found by
bisection against the exponent found by counting thresholds, and the inverse multiplier by its bit pattern.
Every value is an extended real.
-/

@[expose] public section

set_option maxRecDepth 8192

noncomputable section

namespace Requant

open Idealize.ShloMosaic

/-- The power of two whose `f32` pattern has exponent field `n`: zero for `0`, infinity for `255`. -/
def th (n : ℕ) : EReal := if n = 0 then 0 else if n = 255 then ⊤ else (((2 : ℝ) ^ ((n : ℤ) - 127) : ℝ) : EReal)

/-- `ldexp(1, n)` as the reference spells it. -/
def pow2 (n : BitVec 32) : EReal :=
  Scalar.select (IntOp.cmpi .slt n 4294967170#32) (Ideal.ofBits .f32 0x00000000#32)
    (Scalar.select (IntOp.cmpi .sgt n 127#32) (Ideal.ofBits .f32 0x7F800000#32) (Ideal.exp2 (((n.toInt : ℝ)) : EReal)))

theorem ofBits_inf : Ideal.ofBits .f32 0x7F800000#32 = ⊤ := by simp [Ideal.ofBits, Ideal.ieee]
theorem ofBits_zero : Ideal.ofBits .f32 0x00000000#32 = 0 := by simp [Ideal.ofBits, Ideal.ieee]
theorem ofBits_nan : Ideal.ofBits .f32 0x7FC00000#32 = ⊥ := by simp [Ideal.ofBits, Ideal.ieee]
theorem ofBits_ninf : Ideal.ofBits .f32 0xFF800000#32 = ⊥ := by simp [Ideal.ofBits, Ideal.ieee]

/-- A pattern with zero sign, zero fraction and an eight-bit exponent field `n` denotes `th n`. -/
theorem ieee_th (m : ℕ) {w : ℕ} (b : BitVec w) (n : ℕ) (hn : n ≤ 255) (h1 : (b.extractLsb' m 8).toNat = n)
    (h2 : (b.extractLsb' 0 m).toNat = 0) (h3 : (b.extractLsb' (8 + m) 1 == 1#1) = false) : Ideal.ieee 8 m b = th n := by
  unfold Ideal.ieee th
  simp only [h1, h2, h3]
  by_cases h255 : n = 255
  · subst h255; simp
  · rw [if_neg (show ¬ n = 2 ^ 8 - 1 by omega)]
    by_cases h0 : n = 0
    · rw [if_pos h0, if_pos h0]; simp
    · rw [if_neg h0, if_neg h0, if_neg h255]
      congr 1
      simp only [Bool.false_eq_true, if_false, one_mul, add_zero, Nat.cast_pow, Nat.cast_ofNat]
      rw [← zpow_natCast (2 : ℝ) m, ← zpow_add₀ (by norm_num : (2 : ℝ) ≠ 0)]
      congr 1
      have : (2 : ℤ) ^ (8 - 1) - 1 = 127 := by norm_num
      rw [this]; ring

/-- `ofBits` of a pattern with zero sign and fraction. -/
theorem ofBits_shl (n : ℕ) (hn : n ≤ 255) :
    Ideal.ofBits .f32 (IntOp.shli .vector (BitVec.ofNat 32 n) 23#32) = th n := by
  have h1 : ∀ n : Fin 256, ((IntOp.shli .vector (BitVec.ofNat 32 n) 23#32).extractLsb' 23 8).toNat = n := by decide +kernel
  have h2 : ∀ n : Fin 256, ((IntOp.shli .vector (BitVec.ofNat 32 n) 23#32).extractLsb' 0 23).toNat = 0 := by decide +kernel
  have h3 : ∀ n : Fin 256, ((IntOp.shli .vector (BitVec.ofNat 32 n) 23#32).extractLsb' (8 + 23) 1 == 1#1) = false := by decide +kernel
  exact ieee_th 23 _ n hn (h1 ⟨n, by omega⟩) (h2 ⟨n, by omega⟩) (h3 ⟨n, by omega⟩)

theorem sel_one {α : Type} (a b : α) : Scalar.select 1#1 a b = a := rfl
theorem sel_zero {α : Type} (a b : α) : Scalar.select 0#1 a b = b := rfl
theorem sel_ofBool {α : Type} (p : Prop) [Decidable p] (a b : α) : Scalar.select (BitVec.ofBool (decide p)) a b = if p then a else b := by
  by_cases h : p <;> simp [h, Scalar.select]

theorem exp2_int (z : ℤ) : Ideal.exp2 (((z : ℝ)) : EReal) = (((2:ℝ) ^ z : ℝ) : EReal) := by
  show ((Real.rpow 2 (z:ℝ) : ℝ) : EReal) = _
  congr 1
  exact Real.rpow_intCast 2 z

theorem slt_iff (n : BitVec 32) : IntOp.cmpi .slt n 4294967170#32 = BitVec.ofBool (decide (n.toInt < -126)) := by
  show BitVec.ofBool (decide (n.toInt < (4294967170#32 : BitVec 32).toInt)) = _
  rfl
theorem sgt_iff (n : BitVec 32) : IntOp.cmpi .sgt n 127#32 = BitVec.ofBool (decide (127 < n.toInt)) := by
  show BitVec.ofBool (decide ((127#32 : BitVec 32).toInt < n.toInt)) = _
  rfl

/-- The reference's `ldexp(1, n)` in cases. -/
theorem pow2_eq (n : BitVec 32) : pow2 n = if n.toInt < -126 then 0 else if 127 < n.toInt then ⊤ else (((2:ℝ) ^ n.toInt : ℝ) : EReal) := by
  unfold pow2
  rw [slt_iff, sgt_iff, sel_ofBool, sel_ofBool, ofBits_inf, ofBits_zero, exp2_int]

/-- The reference's multiplier of a stored scale is the power of two its pattern denotes. -/
theorem pow2_scale (s : BitVec 8) : pow2 (IntOp.subi (s.setWidth 32) 127#32) = th s.toNat := by
  have h : (IntOp.subi (s.setWidth 32) 127#32).toInt = (s.toNat : ℤ) - 127 := by
    revert s; decide +kernel
  rw [pow2_eq, h]
  unfold th
  have := s.isLt
  by_cases h0 : s.toNat = 0
  · simp [h0]
  · by_cases h1 : s.toNat = 255
    · simp [h1]
    · rw [if_neg (by omega), if_neg (by omega), if_neg h0, if_neg h1]

/-- The kernel's multiplier of a stored scale. -/
theorem ofBits_scale (s : BitVec 8) :
    Ideal.ofBits .f32 (IntOp.shli .vector (s.setWidth 32) 23#32) = th s.toNat := by
  rw [← ofBits_shl s.toNat (by have := s.isLt; omega)]
  congr 2
  apply BitVec.eq_of_toNat_eq
  have := s.isLt
  simp

/-- The thresholds grow. -/
theorem th_mono {m n : ℕ} (h : m ≤ n) (hn : n ≤ 255) : th m ≤ th n := by
  unfold th
  by_cases hm : m = 0
  · rw [if_pos hm]
    split_ifs
    · exact le_rfl
    · exact le_top
    · exact EReal.coe_nonneg.mpr (by positivity)
  · rw [if_neg hm]
    by_cases h5 : n = 255
    · rw [if_neg (by omega : ¬ n = 0), if_pos h5]; exact le_top
    · rw [if_neg (by omega : ¬ m = 255), if_neg (by omega : ¬ n = 0), if_neg h5]
      exact EReal.coe_le_coe_iff.mpr (zpow_le_zpow_right₀ (by norm_num) (by omega))

/-- For any value there is a last threshold at or below it. -/
theorem exists_level (y : EReal) : ∃ t ≤ 255, ∀ n, 1 ≤ n → n ≤ 255 → (th n ≤ y ↔ n ≤ t) := by
  classical
  have key : ∀ N ≤ 255, ∃ t ≤ N, ∀ n, 1 ≤ n → n ≤ N → (th n ≤ y ↔ n ≤ t) := by
    intro N
    induction N with
    | zero => exact fun _ => ⟨0, le_rfl, fun n h1 h2 => by omega⟩
    | succ N ih =>
      intro hN
      obtain ⟨t, ht, hs⟩ := ih (by omega)
      by_cases h : th (N + 1) ≤ y
      · exact ⟨N + 1, le_rfl, fun n h1 h2 => ⟨fun _ => h2, fun _ => (th_mono h2 hN).trans h⟩⟩
      · refine ⟨t, by omega, fun n h1 h2 => ?_⟩
        rcases Nat.lt_or_ge N n with h3 | h3
        · obtain rfl : n = N + 1 := by omega
          exact ⟨fun h' => absurd h' h, fun h' => by omega⟩
        · exact hs n h1 h3
  exact key 255 le_rfl

/-- One step of the kernel's bisection for the exponent field. -/
def step (y : EReal) (c t : BitVec 32) : BitVec 32 :=
  Scalar.select (Ideal.cmp .oge y (Ideal.ofBits .f32 (IntOp.shli .vector (IntOp.addi t c) 23#32))) (IntOp.addi t c) t

theorem step_eq (y : EReal) (t : ℕ) (hs : ∀ n, 1 ≤ n → n ≤ 255 → (th n ≤ y ↔ n ≤ t)) (a c : ℕ) (h1 : 1 ≤ a + c) (h2 : a + c ≤ 255) :
    step y (BitVec.ofNat 32 c) (BitVec.ofNat 32 a) = BitVec.ofNat 32 (if a + c ≤ t then a + c else a) := by
  have ha : IntOp.addi (BitVec.ofNat 32 a) (BitVec.ofNat 32 c) = BitVec.ofNat 32 (a + c) := by
    show BitVec.ofNat 32 a + BitVec.ofNat 32 c = _
    rw [BitVec.ofNat_add]
  unfold step
  rw [ha, ofBits_shl _ h2]
  show Scalar.select (BitVec.ofBool (decide (th (a + c) ≤ y))) _ _ = _
  rw [sel_ofBool]
  simp only [hs _ h1 h2]
  split_ifs <;> rfl

/-- The exponent field the kernel's bisection ends with. -/
def field (y : EReal) : BitVec 32 :=
  step y 1#32 (step y 2#32 (step y 4#32 (step y 8#32 (step y 16#32 (step y 32#32 (step y 64#32 (step y 128#32 0#32)))))))

/-- The bisection finds the last threshold. -/
theorem field_eq (y : EReal) (t : ℕ) (ht : t ≤ 255) (hs : ∀ n, 1 ≤ n → n ≤ 255 → (th n ≤ y ↔ n ≤ t)) :
    field y = BitVec.ofNat 32 t := by
  have st : ∀ a c : ℕ, 1 ≤ a + c → a + c ≤ 255 → step y (BitVec.ofNat 32 c) (BitVec.ofNat 32 a) = BitVec.ofNat 32 (if a + c ≤ t then a + c else a) :=
    step_eq y t hs
  have e7 : step y 128#32 0#32 = BitVec.ofNat 32 (t / 128 * 128) := by
    rw [show (128#32) = BitVec.ofNat 32 128 from rfl, show (0#32) = BitVec.ofNat 32 0 from rfl, st 0 128 (by omega) (by omega)]
    congr 1; split_ifs <;> omega
  have e6 : step y 64#32 (BitVec.ofNat 32 (t / 128 * 128)) = BitVec.ofNat 32 (t / 64 * 64) := by
    rw [show (64#32) = BitVec.ofNat 32 64 from rfl, st _ 64 (by omega) (by omega)]
    congr 1; split_ifs <;> omega
  have e5 : step y 32#32 (BitVec.ofNat 32 (t / 64 * 64)) = BitVec.ofNat 32 (t / 32 * 32) := by
    rw [show (32#32) = BitVec.ofNat 32 32 from rfl, st _ 32 (by omega) (by omega)]
    congr 1; split_ifs <;> omega
  have e4 : step y 16#32 (BitVec.ofNat 32 (t / 32 * 32)) = BitVec.ofNat 32 (t / 16 * 16) := by
    rw [show (16#32) = BitVec.ofNat 32 16 from rfl, st _ 16 (by omega) (by omega)]
    congr 1; split_ifs <;> omega
  have e3 : step y 8#32 (BitVec.ofNat 32 (t / 16 * 16)) = BitVec.ofNat 32 (t / 8 * 8) := by
    rw [show (8#32) = BitVec.ofNat 32 8 from rfl, st _ 8 (by omega) (by omega)]
    congr 1; split_ifs <;> omega
  have e2 : step y 4#32 (BitVec.ofNat 32 (t / 8 * 8)) = BitVec.ofNat 32 (t / 4 * 4) := by
    rw [show (4#32) = BitVec.ofNat 32 4 from rfl, st _ 4 (by omega) (by omega)]
    congr 1; split_ifs <;> omega
  have e1 : step y 2#32 (BitVec.ofNat 32 (t / 4 * 4)) = BitVec.ofNat 32 (t / 2 * 2) := by
    rw [show (2#32) = BitVec.ofNat 32 2 from rfl, st _ 2 (by omega) (by omega)]
    congr 1; split_ifs <;> omega
  have e0 : step y 1#32 (BitVec.ofNat 32 (t / 2 * 2)) = BitVec.ofNat 32 t := by
    rw [show (1#32) = BitVec.ofNat 32 1 from rfl, st _ 1 (by omega) (by omega)]
    congr 1; split_ifs <;> omega
  unfold field
  rw [e7, e6, e5, e4, e3, e2, e1, e0]

/-- The biased scale exponent the kernel derives from its bisection. -/
def expo (y : EReal) : BitVec 32 :=
  Scalar.select (IntOp.ori (IntOp.cmpi .eq (field y) 0#32) (IntOp.cmpi .eq (field y) 255#32)) 127#32 (IntOp.addi (field y) 1#32)

/-- The reference's exponent from the number of thresholds at or below `y`. -/
def expoOfCount (y : EReal) (n : BitVec 32) : BitVec 32 :=
  Scalar.select (IntOp.ori (IntOp.cmpi .eq n 0#32) (Ideal.cmp .oeq y (Ideal.ofBits .f32 0x7F800000#32))) 0#32 (IntOp.subi n 126#32)

/-- The number of the 254 thresholds at or below `y`. -/
def count (y : EReal) : BitVec 32 :=
  (Finset.univ : Finset (Fin 254)).fold IntOp.addi 0#32
    fun k : Fin 254 => (Ideal.cmp .ole (pow2 (IntOp.subi (BitVec.ofNat 32 k) 126#32)) y).setWidth 32

theorem pow2_iota (k : Fin 254) : pow2 (IntOp.subi (BitVec.ofNat 32 k) 126#32) = th (k + 1) := by
  have h : ∀ k : Fin 254, (IntOp.subi (BitVec.ofNat 32 k) 126#32).toInt = (k : ℤ) - 126 := by decide +kernel
  rw [pow2_eq, h k]
  have := k.isLt
  unfold th
  rw [if_neg (by omega), if_neg (by omega), if_neg (by omega), if_neg (by omega)]
  congr 2; push_cast; omega

theorem count_eq (y : EReal) (t : ℕ) (hs : ∀ n, 1 ≤ n → n ≤ 255 → (th n ≤ y ↔ n ≤ t)) :
    count y = BitVec.ofNat 32 (min t 254) := by
  have h1 : ∀ k : Fin 254, (Ideal.cmp .ole (pow2 (IntOp.subi (BitVec.ofNat 32 k) 126#32)) y).setWidth 32
      = if (k : ℕ) < t then (1 : BitVec 32) else 0 := by
    intro k
    rw [pow2_iota]
    show (BitVec.ofBool (decide (th (k + 1) ≤ y))).setWidth 32 = _
    have := hs (k + 1) (by omega) (by have := k.isLt; omega)
    by_cases h : (k : ℕ) < t
    · rw [if_pos h, decide_eq_true (this.mpr h)]; rfl
    · rw [if_neg h, decide_eq_false (fun h' => h (this.mp h'))]; rfl
  have h2 : ∀ S : Finset (Fin 254), S.fold IntOp.addi 0#32 (fun k : Fin 254 => if (k : ℕ) < t then (1 : BitVec 32) else 0)
      = BitVec.ofNat 32 (S.filter fun k : Fin 254 => (k : ℕ) < t).card := by
    intro S
    induction S using Finset.induction_on with
    | empty => rfl
    | insert a S ha ih =>
      rw [Finset.fold_insert ha, ih, Finset.filter_insert]
      by_cases h : (a : ℕ) < t
      · rw [if_pos h, if_pos h, Finset.card_insert_of_notMem (fun h' => ha (Finset.mem_filter.mp h').1), Nat.add_comm, BitVec.ofNat_add]
        rfl
      · rw [if_neg h, if_neg h]; exact BitVec.zero_add _
  unfold count
  rw [show (fun k : Fin 254 => (Ideal.cmp .ole (pow2 (IntOp.subi (BitVec.ofNat 32 k) 126#32)) y).setWidth 32) = _ from funext h1, h2]
  congr 1
  rw [Fin.card_filter_val_lt, Nat.min_comm]

/-- The kernel's exponent and the reference's differ by the bias exactly. -/
theorem expo_eq (y : EReal) : expo y = IntOp.addi (expoOfCount y (count y)) 127#32 := by
  obtain ⟨t, ht, hs⟩ := exists_level y
  unfold expo expoOfCount
  rw [field_eq y t ht hs, count_eq y t hs, ofBits_inf]
  have htop : Ideal.cmp .oeq y ⊤ = BitVec.ofBool (decide (t = 255)) := by
    show BitVec.ofBool (decide (y = ⊤)) = _
    congr 1
    have := hs 255 (by omega) le_rfl
    have h255 : th 255 = ⊤ := by simp [th]
    rw [h255, top_le_iff] at this
    exact decide_eq_decide.mpr (this.trans ⟨fun h => by omega, fun h => by omega⟩)
  rw [htop]
  clear htop hs
  have : ∀ t : Fin 256, Scalar.select (IntOp.ori (IntOp.cmpi .eq (BitVec.ofNat 32 t) 0#32) (IntOp.cmpi .eq (BitVec.ofNat 32 t) 255#32)) 127#32 (IntOp.addi (BitVec.ofNat 32 t) 1#32)
      = IntOp.addi (Scalar.select (IntOp.ori (IntOp.cmpi .eq (BitVec.ofNat 32 (min t 254)) 0#32) (BitVec.ofBool (decide (t.val = 255)))) 0#32 (IntOp.subi (BitVec.ofNat 32 (min t 254)) 126#32)) 127#32 := by
    decide +kernel
  exact this ⟨t, by omega⟩

/-- The two halves of the word the kernel stores for the inverse multiplier. -/
def invWord (e : BitVec 32) : BitVec 32 :=
  IntOp.ori (IntOp.shli .vector (IntOp.subi 254#32 e) 7#32) (IntOp.shli .vector (IntOp.shli .vector (IntOp.subi 254#32 e) 7#32) 16#32)

/-- The reference's inverse multiplier of an unbiased exponent. -/
def invRef (e : BitVec 32) : EReal :=
  Scalar.select (IntOp.cmpi .sgt e 127#32) (Ideal.ofBits .f32 0x7FC00000#32) (pow2 (IntOp.subi 0#32 e))

/-- A `bf16` pattern with zero sign and fraction. -/
theorem ofBits_bf16 (n : ℕ) (hn : n ≤ 255) : Ideal.ofBits .bf16 (BitVec.ofNat 16 n <<< 7) = th n := by
  have h1 : ∀ n : Fin 256, ((BitVec.ofNat 16 n <<< 7).extractLsb' 7 8).toNat = n := by decide +kernel
  have h2 : ∀ n : Fin 256, ((BitVec.ofNat 16 n <<< 7).extractLsb' 0 7).toNat = 0 := by decide +kernel
  have h3 : ∀ n : Fin 256, ((BitVec.ofNat 16 n <<< 7).extractLsb' (8 + 7) 1 == 1#1) = false := by decide +kernel
  exact ieee_th 7 _ n hn (h1 ⟨n, by omega⟩) (h2 ⟨n, by omega⟩) (h3 ⟨n, by omega⟩)

/-- Either half of the stored word denotes the reference's inverse multiplier. -/
theorem inv_half (y : EReal) (p : Fin 2) :
    Ideal.ofBits .bf16 ((invWord (expo y)).extractLsb' (16 * p) 16) = invRef (expoOfCount y (count y)) := by
  obtain ⟨t, ht, hs⟩ := exists_level y
  have he : expo y = IntOp.addi (expoOfCount y (count y)) 127#32 := expo_eq y
  have hk : expo y = Scalar.select (IntOp.ori (IntOp.cmpi .eq (BitVec.ofNat 32 t) 0#32) (IntOp.cmpi .eq (BitVec.ofNat 32 t) 255#32)) 127#32 (IntOp.addi (BitVec.ofNat 32 t) 1#32) := by
    unfold expo; rw [field_eq y t ht hs]
  obtain ⟨n, hn, hn2, hnE⟩ : ∃ n : ℕ, 2 ≤ n ∧ n ≤ 255 ∧ expo y = BitVec.ofNat 32 n := by
    have : ∀ t : Fin 256, ∃ n : Fin 256, 2 ≤ n.val ∧ Scalar.select (IntOp.ori (IntOp.cmpi .eq (BitVec.ofNat 32 t) 0#32) (IntOp.cmpi .eq (BitVec.ofNat 32 t) 255#32)) 127#32 (IntOp.addi (BitVec.ofNat 32 t) 1#32) = BitVec.ofNat 32 n := by
      intro t
      have : ∀ t : Fin 256, 2 ≤ (Scalar.select (IntOp.ori (IntOp.cmpi .eq (BitVec.ofNat 32 t) 0#32) (IntOp.cmpi .eq (BitVec.ofNat 32 t) 255#32)) 127#32 (IntOp.addi (BitVec.ofNat 32 t) 1#32)).toNat ∧ (Scalar.select (IntOp.ori (IntOp.cmpi .eq (BitVec.ofNat 32 t) 0#32) (IntOp.cmpi .eq (BitVec.ofNat 32 t) 255#32)) 127#32 (IntOp.addi (BitVec.ofNat 32 t) 1#32)).toNat < 256 := by decide +kernel
      exact ⟨⟨_, (this t).2⟩, (this t).1, by rw [BitVec.ofNat_toNat, BitVec.setWidth_eq]⟩
    obtain ⟨n, h1, h2⟩ := this ⟨t, by omega⟩
    exact ⟨n, h1, by omega, hk.trans h2⟩
  have hr : expoOfCount y (count y) = IntOp.subi (BitVec.ofNat 32 n) 127#32 := by
    rw [← hnE, he]; show _ = (_ + 127#32) - 127#32; rw [BitVec.add_sub_cancel]
  rw [hnE, hr]
  have hri : ∀ n : Fin 256, (IntOp.subi (BitVec.ofNat 32 n) 127#32).toInt = (n : ℤ) - 127 := by decide +kernel
  have hrn : ∀ n : Fin 256, (IntOp.subi 0#32 (IntOp.subi (BitVec.ofNat 32 n) 127#32)).toInt = 127 - (n : ℤ) := by decide +kernel
  unfold invRef
  rw [sgt_iff, sel_ofBool, pow2_eq, ofBits_nan, hri ⟨n, by omega⟩, hrn ⟨n, by omega⟩]
  by_cases h5 : n = 255
  · subst h5
    rw [if_pos (by norm_num)]
    have : ∀ p : Fin 2, (invWord (BitVec.ofNat 32 255)).extractLsb' (16 * p) 16 = if p = 0 then 0xFF80#16 else 0xFFFF#16 := by decide +kernel
    rw [this]
    fin_cases p <;> simp [Ideal.ofBits, Ideal.ieee]
  · have hw : ∀ n : Fin 255, ∀ p : Fin 2, (invWord (BitVec.ofNat 32 n)).extractLsb' (16 * p) 16 = BitVec.ofNat 16 (254 - n) <<< 7 := by decide +kernel
    rw [if_neg (by simp; omega), hw ⟨n, by omega⟩ p, ofBits_bf16 _ (by omega)]
    unfold th
    by_cases h4 : n = 254
    · subst h4; simp
    · have c2 : ¬ 127 < 127 - (n : ℤ) := by omega
      have c1 : ¬ 127 - (n : ℤ) < -126 := by omega
      simp only [if_neg c1, if_neg c2, if_neg (show ¬ 254 - n = 0 by omega), if_neg (show ¬ 254 - n = 255 by omega)]
      congr 2
      omega

end Requant
-- ==== Proof.TripBase.lean ====
module

public import proofs.«01_k».proof.Proof.TripV
public import proofs.«01_k».proof.Proof.Scalars
public import Idealize.ShloMosaic.Lib.Pointwise
public import Idealize.ShloMosaic.Lib.Pipeline.Value

@[expose] public section

set_option maxRecDepth 8192
set_option maxHeartbeats 800000

noncomputable section

namespace Cert.KernelIdeal.Hand

open Cert.KernelIdeal Cert.KernelIdeal.Gen
open Idealize.ShloMosaic Requant
open Idealize.ShloMosaic.View

/-! ### The model: what one group of 256 rows is worth, from its dequantised values `W r q` -/

/-- The absolute value, as the idealised operation spells it. -/
def aW (W : ℕ → ℕ → EReal) (r q : ℕ) : EReal := max (W r q) (-(W r q))

/-- The largest absolute value of 32 rows of a column. -/
def amax (W : ℕ → ℕ → EReal) (B q : ℕ) : EReal :=
  (Finset.univ : Finset (Fin 32)).fold max ⊥ (fun i : Fin 32 => aW W (32 * B + i) q)

/-- `amax` times the reciprocal of the largest code. -/
def level (W : ℕ → ℕ → EReal) (B q : ℕ) : EReal := amax W B q * Ideal.ofBits .f32 0x3B124925#32

/-- The code of one value. -/
def code (W : ℕ → ℕ → EReal) (r q : ℕ) : EReal :=
  min (Ideal.ofBits .f32 0x43E00000#32) (max (Ideal.ofBits .f32 0xC3E00000#32)
    (W r q * invRef (expoOfCount (level W (r / 32) q) (count (level W (r / 32) q)))))

theorem le_amax (W : ℕ → ℕ → EReal) (B q r : ℕ) (h1 : 32 * B ≤ r) (h2 : r < 32 * B + 32) : aW W r q ≤ amax W B q := by
  unfold amax
  rw [Finset.le_fold_max]
  exact .inr ⟨⟨r - 32 * B, by omega⟩, Finset.mem_univ _, le_of_eq (by congr 1; simp only; omega)⟩

theorem amax_le (W : ℕ → ℕ → EReal) (B q : ℕ) (c : EReal) (h : ∀ i < 32, aW W (32 * B + i) q ≤ c) : amax W B q ≤ c := by
  unfold amax
  rw [Finset.fold_max_le]
  exact ⟨bot_le, fun i _ => h i i.isLt⟩

/-- What the scratch slab holds at an index once the four column chunks' pieces are stored. -/
def slabG (W : ℕ → ℕ → EReal) (y : S4x72x2x128.Idx) : EReal :=
  max (aW W (32 * ((y 1).val % 9) + (2 * ((y 1).val / 9) + (y 2).val)) (128 * (y 0).val + (y 3).val))
    (aW W (32 * ((y 1).val % 9) + (16 + 2 * ((y 1).val / 9) + (y 2).val)) (128 * (y 0).val + (y 3).val))

/-- The rectangle the piece `r` of column chunk `c` is stored through. -/
def slabRect (c : Fin 4) (r : Fin 8) : Rect S4x72x2x128 where
  off := ![c.val, r.val, 0, 0]
  size := S1x8x2x128.size
  stride := ![1, 9, 1, 1]
  inb := by revert c r; decide
  stride_pos := spos_1_9_1_1

/-- What the code scratch holds at an index. -/
def codeG (W : ℕ → ℕ → EReal) (y : S256x512.Idx) : EReal := code W (y 0).val (y 1).val

/-- The slab's contents at a piece's own index. -/
theorem slab_piece (W : ℕ → ℕ → EReal) (c : Fin 4) (r : Fin 8) (i : Fin 1) (j : Fin 8) (p : Fin 2) (l : Fin 128) :
    slabG W ((slabRect c r).emb (ix4 i j p l))
      = max (aW W (32 * r.val + (2 * j.val + p.val)) (128 * c.val + l.val)) (aW W (32 * r.val + (16 + 2 * j.val + p.val)) (128 * c.val + l.val)) := by
  have hi : i.val = 0 := by omega
  have h0 : ((slabRect c r).emb (ix4 i j p l) 0).val = c.val := by show c.val + 1 * i.val = _; omega
  have h1 : ((slabRect c r).emb (ix4 i j p l) 1).val = r.val + 9 * j.val := rfl
  have h2 : ((slabRect c r).emb (ix4 i j p l) 2).val = p.val := by show 0 + 1 * p.val = _; omega
  have h3 : ((slabRect c r).emb (ix4 i j p l) 3).val = l.val := by show 0 + 1 * l.val = _; omega
  unfold slabG
  rw [h0, h1, h2, h3, show (r.val + 9 * j.val) % 9 = r.val by omega, show (r.val + 9 * j.val) / 9 = j.val by omega]

/-- The rectangle the codes of row block `b` of column chunk `c` are stored through. -/
def codeRect (c : Fin 4) (b : Fin 8) : Rect S256x512 :=
  Rect.unit ![32 * b.val, 128 * c.val] S32x128.size (by revert c b; decide)

/-- The code scratch's contents at a piece's own index. -/
theorem code_piece (W : ℕ → ℕ → EReal) (c : Fin 4) (b : Fin 8) (i : Fin 32) (l : Fin 128) :
    codeG W ((codeRect c b).emb (ix2 i l)) = code W (32 * b.val + i.val) (128 * c.val + l.val) := by
  have h0 : ((codeRect c b).emb (ix2 i l) 0).val = 32 * b.val + i.val := by show 32 * b.val + 1 * i.val = _; omega
  have h1 : ((codeRect c b).emb (ix2 i l) 1).val = 128 * c.val + l.val := by show 128 * c.val + 1 * l.val = _; omega
  unfold codeG
  rw [h0, h1]

/-- A slab read of eight rows of one column chunk. -/
theorem slab_read {sp : Space} (v : View sig .tc sp S4x72x2x128 .bf16) (W : ℕ → ℕ → EReal)
    (L : List (Piece (Elt Ideal) S4x72x2x128 .bf16))
    (hL : ∀ p ∈ L, ∀ x, p.2 x = slabG W (p.1.emb x)) (c : Fin 4) (k : Fin 8)
    (hC : ∀ r : Fin 8, slabRect c r ∈ L.map (·.1))
    (off : Fin S4x72x2x128.rank → ℕ) (hoff : off = ![c.val, 9 * k.val, 0, 0])
    (inb : ∀ a, off a + S1x8x2x128.size a ≤ S4x72x2x128.size a) (r : Fin 8) (p : Fin 2) (l : Fin 128) :
    v.readCov L (Rect.unit (s := S4x72x2x128) off S1x8x2x128.size inb).toLoadRect (ix4 0 r p l)
      = max (aW W (32 * r.val + (2 * k.val + p.val)) (128 * c.val + l.val)) (aW W (32 * r.val + (16 + 2 * k.val + p.val)) (128 * c.val + l.val)) := by
  subst hoff
  rw [View.readCov_eq_canon']
  have h0 : (((Rect.unit (s := S4x72x2x128) ![c.val, 9 * k.val, 0, 0] S1x8x2x128.size inb).toLoadRect.idx (ix4 0 r p l)) 0).val = c.val := by
    show c.val + 1 * 0 = _; omega
  have h1 : (((Rect.unit (s := S4x72x2x128) ![c.val, 9 * k.val, 0, 0] S1x8x2x128.size inb).toLoadRect.idx (ix4 0 r p l)) 1).val = 9 * k.val + r.val := by
    show 9 * k.val + 1 * r.val = _; omega
  have h2 : (((Rect.unit (s := S4x72x2x128) ![c.val, 9 * k.val, 0, 0] S1x8x2x128.size inb).toLoadRect.idx (ix4 0 r p l)) 2).val = p.val := by
    show 0 + 1 * p.val = _; omega
  have h3 : (((Rect.unit (s := S4x72x2x128) ![c.val, 9 * k.val, 0, 0] S1x8x2x128.size inb).toLoadRect.idx (ix4 0 r p l)) 3).val = l.val := by
    show 0 + 1 * l.val = _; omega
  show View.canon L _ = _
  rw [View.canon_apply_of_pieces (slabG W) L hL]
  · unfold slabG
    rw [h0, h1, h2, h3, show (9 * k.val + r.val) % 9 = r.val by omega, show (9 * k.val + r.val) / 9 = k.val by omega]
  · obtain ⟨q, hq, hqr⟩ := List.mem_map.mp (hC r)
    refine ⟨q, hq, ?_⟩
    rw [hqr, LoadRect.mem_set]
    intro a
    match a with
    | ⟨0, _⟩ => exact ⟨0, Nat.one_pos, by rw [show (⟨0, _⟩ : Fin 4) = 0 from rfl, h0]; rfl⟩
    | ⟨1, _⟩ => exact ⟨k.val, k.isLt, by rw [show (⟨1, _⟩ : Fin 4) = 1 from rfl, h1]; show _ = r.val + 9 * k.val; omega⟩
    | ⟨2, _⟩ => exact ⟨p.val, p.isLt, by rw [show (⟨2, _⟩ : Fin 4) = 2 from rfl, h2]; show _ = 0 + 1 * p.val; omega⟩
    | ⟨3, _⟩ => exact ⟨l.val, l.isLt, by rw [show (⟨3, _⟩ : Fin 4) = 3 from rfl, h3]; show _ = 0 + 1 * l.val; omega⟩

/-- One row of the stored inverse multipliers, read back. -/
theorem inv_read {sp : Space} (v : View sig .tc sp S4x8x128 .i32) (c : Fin 4) (b : Fin 8)
    (L : List (Piece (Elt Ideal) S4x8x128 .i32)) (off1 off2 : Fin S4x8x128.rank → ℕ) (h1 : off1 = ![c.val, 0, 0]) (h2 : off2 = ![c.val, b.val, 0])
    (inb1 : ∀ a, off1 a + S1x8x128.size a ≤ S4x8x128.size a) (inb2 : ∀ a, off2 a + S1x1x128.size a ≤ S4x8x128.size a)
    (w : (Rect.unit (s := S4x8x128) off1 S1x8x128.size inb1).shape.Idx → Elt Ideal .i32) (l : Fin 128) :
    v.readCov (⟨Rect.unit (s := S4x8x128) off1 S1x8x128.size inb1, w⟩ :: L) (Rect.unit (s := S4x8x128) off2 S1x1x128.size inb2).toLoadRect (ix3 0 0 l)
      = w (ix3 0 b l) := by
  subst h1; subst h2
  rw [View.readCov_eq_canon']
  have : (Rect.unit (s := S4x8x128) ![c.val, b.val, 0] S1x1x128.size inb2).toLoadRect.idx (ix3 0 0 l)
      = (Rect.unit (s := S4x8x128) ![c.val, 0, 0] S1x8x128.size inb1).emb (ix3 0 b l) := by
    funext a; apply Fin.ext
    match a with
    | ⟨0, _⟩ => rfl
    | ⟨1, _⟩ => show b.val + 1 * 0 = 0 + 1 * b.val; omega
    | ⟨2, _⟩ => rfl
  show View.canon _ _ = _
  rw [this, View.canon_cons_emb]

/-- The bits a fold of single bits gathers. -/
theorem foldl_bits {w : ℕ} (f : Fin w → Bool) (n : ℕ) (hn : n < w) : ∀ (L : List (Fin w)) (acc : BitVec w),
    (L.foldl (fun acc q => if f q then acc ||| BitVec.twoPow w q.val else acc) acc).getLsbD n
      = (acc.getLsbD n || (decide (⟨n, hn⟩ ∈ L) && f ⟨n, hn⟩))
  | [], acc => by simp
  | q :: L, acc => by
    rw [List.foldl_cons, foldl_bits f n hn L]
    by_cases h : q = ⟨n, hn⟩
    · subst h
      cases hf : f ⟨n, hn⟩ <;> simp [hf, hn]
    · have h' : q.val ≠ n := fun e => h (Fin.ext e)
      have h2 : ¬ (⟨n, hn⟩ : Fin w) = q := fun e => h e.symm
      cases hf : f q <;> simp [h', h2]

/-- A half of a word. -/
theorem bitcast_half (x : IVec S8x128 32) (i : Fin 16) (l : Fin 128) :
    bitcast S16x128 16 x bitcasts_S8x128_w32_S16x128_w16 (ix2 i l)
      = (x (ix2 ⟨i.val / 2, by omega⟩ l)).extractLsb' (16 * (i.val % 2)) 16 := by
  have hrow : S16x128.row (ix2 i l) = i.val := rfl
  apply BitVec.eq_of_getLsbD_eq
  intro n hn
  unfold bitcast
  rw [foldl_bits _ n hn]
  simp only [BitVec.getLsbD_extractLsb', hn, decide_true, Bool.true_and, List.mem_finRange]
  have hz : (0#16).getLsbD n = false := by simp
  refine (congrArg (fun b => b || _) hz).trans ?_
  rw [Bool.false_or]
  rw [show (S16x128.row (ix2 i l) * 16 + n) % 32 = 16 * (i.val % 2) + n by rw [hrow]; omega]
  congr 2
  funext a
  apply Fin.ext
  match a with
  | ⟨0, _⟩ => show (S16x128.row (ix2 i l) * 16 + n) / 32 = i.val / 2; rw [hrow]; omega
  | ⟨1, _⟩ => rfl

/-- The codes read back: a square of the code scratch. -/
theorem code_read {sp : Space} (v : View sig .tc sp S256x512 .fp8e4m3) (W : ℕ → ℕ → EReal)
    (L : List (Piece (Elt Ideal) S256x512 .fp8e4m3))
    (hL : ∀ p ∈ L, ∀ x, p.2 x = codeG W (p.1.emb x)) (hC : ∀ (c : Fin 4) (b : Fin 8), codeRect c b ∈ L.map (·.1))
    (o : Fin 2) (off : Fin S256x512.rank → ℕ) (hoff : off = ![0, 256 * o.val])
    (inb : ∀ a, off a + S256x256.size a ≤ S256x512.size a) (r q : Fin 256) :
    v.readCov L (Rect.unit (s := S256x512) off S256x256.size inb).toLoadRect (ix2 r q) = code W r.val (256 * o.val + q.val) := by
  subst hoff
  rw [View.readCov_eq_canon']
  have h0 : (((Rect.unit (s := S256x512) ![0, 256 * o.val] S256x256.size inb).toLoadRect.idx (ix2 r q)) 0).val = r.val := by
    show 0 + 1 * r.val = _; omega
  have h1 : (((Rect.unit (s := S256x512) ![0, 256 * o.val] S256x256.size inb).toLoadRect.idx (ix2 r q)) 1).val = 256 * o.val + q.val := by
    show 256 * o.val + 1 * q.val = _; omega
  show View.canon L _ = _
  rw [View.canon_apply_of_pieces (codeG W) L hL]
  · unfold codeG
    rw [h0, h1]
  · obtain ⟨p, hp, hpr⟩ := List.mem_map.mp (hC ⟨(256 * o.val + q.val) / 128, by omega⟩ ⟨r.val / 32, by omega⟩)
    refine ⟨p, hp, ?_⟩
    rw [hpr, LoadRect.mem_set]
    intro a
    match a with
    | ⟨0, _⟩ => exact ⟨r.val % 32, Nat.mod_lt _ (by omega), by rw [show (⟨0, _⟩ : Fin 2) = 0 from rfl, h0]; show _ = 32 * (r.val / 32) + 1 * (r.val % 32); omega⟩
    | ⟨1, _⟩ => exact ⟨(256 * o.val + q.val) % 128, Nat.mod_lt _ (by omega), by rw [show (⟨1, _⟩ : Fin 2) = 1 from rfl, h1]; show _ = 128 * ((256 * o.val + q.val) / 128) + 1 * ((256 * o.val + q.val) % 128); omega⟩

/-! ### The bisection, a whole vector at a time -/

/-- One step of the bisection on vectors. -/
def vstep (y : FVec Ideal S8x128 .f32) (c : BitVec 32) (t : IVec S8x128 32) : IVec S8x128 32 :=
  select (cmpf .oge y (bitcastToFloat .f32 (shli (addi t (broadcast S8x128 c)) (broadcast S8x128 23#32)))) (addi t (broadcast S8x128 c)) t

/-- The exponents from the fields found. -/
def vexpo (t : IVec S8x128 32) : IVec S8x128 32 :=
  select (ori (cmpi .eq t (broadcast S8x128 0#32)) (cmpi .eq t (broadcast S8x128 255#32))) (broadcast S8x128 127#32) (addi t (broadcast S8x128 1#32))

theorem vstep_apply (y : FVec Ideal S8x128 .f32) (c : BitVec 32) (t : IVec S8x128 32) (i : S8x128.Idx) : vstep y c t i = step (y i) c (t i) := rfl

theorem vexpo_apply (y : FVec Ideal S8x128 .f32) (i : S8x128.Idx) :
    vexpo (vstep y 1#32 (vstep y 2#32 (vstep y 4#32 (vstep y 8#32 (vstep y 16#32 (vstep y 32#32 (vstep y 64#32 (vstep y 128#32 (broadcast S8x128 0#32))))))))) i = expo (y i) := by
  show Scalar.select (IntOp.ori (IntOp.cmpi .eq (vstep y _ _ i) 0#32) (IntOp.cmpi .eq (vstep y _ _ i) 255#32)) 127#32 (IntOp.addi (vstep y _ _ i) 1#32) = _
  simp only [vstep_apply]
  rfl

theorem bis_pay32 (a b : FVec Ideal S8x128 .f32) : k0_pay32 a b = vstep (k0_pay31 a b) 4#32 (vstep (k0_pay31 a b) 8#32 (vstep (k0_pay31 a b) 16#32 (vstep (k0_pay31 a b) 32#32 (vstep (k0_pay31 a b) 64#32 (vstep (k0_pay31 a b) 128#32 (broadcast S8x128 0#32)))))) := rfl

theorem bis_pay34 (y : FVec Ideal S8x128 .f32) (u : IVec S8x128 32) : k0_pay34 y u (addi u (broadcast S8x128 2#32)) = vexpo (vstep y 1#32 (vstep y 2#32 u)) := rfl

theorem bis_pay78 (a b c d e) : k0_pay78 (F := Ideal) a b c d e = vstep (k0_pay77 a b c d e) 64#32 (vstep (k0_pay77 a b c d e) 128#32 (broadcast S8x128 0#32)) := rfl

theorem bis_pay83 (y : FVec Ideal S8x128 .f32) (u : IVec S8x128 32) :
    k0_pay83 (k0_pay81 y u (addi u (broadcast S8x128 32#32)) 23#32) (k0_pay82 y u (addi u (broadcast S8x128 32#32)) 23#32)
      = vexpo (vstep y 1#32 (vstep y 2#32 (vstep y 4#32 (vstep y 8#32 (vstep y 16#32 (vstep y 32#32 u)))))) := rfl

theorem bis_pay121 (a b) : k0_pay121 (F := Ideal) a b = vstep (k0_pay120 a b) 8#32 (vstep (k0_pay120 a b) 16#32 (vstep (k0_pay120 a b) 32#32 (vstep (k0_pay120 a b) 64#32 (vstep (k0_pay120 a b) 128#32 (broadcast S8x128 0#32))))) := rfl

theorem bis_pay123 (y : FVec Ideal S8x128 .f32) (u : IVec S8x128 32) : k0_pay123 y u k0_pay122 = vexpo (vstep y 1#32 (vstep y 2#32 (vstep y 4#32 u))) := rfl

theorem bis_pay156 (a b c d e f) : k0_pay156 (F := Ideal) a b c d e f = vstep (k0_pay155 a b c d e f) 128#32 (broadcast S8x128 0#32) := rfl

theorem bis_pay159 (y : FVec Ideal S8x128 .f32) (u : IVec S8x128 32) : k0_pay159 (k0_pay158 y u (addi u (broadcast S8x128 64#32)))
    = vexpo (vstep y 1#32 (vstep y 2#32 (vstep y 4#32 (vstep y 8#32 (vstep y 16#32 (vstep y 32#32 (vstep y 64#32 u))))))) := rfl

end Cert.KernelIdeal.Hand
-- ==== Proof.Vals.lean ====
module

public import proofs.«01_k».proof.Proof.TripBase
public import Idealize.ShloMosaic.Lib.ValueLayout

@[expose] public section

set_option maxRecDepth 8192
set_option maxHeartbeats 400000

noncomputable section

namespace Cert.KernelIdeal.Hand

open Cert.KernelIdeal Cert.KernelIdeal.Gen
open Idealize.ShloMosaic Requant
open Idealize.ShloMosaic.View

variable (arg3 : Memref sig .tc .vmem S1x4096x512 .fp8e4m3) (arg8 : Memref sig .tc .vmem S4096x128 .bf16)
  (arg2 : BitVec 32) (k : Fin k0_t2_loop.trips)
  (f_arg3 : arg3.view.ty.Contents (Elt Ideal)) (f_arg8 : arg8.view.ty.Contents (Elt Ideal))

/-- The group's rows of the table, as loaded. -/
theorem tab_read (r : Fin 256) (g : Fin 128) (h1 : 256 * k.val + r.val < 4096) :
    tripV.sl.r_20 (F := Ideal) arg8 k f_arg8 (ix2 r g) = arg8.view.read (Elt Ideal) f_arg8 (ix2 ⟨256 * k.val + r.val, h1⟩ g) := by
  unfold tripV.sl.r_20
  refine congrArg (arg8.view.read (Elt Ideal) f_arg8) (funext fun a => Fin.ext ?_)
  have h := k0_off6_eq k
  match a with
  | ⟨0, _⟩ => show k0_off6 k 0 + 1 * r.val = 256 * k.val + r.val; rw [h]; show 256 * k.val + 1 * r.val = _; omega
  | ⟨1, _⟩ => show k0_off6 k 1 + 1 * g.val = g.val; rw [h]; show 0 + 1 * g.val = _; omega

theorem tab_read' (r : Fin 256) (g : Fin 128) (h1 : 256 * k.val + r.val < 4096) :
    tripV.sl.r_1 (F := Ideal) arg8 k f_arg8 (ix2 r g) = arg8.view.read (Elt Ideal) f_arg8 (ix2 ⟨256 * k.val + r.val, h1⟩ g) := by
  have := tab_read arg8 k f_arg8 r g h1
  pointwise [tripV.sl.r_1, k0_pay10]
  exact this

/-- The group's rows of column chunk 0, as loaded. -/
theorem x_read0 (r : Fin 256) (l : Fin 128) (h1 : 256 * k.val + r.val < 4096) (h2 : 128 * 0 + l.val < 512) :
    tripV.sl.v78 (F := Ideal) arg3 k f_arg3 (ix2 r l) = arg3.view.read (Elt Ideal) f_arg3 (ix3 0 ⟨256 * k.val + r.val, h1⟩ ⟨128 * 0 + l.val, h2⟩) := by
  unfold tripV.sl.v78
  have h := k0_off7_eq k
  have e : ∀ (inb : ∀ a, k0_off7 k a + S256x128.size a ≤ S4096x512.size a), (Rect.unit (s := S4096x512) (k0_off7 k) S256x128.size inb).toLoadRect.idx (ix2 r l) = ix2 ⟨256 * k.val + r.val, h1⟩ ⟨128 * 0 + l.val, h2⟩ := by
    intro inb
    funext a; apply Fin.ext
    match a with
    | ⟨0, _⟩ => show k0_off7 k 0 + 1 * r.val = 256 * k.val + r.val; rw [h]; show 256 * k.val + 1 * r.val = _; omega
    | ⟨1, _⟩ => show k0_off7 k 1 + 1 * l.val = 128 * 0 + l.val; rw [h]; show 0 + 1 * l.val = _; omega
  rw [readAt_apply, e]
  refine (congrArg (View.read (Elt Ideal) (arg3.slice (Rect.unit ![0, 0, 0] S1x4096x512.size Gen.inb_S1x4096x512_S1x4096x512_0_0_0) (by first | exact fun _ => rfl | decide)).view f_arg3) (ValueIdx.reshapeEquiv_ix2_1ab _ _ _)).trans ?_
  refine congrArg (arg3.view.read (Elt Ideal) f_arg3) (funext fun a => Fin.ext ?_)
  match a with
  | ⟨0, _⟩ => rfl
  | ⟨1, _⟩ => show 0 + 1 * (256 * k.val + r.val) = 256 * k.val + r.val; omega
  | ⟨2, _⟩ => show 0 + 1 * (128 * 0 + l.val) = 128 * 0 + l.val; omega

/-- The group's rows of column chunk 1, as loaded. -/
theorem x_read1 (r : Fin 256) (l : Fin 128) (h1 : 256 * k.val + r.val < 4096) (h2 : 128 * 1 + l.val < 512) :
    tripV.sl.v472 (F := Ideal) arg3 k f_arg3 (ix2 r l) = arg3.view.read (Elt Ideal) f_arg3 (ix3 0 ⟨256 * k.val + r.val, h1⟩ ⟨128 * 1 + l.val, h2⟩) := by
  unfold tripV.sl.v472
  have h := k0_off9_eq k
  have e : ∀ (inb : ∀ a, k0_off9 k a + S256x128.size a ≤ S4096x512.size a), (Rect.unit (s := S4096x512) (k0_off9 k) S256x128.size inb).toLoadRect.idx (ix2 r l) = ix2 ⟨256 * k.val + r.val, h1⟩ ⟨128 * 1 + l.val, h2⟩ := by
    intro inb
    funext a; apply Fin.ext
    match a with
    | ⟨0, _⟩ => show k0_off9 k 0 + 1 * r.val = 256 * k.val + r.val; rw [h]; show 256 * k.val + 1 * r.val = _; omega
    | ⟨1, _⟩ => show k0_off9 k 1 + 1 * l.val = 128 * 1 + l.val; rw [h]; show 128 + 1 * l.val = _; omega
  rw [readAt_apply, e]
  refine (congrArg (View.read (Elt Ideal) (arg3.slice (Rect.unit ![0, 0, 0] S1x4096x512.size Gen.inb_S1x4096x512_S1x4096x512_0_0_0) (by first | exact fun _ => rfl | decide)).view f_arg3) (ValueIdx.reshapeEquiv_ix2_1ab _ _ _)).trans ?_
  refine congrArg (arg3.view.read (Elt Ideal) f_arg3) (funext fun a => Fin.ext ?_)
  match a with
  | ⟨0, _⟩ => rfl
  | ⟨1, _⟩ => show 0 + 1 * (256 * k.val + r.val) = 256 * k.val + r.val; omega
  | ⟨2, _⟩ => show 0 + 1 * (128 * 1 + l.val) = 128 * 1 + l.val; omega

/-- The group's rows of column chunk 2, as loaded. -/
theorem x_read2 (r : Fin 256) (l : Fin 128) (h1 : 256 * k.val + r.val < 4096) (h2 : 128 * 2 + l.val < 512) :
    tripV.sl.v866 (F := Ideal) arg3 k f_arg3 (ix2 r l) = arg3.view.read (Elt Ideal) f_arg3 (ix3 0 ⟨256 * k.val + r.val, h1⟩ ⟨128 * 2 + l.val, h2⟩) := by
  unfold tripV.sl.v866
  have h := k0_off11_eq k
  have e : ∀ (inb : ∀ a, k0_off11 k a + S256x128.size a ≤ S4096x512.size a), (Rect.unit (s := S4096x512) (k0_off11 k) S256x128.size inb).toLoadRect.idx (ix2 r l) = ix2 ⟨256 * k.val + r.val, h1⟩ ⟨128 * 2 + l.val, h2⟩ := by
    intro inb
    funext a; apply Fin.ext
    match a with
    | ⟨0, _⟩ => show k0_off11 k 0 + 1 * r.val = 256 * k.val + r.val; rw [h]; show 256 * k.val + 1 * r.val = _; omega
    | ⟨1, _⟩ => show k0_off11 k 1 + 1 * l.val = 128 * 2 + l.val; rw [h]; show 256 + 1 * l.val = _; omega
  rw [readAt_apply, e]
  refine (congrArg (View.read (Elt Ideal) (arg3.slice (Rect.unit ![0, 0, 0] S1x4096x512.size Gen.inb_S1x4096x512_S1x4096x512_0_0_0) (by first | exact fun _ => rfl | decide)).view f_arg3) (ValueIdx.reshapeEquiv_ix2_1ab _ _ _)).trans ?_
  refine congrArg (arg3.view.read (Elt Ideal) f_arg3) (funext fun a => Fin.ext ?_)
  match a with
  | ⟨0, _⟩ => rfl
  | ⟨1, _⟩ => show 0 + 1 * (256 * k.val + r.val) = 256 * k.val + r.val; omega
  | ⟨2, _⟩ => show 0 + 1 * (128 * 2 + l.val) = 128 * 2 + l.val; omega

/-- The group's rows of column chunk 3, as loaded. -/
theorem x_read3 (r : Fin 256) (l : Fin 128) (h1 : 256 * k.val + r.val < 4096) (h2 : 128 * 3 + l.val < 512) :
    tripV.sl.v1260 (F := Ideal) arg3 k f_arg3 (ix2 r l) = arg3.view.read (Elt Ideal) f_arg3 (ix3 0 ⟨256 * k.val + r.val, h1⟩ ⟨128 * 3 + l.val, h2⟩) := by
  unfold tripV.sl.v1260
  have h := k0_off13_eq k
  have e : ∀ (inb : ∀ a, k0_off13 k a + S256x128.size a ≤ S4096x512.size a), (Rect.unit (s := S4096x512) (k0_off13 k) S256x128.size inb).toLoadRect.idx (ix2 r l) = ix2 ⟨256 * k.val + r.val, h1⟩ ⟨128 * 3 + l.val, h2⟩ := by
    intro inb
    funext a; apply Fin.ext
    match a with
    | ⟨0, _⟩ => show k0_off13 k 0 + 1 * r.val = 256 * k.val + r.val; rw [h]; show 256 * k.val + 1 * r.val = _; omega
    | ⟨1, _⟩ => show k0_off13 k 1 + 1 * l.val = 128 * 3 + l.val; rw [h]; show 384 + 1 * l.val = _; omega
  rw [readAt_apply, e]
  refine (congrArg (View.read (Elt Ideal) (arg3.slice (Rect.unit ![0, 0, 0] S1x4096x512.size Gen.inb_S1x4096x512_S1x4096x512_0_0_0) (by first | exact fun _ => rfl | decide)).view f_arg3) (ValueIdx.reshapeEquiv_ix2_1ab _ _ _)).trans ?_
  refine congrArg (arg3.view.read (Elt Ideal) f_arg3) (funext fun a => Fin.ext ?_)
  match a with
  | ⟨0, _⟩ => rfl
  | ⟨1, _⟩ => show 0 + 1 * (256 * k.val + r.val) = 256 * k.val + r.val; omega
  | ⟨2, _⟩ => show 0 + 1 * (128 * 3 + l.val) = 128 * 3 + l.val; omega

/-- The dequantised values of column chunk 0. -/
theorem val0 (d : Fin 7) (hd : arg2 = BitVec.ofNat 32 d.val) (r : Fin 256) (l : Fin 128) (h1 : 256 * k.val + r.val < 4096) :
    tripV.sl.r_2 (F := Ideal) arg3 arg8 arg2 k f_arg3 f_arg8 (ix2 r l)
      = arg3.view.read (Elt Ideal) f_arg3 (ix3 0 ⟨256 * k.val + r.val, h1⟩ ⟨128 * 0 + l.val, by omega⟩)
        * arg8.view.read (Elt Ideal) f_arg8 (ix2 ⟨256 * k.val + r.val, h1⟩ ⟨16 * d.val + 0 + l.val / 32, by omega⟩) := by
  subst hd
  rw [← x_read0 arg3 k f_arg3 r l h1, ← tab_read' arg8 k f_arg8 r _ h1]
  pointwise [tripV.sl.r_2, k0_pay12, k0_pay11]
  refine congrArg (fun j => tripV.sl.v78 arg3 k f_arg3 (ix2 r l) * tripV.sl.r_1 arg8 k f_arg8 (ix2 r j)) (Fin.ext ?_)
  dsimp only
  clear h1 r
  revert d l
  decide +kernel

/-- Their absolute values. -/
theorem abs0 (W : ℕ → ℕ → EReal) (hV : ∀ (r : Fin 256) (l : Fin 128), tripV.sl.r_2 (F := Ideal) arg3 arg8 arg2 k f_arg3 f_arg8 (ix2 r l) = W r (128 * 0 + l))
    (r : Fin 256) (l : Fin 128) : tripV.sl.r_3 (F := Ideal) arg3 arg8 arg2 k f_arg3 f_arg8 (ix2 r l) = aW W r (128 * 0 + l) := by
  have h := hV r l
  unfold tripV.sl.r_2 at h
  unfold tripV.sl.r_3 aW k0_pay13
  rw [← h]
  rfl

/-- The dequantised values of column chunk 1. -/
theorem val1 (d : Fin 7) (hd : arg2 = BitVec.ofNat 32 d.val) (r : Fin 256) (l : Fin 128) (h1 : 256 * k.val + r.val < 4096) :
    tripV.sl.r_21 (F := Ideal) arg3 arg8 arg2 k f_arg3 f_arg8 (ix2 r l)
      = arg3.view.read (Elt Ideal) f_arg3 (ix3 0 ⟨256 * k.val + r.val, h1⟩ ⟨128 * 1 + l.val, by omega⟩)
        * arg8.view.read (Elt Ideal) f_arg8 (ix2 ⟨256 * k.val + r.val, h1⟩ ⟨16 * d.val + 4 + l.val / 32, by omega⟩) := by
  subst hd
  rw [← x_read1 arg3 k f_arg3 r l h1, ← tab_read arg8 k f_arg8 r _ h1]
  pointwise [tripV.sl.r_21, k0_pay54, k0_pay51, k0_pay52, k0_pay53, tripV.sl.v430]
  refine congrArg (fun j => tripV.sl.v472 arg3 k f_arg3 (ix2 r l) * tripV.sl.r_20 arg8 k f_arg8 (ix2 r j)) (Fin.ext ?_)
  dsimp only
  clear h1 r
  revert d l
  decide +kernel

/-- Their absolute values. -/
theorem abs1 (W : ℕ → ℕ → EReal) (hV : ∀ (r : Fin 256) (l : Fin 128), tripV.sl.r_21 (F := Ideal) arg3 arg8 arg2 k f_arg3 f_arg8 (ix2 r l) = W r (128 * 1 + l))
    (r : Fin 256) (l : Fin 128) : tripV.sl.r_22 (F := Ideal) arg3 arg8 arg2 k f_arg3 f_arg8 (ix2 r l) = aW W r (128 * 1 + l) := by
  have h := hV r l
  unfold tripV.sl.r_21 at h
  unfold tripV.sl.r_22 aW k0_pay55
  rw [← h]
  rfl

/-- The dequantised values of column chunk 2. -/
theorem val2 (d : Fin 7) (hd : arg2 = BitVec.ofNat 32 d.val) (r : Fin 256) (l : Fin 128) (h1 : 256 * k.val + r.val < 4096) :
    tripV.sl.r_43 (F := Ideal) arg3 arg8 arg2 k f_arg3 f_arg8 (ix2 r l)
      = arg3.view.read (Elt Ideal) f_arg3 (ix3 0 ⟨256 * k.val + r.val, h1⟩ ⟨128 * 2 + l.val, by omega⟩)
        * arg8.view.read (Elt Ideal) f_arg8 (ix2 ⟨256 * k.val + r.val, h1⟩ ⟨16 * d.val + 8 + l.val / 32, by omega⟩) := by
  subst hd
  rw [← x_read2 arg3 k f_arg3 r l h1, ← tab_read arg8 k f_arg8 r _ h1]
  pointwise [tripV.sl.r_43, k0_pay100, k0_pay98, k0_pay99]
  refine congrArg (fun j => tripV.sl.v866 arg3 k f_arg3 (ix2 r l) * tripV.sl.r_20 arg8 k f_arg8 (ix2 r j)) (Fin.ext ?_)
  dsimp only
  clear h1 r
  revert d l
  decide +kernel

/-- Their absolute values. -/
theorem abs2 (W : ℕ → ℕ → EReal) (hV : ∀ (r : Fin 256) (l : Fin 128), tripV.sl.r_43 (F := Ideal) arg3 arg8 arg2 k f_arg3 f_arg8 (ix2 r l) = W r (128 * 2 + l))
    (r : Fin 256) (l : Fin 128) : tripV.sl.r_44 (F := Ideal) arg3 arg8 arg2 k f_arg3 f_arg8 (ix2 r l) = aW W r (128 * 2 + l) := by
  have h := hV r l
  unfold tripV.sl.r_43 at h
  unfold tripV.sl.r_44 aW k0_pay101
  rw [← h]
  rfl

/-- The dequantised values of column chunk 3. -/
theorem val3 (d : Fin 7) (hd : arg2 = BitVec.ofNat 32 d.val) (r : Fin 256) (l : Fin 128) (h1 : 256 * k.val + r.val < 4096) :
    tripV.sl.r_58 (F := Ideal) arg3 arg8 arg2 k f_arg3 f_arg8 (ix2 r l)
      = arg3.view.read (Elt Ideal) f_arg3 (ix3 0 ⟨256 * k.val + r.val, h1⟩ ⟨128 * 3 + l.val, by omega⟩)
        * arg8.view.read (Elt Ideal) f_arg8 (ix2 ⟨256 * k.val + r.val, h1⟩ ⟨16 * d.val + 12 + l.val / 32, by omega⟩) := by
  subst hd
  rw [← x_read3 arg3 k f_arg3 r l h1, ← tab_read arg8 k f_arg8 r _ h1]
  pointwise [tripV.sl.r_58, k0_pay135, tripV.sl.v430]
  refine congrArg (fun j => tripV.sl.v1260 arg3 k f_arg3 (ix2 r l) * tripV.sl.r_20 arg8 k f_arg8 (ix2 r j)) (Fin.ext ?_)
  dsimp only
  clear h1 r
  revert d l
  decide +kernel

/-- Their absolute values. -/
theorem abs3 (W : ℕ → ℕ → EReal) (hV : ∀ (r : Fin 256) (l : Fin 128), tripV.sl.r_58 (F := Ideal) arg3 arg8 arg2 k f_arg3 f_arg8 (ix2 r l) = W r (128 * 3 + l))
    (r : Fin 256) (l : Fin 128) : tripV.sl.r_59 (F := Ideal) arg3 arg8 arg2 k f_arg3 f_arg8 (ix2 r l) = aW W r (128 * 3 + l) := by
  have h := hV r l
  unfold tripV.sl.r_58 at h
  unfold tripV.sl.r_59 aW k0_pay136
  rw [← h]
  rfl

end Cert.KernelIdeal.Hand
-- ==== Proof.Slab0.lean ====
module

public import proofs.«01_k».proof.Proof.TripBase

@[expose] public section

set_option maxRecDepth 8192
set_option maxHeartbeats 4000000

noncomputable section

namespace Cert.KernelIdeal.Hand

open Cert.KernelIdeal Cert.KernelIdeal.Gen
open Idealize.ShloMosaic Requant
open Idealize.ShloMosaic.View

variable (arg3 : Memref sig .tc .vmem S1x4096x512 .fp8e4m3) (arg8 : Memref sig .tc .vmem S4096x128 .bf16)
  (arg11 : Memref sig .tc .vmem S4x72x2x128 .bf16) (arg12 : Memref sig .tc .vmem S4x8x128 .i32) (arg13 : Memref sig .tc .vmem S256x512 .fp8e4m3)
  (arg2 : BitVec 32) (k : Fin k0_t2_loop.trips)
  (f_arg3 : arg3.view.ty.Contents (Elt Ideal)) (f_arg8 : arg8.view.ty.Contents (Elt Ideal))

theorem slabPiece_0_7 (W : ℕ → ℕ → EReal)
    (hA : ∀ (r : Fin 256) (l : Fin 128), tripV.sl.r_3 (F := Ideal) arg3 arg8 arg2 k f_arg3 f_arg8 (ix2 r l) = aW W r (128 * 0 + l))
    (i : Fin 1) (j : Fin 8) (p : Fin 2) (l : Fin 128) :
    (k0_pay27 (tripV.sl.r_3 arg3 arg8 arg2 k f_arg3 f_arg8) : S1x8x2x128.Idx → EReal) (ix4 i j p l)
      = max (aW W (224 + (2 * j.val + p.val)) (128 * 0 + l.val)) (aW W (224 + (16 + 2 * j.val + p.val)) (128 * 0 + l.val)) := by
  simp only [tripV.sl.r_3] at hA
  fin_cases p <;> pointwise [tripV.sl.r_3, k0_pay27] <;> simp only [hA] <;> norm_num <;> (try rfl) <;> congr 2 <;> omega

/-- The piece 7 of column chunk 0. -/
theorem slab0_7 (W : ℕ → ℕ → EReal)
    (hA : ∀ (r : Fin 256) (l : Fin 128), tripV.sl.r_3 (F := Ideal) arg3 arg8 arg2 k f_arg3 f_arg8 (ix2 r l) = aW W r (128 * 0 + l)) (x : (slabRect 0 7).shape.Idx) :
    (k0_pay27 (tripV.sl.r_3 arg3 arg8 arg2 k f_arg3 f_arg8) : S1x8x2x128.Idx → EReal) x = slabG W ((slabRect 0 7).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_0_7 arg3 arg8 arg2 k f_arg3 f_arg8 W hA i j p l).trans (slab_piece W 0 7 i j p l).symm

theorem slabPiece_0_6 (W : ℕ → ℕ → EReal)
    (hA : ∀ (r : Fin 256) (l : Fin 128), tripV.sl.r_3 (F := Ideal) arg3 arg8 arg2 k f_arg3 f_arg8 (ix2 r l) = aW W r (128 * 0 + l))
    (i : Fin 1) (j : Fin 8) (p : Fin 2) (l : Fin 128) :
    (k0_pay26 (tripV.sl.r_7 arg3 arg8 arg2 k f_arg3 f_arg8) (tripV.sl.r_8 arg3 arg8 arg2 k f_arg3 f_arg8) : S1x8x2x128.Idx → EReal) (ix4 i j p l)
      = max (aW W (192 + (2 * j.val + p.val)) (128 * 0 + l.val)) (aW W (192 + (16 + 2 * j.val + p.val)) (128 * 0 + l.val)) := by
  simp only [tripV.sl.r_3] at hA
  fin_cases p <;> pointwise [tripV.sl.r_3, tripV.sl.r_7, tripV.sl.r_8, k0_pay26, k0_pay24, k0_pay25] <;> simp only [hA] <;> norm_num <;> (try rfl) <;> congr 2 <;> omega

/-- The piece 6 of column chunk 0. -/
theorem slab0_6 (W : ℕ → ℕ → EReal)
    (hA : ∀ (r : Fin 256) (l : Fin 128), tripV.sl.r_3 (F := Ideal) arg3 arg8 arg2 k f_arg3 f_arg8 (ix2 r l) = aW W r (128 * 0 + l)) (x : (slabRect 0 6).shape.Idx) :
    (k0_pay26 (tripV.sl.r_7 arg3 arg8 arg2 k f_arg3 f_arg8) (tripV.sl.r_8 arg3 arg8 arg2 k f_arg3 f_arg8) : S1x8x2x128.Idx → EReal) x = slabG W ((slabRect 0 6).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_0_6 arg3 arg8 arg2 k f_arg3 f_arg8 W hA i j p l).trans (slab_piece W 0 6 i j p l).symm

theorem slabPiece_0_5 (W : ℕ → ℕ → EReal)
    (hA : ∀ (r : Fin 256) (l : Fin 128), tripV.sl.r_3 (F := Ideal) arg3 arg8 arg2 k f_arg3 f_arg8 (ix2 r l) = aW W r (128 * 0 + l))
    (i : Fin 1) (j : Fin 8) (p : Fin 2) (l : Fin 128) :
    (k0_pay23 (tripV.sl.r_3 arg3 arg8 arg2 k f_arg3 f_arg8) : S1x8x2x128.Idx → EReal) (ix4 i j p l)
      = max (aW W (160 + (2 * j.val + p.val)) (128 * 0 + l.val)) (aW W (160 + (16 + 2 * j.val + p.val)) (128 * 0 + l.val)) := by
  simp only [tripV.sl.r_3] at hA
  fin_cases p <;> pointwise [tripV.sl.r_3, k0_pay23] <;> simp only [hA] <;> norm_num <;> (try rfl) <;> congr 2 <;> omega

/-- The piece 5 of column chunk 0. -/
theorem slab0_5 (W : ℕ → ℕ → EReal)
    (hA : ∀ (r : Fin 256) (l : Fin 128), tripV.sl.r_3 (F := Ideal) arg3 arg8 arg2 k f_arg3 f_arg8 (ix2 r l) = aW W r (128 * 0 + l)) (x : (slabRect 0 5).shape.Idx) :
    (k0_pay23 (tripV.sl.r_3 arg3 arg8 arg2 k f_arg3 f_arg8) : S1x8x2x128.Idx → EReal) x = slabG W ((slabRect 0 5).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_0_5 arg3 arg8 arg2 k f_arg3 f_arg8 W hA i j p l).trans (slab_piece W 0 5 i j p l).symm

theorem slabPiece_0_4 (W : ℕ → ℕ → EReal)
    (hA : ∀ (r : Fin 256) (l : Fin 128), tripV.sl.r_3 (F := Ideal) arg3 arg8 arg2 k f_arg3 f_arg8 (ix2 r l) = aW W r (128 * 0 + l))
    (i : Fin 1) (j : Fin 8) (p : Fin 2) (l : Fin 128) :
    (k0_pay22 (tripV.sl.r_3 arg3 arg8 arg2 k f_arg3 f_arg8) : S1x8x2x128.Idx → EReal) (ix4 i j p l)
      = max (aW W (128 + (2 * j.val + p.val)) (128 * 0 + l.val)) (aW W (128 + (16 + 2 * j.val + p.val)) (128 * 0 + l.val)) := by
  simp only [tripV.sl.r_3] at hA
  fin_cases p <;> pointwise [tripV.sl.r_3, k0_pay22] <;> simp only [hA] <;> norm_num <;> (try rfl) <;> congr 2 <;> omega

/-- The piece 4 of column chunk 0. -/
theorem slab0_4 (W : ℕ → ℕ → EReal)
    (hA : ∀ (r : Fin 256) (l : Fin 128), tripV.sl.r_3 (F := Ideal) arg3 arg8 arg2 k f_arg3 f_arg8 (ix2 r l) = aW W r (128 * 0 + l)) (x : (slabRect 0 4).shape.Idx) :
    (k0_pay22 (tripV.sl.r_3 arg3 arg8 arg2 k f_arg3 f_arg8) : S1x8x2x128.Idx → EReal) x = slabG W ((slabRect 0 4).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_0_4 arg3 arg8 arg2 k f_arg3 f_arg8 W hA i j p l).trans (slab_piece W 0 4 i j p l).symm

theorem slabPiece_0_3 (W : ℕ → ℕ → EReal)
    (hA : ∀ (r : Fin 256) (l : Fin 128), tripV.sl.r_3 (F := Ideal) arg3 arg8 arg2 k f_arg3 f_arg8 (ix2 r l) = aW W r (128 * 0 + l))
    (i : Fin 1) (j : Fin 8) (p : Fin 2) (l : Fin 128) :
    (k0_pay21 (tripV.sl.r_3 arg3 arg8 arg2 k f_arg3 f_arg8) : S1x8x2x128.Idx → EReal) (ix4 i j p l)
      = max (aW W (96 + (2 * j.val + p.val)) (128 * 0 + l.val)) (aW W (96 + (16 + 2 * j.val + p.val)) (128 * 0 + l.val)) := by
  simp only [tripV.sl.r_3] at hA
  fin_cases p <;> pointwise [tripV.sl.r_3, k0_pay21] <;> simp only [hA] <;> norm_num <;> (try rfl) <;> congr 2 <;> omega

/-- The piece 3 of column chunk 0. -/
theorem slab0_3 (W : ℕ → ℕ → EReal)
    (hA : ∀ (r : Fin 256) (l : Fin 128), tripV.sl.r_3 (F := Ideal) arg3 arg8 arg2 k f_arg3 f_arg8 (ix2 r l) = aW W r (128 * 0 + l)) (x : (slabRect 0 3).shape.Idx) :
    (k0_pay21 (tripV.sl.r_3 arg3 arg8 arg2 k f_arg3 f_arg8) : S1x8x2x128.Idx → EReal) x = slabG W ((slabRect 0 3).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_0_3 arg3 arg8 arg2 k f_arg3 f_arg8 W hA i j p l).trans (slab_piece W 0 3 i j p l).symm

theorem slabPiece_0_2 (W : ℕ → ℕ → EReal)
    (hA : ∀ (r : Fin 256) (l : Fin 128), tripV.sl.r_3 (F := Ideal) arg3 arg8 arg2 k f_arg3 f_arg8 (ix2 r l) = aW W r (128 * 0 + l))
    (i : Fin 1) (j : Fin 8) (p : Fin 2) (l : Fin 128) :
    (k0_pay20 (tripV.sl.r_4 arg3 arg8 arg2 k f_arg3 f_arg8) (tripV.sl.r_5 arg3 arg8 arg2 k f_arg3 f_arg8) : S1x8x2x128.Idx → EReal) (ix4 i j p l)
      = max (aW W (64 + (2 * j.val + p.val)) (128 * 0 + l.val)) (aW W (64 + (16 + 2 * j.val + p.val)) (128 * 0 + l.val)) := by
  simp only [tripV.sl.r_3] at hA
  fin_cases p <;> pointwise [tripV.sl.r_3, tripV.sl.r_4, tripV.sl.r_5, k0_pay20, k0_pay17, k0_pay18, k0_pay16] <;> simp only [hA] <;> norm_num <;> (try rfl) <;> congr 2 <;> omega

/-- The piece 2 of column chunk 0. -/
theorem slab0_2 (W : ℕ → ℕ → EReal)
    (hA : ∀ (r : Fin 256) (l : Fin 128), tripV.sl.r_3 (F := Ideal) arg3 arg8 arg2 k f_arg3 f_arg8 (ix2 r l) = aW W r (128 * 0 + l)) (x : (slabRect 0 2).shape.Idx) :
    (k0_pay20 (tripV.sl.r_4 arg3 arg8 arg2 k f_arg3 f_arg8) (tripV.sl.r_5 arg3 arg8 arg2 k f_arg3 f_arg8) : S1x8x2x128.Idx → EReal) x = slabG W ((slabRect 0 2).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_0_2 arg3 arg8 arg2 k f_arg3 f_arg8 W hA i j p l).trans (slab_piece W 0 2 i j p l).symm

theorem slabPiece_0_1 (W : ℕ → ℕ → EReal)
    (hA : ∀ (r : Fin 256) (l : Fin 128), tripV.sl.r_3 (F := Ideal) arg3 arg8 arg2 k f_arg3 f_arg8 (ix2 r l) = aW W r (128 * 0 + l))
    (i : Fin 1) (j : Fin 8) (p : Fin 2) (l : Fin 128) :
    (k0_pay15 (tripV.sl.r_1 arg8 k f_arg8) (k0_pay11 arg2) (tripV.sl.v78 arg3 k f_arg3) : S1x8x2x128.Idx → EReal) (ix4 i j p l)
      = max (aW W (32 + (2 * j.val + p.val)) (128 * 0 + l.val)) (aW W (32 + (16 + 2 * j.val + p.val)) (128 * 0 + l.val)) := by
  simp only [tripV.sl.r_3] at hA
  fin_cases p <;> pointwise [tripV.sl.r_3, k0_pay15] <;> simp only [hA] <;> norm_num <;> (try rfl) <;> congr 2 <;> omega

/-- The piece 1 of column chunk 0. -/
theorem slab0_1 (W : ℕ → ℕ → EReal)
    (hA : ∀ (r : Fin 256) (l : Fin 128), tripV.sl.r_3 (F := Ideal) arg3 arg8 arg2 k f_arg3 f_arg8 (ix2 r l) = aW W r (128 * 0 + l)) (x : (slabRect 0 1).shape.Idx) :
    (k0_pay15 (tripV.sl.r_1 arg8 k f_arg8) (k0_pay11 arg2) (tripV.sl.v78 arg3 k f_arg3) : S1x8x2x128.Idx → EReal) x = slabG W ((slabRect 0 1).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_0_1 arg3 arg8 arg2 k f_arg3 f_arg8 W hA i j p l).trans (slab_piece W 0 1 i j p l).symm

theorem slabPiece_0_0 (W : ℕ → ℕ → EReal)
    (hA : ∀ (r : Fin 256) (l : Fin 128), tripV.sl.r_3 (F := Ideal) arg3 arg8 arg2 k f_arg3 f_arg8 (ix2 r l) = aW W r (128 * 0 + l))
    (i : Fin 1) (j : Fin 8) (p : Fin 2) (l : Fin 128) :
    (k0_pay14 (tripV.sl.r_1 arg8 k f_arg8) (k0_pay11 arg2) (tripV.sl.v78 arg3 k f_arg3) : S1x8x2x128.Idx → EReal) (ix4 i j p l)
      = max (aW W (0 + (2 * j.val + p.val)) (128 * 0 + l.val)) (aW W (0 + (16 + 2 * j.val + p.val)) (128 * 0 + l.val)) := by
  simp only [tripV.sl.r_3] at hA
  fin_cases p <;> pointwise [tripV.sl.r_3, k0_pay14] <;> simp only [hA] <;> norm_num <;> (try rfl) <;> congr 2 <;> omega

/-- The piece 0 of column chunk 0. -/
theorem slab0_0 (W : ℕ → ℕ → EReal)
    (hA : ∀ (r : Fin 256) (l : Fin 128), tripV.sl.r_3 (F := Ideal) arg3 arg8 arg2 k f_arg3 f_arg8 (ix2 r l) = aW W r (128 * 0 + l)) (x : (slabRect 0 0).shape.Idx) :
    (k0_pay14 (tripV.sl.r_1 arg8 k f_arg8) (k0_pay11 arg2) (tripV.sl.v78 arg3 k f_arg3) : S1x8x2x128.Idx → EReal) x = slabG W ((slabRect 0 0).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_0_0 arg3 arg8 arg2 k f_arg3 f_arg8 W hA i j p l).trans (slab_piece W 0 0 i j p l).symm

/-- Every piece stored up to column chunk 0 agrees with the slab's contents. -/
theorem slabList0 (W : ℕ → ℕ → EReal)
    (hA : ∀ (r : Fin 256) (l : Fin 128), tripV.sl.r_3 (F := Ideal) arg3 arg8 arg2 k f_arg3 f_arg8 (ix2 r l) = aW W r (128 * 0 + l)) :
    ∀ p ∈ tripV.sl.Harg11_8 (F := Ideal) arg3 arg8 arg2 k f_arg3 f_arg8, ∀ x, p.2 x = slabG W (p.1.emb x) := by
  unfold tripV.sl.Harg11_8 tripV.sl.Harg11_2
  refine List.forall_mem_cons.mpr ⟨slab0_7 arg3 arg8 arg2 k f_arg3 f_arg8 W hA, ?_⟩
  refine List.forall_mem_cons.mpr ⟨slab0_6 arg3 arg8 arg2 k f_arg3 f_arg8 W hA, ?_⟩
  refine List.forall_mem_cons.mpr ⟨slab0_5 arg3 arg8 arg2 k f_arg3 f_arg8 W hA, ?_⟩
  refine List.forall_mem_cons.mpr ⟨slab0_4 arg3 arg8 arg2 k f_arg3 f_arg8 W hA, ?_⟩
  refine List.forall_mem_cons.mpr ⟨slab0_3 arg3 arg8 arg2 k f_arg3 f_arg8 W hA, ?_⟩
  refine List.forall_mem_cons.mpr ⟨slab0_2 arg3 arg8 arg2 k f_arg3 f_arg8 W hA, ?_⟩
  refine List.forall_mem_cons.mpr ⟨slab0_1 arg3 arg8 arg2 k f_arg3 f_arg8 W hA, ?_⟩
  refine List.forall_mem_cons.mpr ⟨slab0_0 arg3 arg8 arg2 k f_arg3 f_arg8 W hA, (fun p hp => absurd hp List.not_mem_nil)⟩

/-- The eight pieces of column chunk 0 are among them. -/
theorem slabHas0 (r : Fin 8) : slabRect 0 r ∈ (tripV.sl.Harg11_8 (F := Ideal) arg3 arg8 arg2 k f_arg3 f_arg8).map (·.1) := by
  unfold tripV.sl.Harg11_8 tripV.sl.Harg11_2
  simp only [List.map_cons]
  fin_cases r
  · exact List.mem_cons_of_mem _ (List.mem_cons_of_mem _ (List.mem_cons_of_mem _ (List.mem_cons_of_mem _ (List.mem_cons_of_mem _ (List.mem_cons_of_mem _ (List.mem_cons_of_mem _ (List.mem_cons_self)))))))
  · exact List.mem_cons_of_mem _ (List.mem_cons_of_mem _ (List.mem_cons_of_mem _ (List.mem_cons_of_mem _ (List.mem_cons_of_mem _ (List.mem_cons_of_mem _ (List.mem_cons_self))))))
  · exact List.mem_cons_of_mem _ (List.mem_cons_of_mem _ (List.mem_cons_of_mem _ (List.mem_cons_of_mem _ (List.mem_cons_of_mem _ (List.mem_cons_self)))))
  · exact List.mem_cons_of_mem _ (List.mem_cons_of_mem _ (List.mem_cons_of_mem _ (List.mem_cons_of_mem _ (List.mem_cons_self))))
  · exact List.mem_cons_of_mem _ (List.mem_cons_of_mem _ (List.mem_cons_of_mem _ (List.mem_cons_self)))
  · exact List.mem_cons_of_mem _ (List.mem_cons_of_mem _ (List.mem_cons_self))
  · exact List.mem_cons_of_mem _ (List.mem_cons_self)
  · exact List.mem_cons_self

end Cert.KernelIdeal.Hand
-- ==== Proof.Exp0.lean ====
module

public import proofs.«01_k».proof.Proof.Slab0

@[expose] public section

set_option maxRecDepth 8192
set_option maxHeartbeats 400000

noncomputable section

namespace Cert.KernelIdeal.Hand

open Cert.KernelIdeal Cert.KernelIdeal.Gen
open Idealize.ShloMosaic Requant
open Idealize.ShloMosaic.View

variable (arg3 : Memref sig .tc .vmem S1x4096x512 .fp8e4m3) (arg8 : Memref sig .tc .vmem S4096x128 .bf16)
  (arg11 : Memref sig .tc .vmem S4x72x2x128 .bf16) (arg12 : Memref sig .tc .vmem S4x8x128 .i32) (arg13 : Memref sig .tc .vmem S256x512 .fp8e4m3)
  (arg2 : BitVec 32) (k : Fin k0_t2_loop.trips)
  (f_arg3 : arg3.view.ty.Contents (Elt Ideal)) (f_arg8 : arg8.view.ty.Contents (Elt Ideal))

/-- The pieces of the slab up to column chunk 0 are what the model says. -/
def SlabOK0 (W : ℕ → ℕ → EReal) : Prop := ∀ p ∈ tripV.sl.Harg11_8 (F := Ideal) arg3 arg8 arg2 k f_arg3 f_arg8, ∀ x, p.2 x = slabG W (p.1.emb x)

theorem raw0_0 (W : ℕ → ℕ → EReal) (hL : SlabOK0 arg3 arg8 arg2 k f_arg3 f_arg8 W) (r : Fin 8) (l : Fin 128) :
    tripV.sl.v138_raw (F := Ideal) arg3 arg8 arg11 arg2 k f_arg3 f_arg8 (ix4 0 r 0 l) = max (aW W (32 * r + 0) (128 * 0 + l)) (aW W (32 * r + 16) (128 * 0 + l))
    ∧ tripV.sl.v138_raw (F := Ideal) arg3 arg8 arg11 arg2 k f_arg3 f_arg8 (ix4 0 r 1 l) = max (aW W (32 * r + 1) (128 * 0 + l)) (aW W (32 * r + 17) (128 * 0 + l)) :=
  ⟨slab_read arg11.view W _ hL 0 0 (slabHas0 arg3 arg8 arg2 k f_arg3 f_arg8) _ rfl _ r 0 l,
   slab_read arg11.view W _ hL 0 0 (slabHas0 arg3 arg8 arg2 k f_arg3 f_arg8) _ rfl _ r 1 l⟩

theorem raw0_1 (W : ℕ → ℕ → EReal) (hL : SlabOK0 arg3 arg8 arg2 k f_arg3 f_arg8 W) (r : Fin 8) (l : Fin 128) :
    tripV.sl.v141_raw (F := Ideal) arg3 arg8 arg11 arg2 k f_arg3 f_arg8 (ix4 0 r 0 l) = max (aW W (32 * r + 2) (128 * 0 + l)) (aW W (32 * r + 18) (128 * 0 + l))
    ∧ tripV.sl.v141_raw (F := Ideal) arg3 arg8 arg11 arg2 k f_arg3 f_arg8 (ix4 0 r 1 l) = max (aW W (32 * r + 3) (128 * 0 + l)) (aW W (32 * r + 19) (128 * 0 + l)) :=
  ⟨slab_read arg11.view W _ hL 0 1 (slabHas0 arg3 arg8 arg2 k f_arg3 f_arg8) _ rfl _ r 0 l,
   slab_read arg11.view W _ hL 0 1 (slabHas0 arg3 arg8 arg2 k f_arg3 f_arg8) _ rfl _ r 1 l⟩

theorem raw0_2 (W : ℕ → ℕ → EReal) (hL : SlabOK0 arg3 arg8 arg2 k f_arg3 f_arg8 W) (r : Fin 8) (l : Fin 128) :
    tripV.sl.v145_raw (F := Ideal) arg3 arg8 arg11 arg2 k f_arg3 f_arg8 (ix4 0 r 0 l) = max (aW W (32 * r + 4) (128 * 0 + l)) (aW W (32 * r + 20) (128 * 0 + l))
    ∧ tripV.sl.v145_raw (F := Ideal) arg3 arg8 arg11 arg2 k f_arg3 f_arg8 (ix4 0 r 1 l) = max (aW W (32 * r + 5) (128 * 0 + l)) (aW W (32 * r + 21) (128 * 0 + l)) :=
  ⟨slab_read arg11.view W _ hL 0 2 (slabHas0 arg3 arg8 arg2 k f_arg3 f_arg8) _ rfl _ r 0 l,
   slab_read arg11.view W _ hL 0 2 (slabHas0 arg3 arg8 arg2 k f_arg3 f_arg8) _ rfl _ r 1 l⟩

theorem raw0_3 (W : ℕ → ℕ → EReal) (hL : SlabOK0 arg3 arg8 arg2 k f_arg3 f_arg8 W) (r : Fin 8) (l : Fin 128) :
    tripV.sl.v149_raw (F := Ideal) arg3 arg8 arg11 arg2 k f_arg3 f_arg8 (ix4 0 r 0 l) = max (aW W (32 * r + 6) (128 * 0 + l)) (aW W (32 * r + 22) (128 * 0 + l))
    ∧ tripV.sl.v149_raw (F := Ideal) arg3 arg8 arg11 arg2 k f_arg3 f_arg8 (ix4 0 r 1 l) = max (aW W (32 * r + 7) (128 * 0 + l)) (aW W (32 * r + 23) (128 * 0 + l)) :=
  ⟨slab_read arg11.view W _ hL 0 3 (slabHas0 arg3 arg8 arg2 k f_arg3 f_arg8) _ rfl _ r 0 l,
   slab_read arg11.view W _ hL 0 3 (slabHas0 arg3 arg8 arg2 k f_arg3 f_arg8) _ rfl _ r 1 l⟩

theorem raw0_4 (W : ℕ → ℕ → EReal) (hL : SlabOK0 arg3 arg8 arg2 k f_arg3 f_arg8 W) (r : Fin 8) (l : Fin 128) :
    tripV.sl.v153_raw (F := Ideal) arg3 arg8 arg11 arg2 k f_arg3 f_arg8 (ix4 0 r 0 l) = max (aW W (32 * r + 8) (128 * 0 + l)) (aW W (32 * r + 24) (128 * 0 + l))
    ∧ tripV.sl.v153_raw (F := Ideal) arg3 arg8 arg11 arg2 k f_arg3 f_arg8 (ix4 0 r 1 l) = max (aW W (32 * r + 9) (128 * 0 + l)) (aW W (32 * r + 25) (128 * 0 + l)) :=
  ⟨slab_read arg11.view W _ hL 0 4 (slabHas0 arg3 arg8 arg2 k f_arg3 f_arg8) _ rfl _ r 0 l,
   slab_read arg11.view W _ hL 0 4 (slabHas0 arg3 arg8 arg2 k f_arg3 f_arg8) _ rfl _ r 1 l⟩

theorem raw0_5 (W : ℕ → ℕ → EReal) (hL : SlabOK0 arg3 arg8 arg2 k f_arg3 f_arg8 W) (r : Fin 8) (l : Fin 128) :
    tripV.sl.v157_raw (F := Ideal) arg3 arg8 arg11 arg2 k f_arg3 f_arg8 (ix4 0 r 0 l) = max (aW W (32 * r + 10) (128 * 0 + l)) (aW W (32 * r + 26) (128 * 0 + l))
    ∧ tripV.sl.v157_raw (F := Ideal) arg3 arg8 arg11 arg2 k f_arg3 f_arg8 (ix4 0 r 1 l) = max (aW W (32 * r + 11) (128 * 0 + l)) (aW W (32 * r + 27) (128 * 0 + l)) :=
  ⟨slab_read arg11.view W _ hL 0 5 (slabHas0 arg3 arg8 arg2 k f_arg3 f_arg8) _ rfl _ r 0 l,
   slab_read arg11.view W _ hL 0 5 (slabHas0 arg3 arg8 arg2 k f_arg3 f_arg8) _ rfl _ r 1 l⟩

theorem raw0_6 (W : ℕ → ℕ → EReal) (hL : SlabOK0 arg3 arg8 arg2 k f_arg3 f_arg8 W) (r : Fin 8) (l : Fin 128) :
    tripV.sl.v161_raw (F := Ideal) arg3 arg8 arg11 arg2 k f_arg3 f_arg8 (ix4 0 r 0 l) = max (aW W (32 * r + 12) (128 * 0 + l)) (aW W (32 * r + 28) (128 * 0 + l))
    ∧ tripV.sl.v161_raw (F := Ideal) arg3 arg8 arg11 arg2 k f_arg3 f_arg8 (ix4 0 r 1 l) = max (aW W (32 * r + 13) (128 * 0 + l)) (aW W (32 * r + 29) (128 * 0 + l)) :=
  ⟨slab_read arg11.view W _ hL 0 6 (slabHas0 arg3 arg8 arg2 k f_arg3 f_arg8) _ rfl _ r 0 l,
   slab_read arg11.view W _ hL 0 6 (slabHas0 arg3 arg8 arg2 k f_arg3 f_arg8) _ rfl _ r 1 l⟩

theorem raw0_7 (W : ℕ → ℕ → EReal) (hL : SlabOK0 arg3 arg8 arg2 k f_arg3 f_arg8 W) (r : Fin 8) (l : Fin 128) :
    tripV.sl.v165_raw (F := Ideal) arg3 arg8 arg11 arg2 k f_arg3 f_arg8 (ix4 0 r 0 l) = max (aW W (32 * r + 14) (128 * 0 + l)) (aW W (32 * r + 30) (128 * 0 + l))
    ∧ tripV.sl.v165_raw (F := Ideal) arg3 arg8 arg11 arg2 k f_arg3 f_arg8 (ix4 0 r 1 l) = max (aW W (32 * r + 15) (128 * 0 + l)) (aW W (32 * r + 31) (128 * 0 + l)) :=
  ⟨slab_read arg11.view W _ hL 0 7 (slabHas0 arg3 arg8 arg2 k f_arg3 f_arg8) _ rfl _ r 0 l,
   slab_read arg11.view W _ hL 0 7 (slabHas0 arg3 arg8 arg2 k f_arg3 f_arg8) _ rfl _ r 1 l⟩

/-- The largest absolute value of 32 rows, scaled: column chunk 0. -/
theorem level0 (W : ℕ → ℕ → EReal) (hL : SlabOK0 arg3 arg8 arg2 k f_arg3 f_arg8 W) (r : Fin 8) (l : Fin 128) :
    tripV.sl.r_11 (F := Ideal) arg3 arg8 arg11 arg2 k f_arg3 f_arg8 (ix2 r l) = level W r (128 * 0 + l) := by
  have e : ∀ A B : EReal, A = B → A * Ideal.ofBits .f32 0x3B124925#32 = B * Ideal.ofBits .f32 0x3B124925#32 := fun A B h => by rw [h]
  pointwise [tripV.sl.r_11, tripV.sl.r_10, tripV.sl.r_9, k0_pay31, k0_pay30, k0_pay29, k0_pay28]
  unfold level
  refine e _ _ ?_
  have e1 : ∀ h, (⟨2 * (r : ℕ) / 2, h⟩ : Fin 8) = r := fun h => Fin.ext (by simp)
  have e2 : ∀ h, (⟨(2 * (r : ℕ) + 1) / 2, h⟩ : Fin 8) = r := fun h => Fin.ext (by show (2 * (r : ℕ) + 1) / 2 = _; omega)
  have e3 : (2 * (r : ℕ) % 2 = 0) = True := by simp
  have e4 : ((2 * (r : ℕ) + 1) % 2 = 0) = False := by simp
  simp only [e1, e2, e3, e4, if_true, if_false, (raw0_0 arg3 arg8 arg11 arg2 k f_arg3 f_arg8 W hL r l).1, (raw0_0 arg3 arg8 arg11 arg2 k f_arg3 f_arg8 W hL r l).2, (raw0_1 arg3 arg8 arg11 arg2 k f_arg3 f_arg8 W hL r l).1, (raw0_1 arg3 arg8 arg11 arg2 k f_arg3 f_arg8 W hL r l).2, (raw0_2 arg3 arg8 arg11 arg2 k f_arg3 f_arg8 W hL r l).1, (raw0_2 arg3 arg8 arg11 arg2 k f_arg3 f_arg8 W hL r l).2, (raw0_3 arg3 arg8 arg11 arg2 k f_arg3 f_arg8 W hL r l).1, (raw0_3 arg3 arg8 arg11 arg2 k f_arg3 f_arg8 W hL r l).2, (raw0_4 arg3 arg8 arg11 arg2 k f_arg3 f_arg8 W hL r l).1, (raw0_4 arg3 arg8 arg11 arg2 k f_arg3 f_arg8 W hL r l).2, (raw0_5 arg3 arg8 arg11 arg2 k f_arg3 f_arg8 W hL r l).1, (raw0_5 arg3 arg8 arg11 arg2 k f_arg3 f_arg8 W hL r l).2, (raw0_6 arg3 arg8 arg11 arg2 k f_arg3 f_arg8 W hL r l).1, (raw0_6 arg3 arg8 arg11 arg2 k f_arg3 f_arg8 W hL r l).2, (raw0_7 arg3 arg8 arg11 arg2 k f_arg3 f_arg8 W hL r l).1, (raw0_7 arg3 arg8 arg11 arg2 k f_arg3 f_arg8 W hL r l).2]
  simp only [Nat.mul_zero, Nat.zero_add]
  generalize (l : ℕ) = q
  apply le_antisymm
  · simp only [max_le_iff]
    repeat' constructor
    all_goals exact le_amax W _ _ _ (by omega) (by omega)
  · refine amax_le W _ _ _ fun i hi => ?_
    interval_cases i <;> simp only [le_max_iff, le_refl, true_or, or_true]

/-- The exponents of column chunk 0. -/
theorem expIn0 (r : Fin 8) (l : Fin 128) :
    (k0_pay34 (tripV.sl.r_11 (F := Ideal) arg3 arg8 arg11 arg2 k f_arg3 f_arg8) (tripV.sl.r_12 (F := Ideal) arg3 arg8 arg11 arg2 k f_arg3 f_arg8) (tripV.sl.r_13 (F := Ideal) arg3 arg8 arg11 arg2 k f_arg3 f_arg8) : S8x128.Idx → BitVec 32) (ix2 r l) = expo (tripV.sl.r_11 (F := Ideal) arg3 arg8 arg11 arg2 k f_arg3 f_arg8 (ix2 r l)) := by
  simp only [tripV.sl.r_11, tripV.sl.r_12, tripV.sl.r_13, k0_pay33, bis_pay34, bis_pay32]
  exact vexpo_apply _ _

/-- The exponents of column chunk 0, as stored. -/
theorem expOut0 (W : ℕ → ℕ → EReal) (hL : SlabOK0 arg3 arg8 arg2 k f_arg3 f_arg8 W) (r : Fin 8) (l : Fin 128) :
    (k0_pay35 (tripV.sl.r_11 (F := Ideal) arg3 arg8 arg11 arg2 k f_arg3 f_arg8) (tripV.sl.r_12 (F := Ideal) arg3 arg8 arg11 arg2 k f_arg3 f_arg8) (tripV.sl.r_13 (F := Ideal) arg3 arg8 arg11 arg2 k f_arg3 f_arg8) : S8x128.Idx → BitVec 32) (ix2 r l) = expo (level W r (128 * 0 + l)) := by
  have h := (expIn0 arg3 arg8 arg11 arg2 k f_arg3 f_arg8 r l).trans (congrArg expo (level0 arg3 arg8 arg11 arg2 k f_arg3 f_arg8 W hL r l))
  pointwise [k0_pay35]
  rw [Nat.mul_zero, Nat.zero_add] at h; exact h

/-- The words of inverse multipliers of column chunk 0. -/
theorem invOut0 (W : ℕ → ℕ → EReal) (hL : SlabOK0 arg3 arg8 arg2 k f_arg3 f_arg8 W) (r : Fin 8) (l : Fin 128) :
    (k0_pay36 (tripV.sl.r_11 (F := Ideal) arg3 arg8 arg11 arg2 k f_arg3 f_arg8) (tripV.sl.r_12 (F := Ideal) arg3 arg8 arg11 arg2 k f_arg3 f_arg8) (tripV.sl.r_13 (F := Ideal) arg3 arg8 arg11 arg2 k f_arg3 f_arg8) : S1x8x128.Idx → BitVec 32) (ix3 0 r l) = invWord (expo (level W r (128 * 0 + l))) := by
  have h := (expIn0 arg3 arg8 arg11 arg2 k f_arg3 f_arg8 r l).trans (congrArg expo (level0 arg3 arg8 arg11 arg2 k f_arg3 f_arg8 W hL r l))
  rw [← h]
  pointwise [k0_pay36]
  rfl

end Cert.KernelIdeal.Hand
-- ==== Proof.Code0.lean ====
module

public import proofs.«01_k».proof.Proof.Exp0

@[expose] public section

set_option maxRecDepth 8192
set_option maxHeartbeats 400000

noncomputable section

namespace Cert.KernelIdeal.Hand

open Cert.KernelIdeal Cert.KernelIdeal.Gen
open Idealize.ShloMosaic Requant
open Idealize.ShloMosaic.View

variable (arg3 : Memref sig .tc .vmem S1x4096x512 .fp8e4m3) (arg8 : Memref sig .tc .vmem S4096x128 .bf16)
  (arg11 : Memref sig .tc .vmem S4x72x2x128 .bf16) (arg12 : Memref sig .tc .vmem S4x8x128 .i32) (arg13 : Memref sig .tc .vmem S256x512 .fp8e4m3)
  (arg2 : BitVec 32) (k : Fin k0_t2_loop.trips)
  (f_arg3 : arg3.view.ty.Contents (Elt Ideal)) (f_arg8 : arg8.view.ty.Contents (Elt Ideal))

theorem invRow0_0 (W : ℕ → ℕ → EReal) (hL : SlabOK0 arg3 arg8 arg2 k f_arg3 f_arg8 W) (l : Fin 128) :
    tripV.sl.v260 (F := Ideal) arg3 arg8 arg11 arg12 arg2 k f_arg3 f_arg8 (ix3 0 0 l) = invWord (expo (level W 0 (128 * 0 + l))) := by
  refine (inv_read arg12.view 0 0 _ _ _ rfl rfl _ _ _ l).trans ?_
  exact invOut0 arg3 arg8 arg11 arg2 k f_arg3 f_arg8 W hL 0 l

theorem invRow0_1 (W : ℕ → ℕ → EReal) (hL : SlabOK0 arg3 arg8 arg2 k f_arg3 f_arg8 W) (l : Fin 128) :
    tripV.sl.v281 (F := Ideal) arg3 arg8 arg11 arg12 arg2 k f_arg3 f_arg8 (ix3 0 0 l) = invWord (expo (level W 1 (128 * 0 + l))) := by
  refine (inv_read arg12.view 0 1 _ _ _ rfl rfl _ _ _ l).trans ?_
  exact invOut0 arg3 arg8 arg11 arg2 k f_arg3 f_arg8 W hL 1 l

theorem invRow0_2 (W : ℕ → ℕ → EReal) (hL : SlabOK0 arg3 arg8 arg2 k f_arg3 f_arg8 W) (l : Fin 128) :
    tripV.sl.v302 (F := Ideal) arg3 arg8 arg11 arg12 arg2 k f_arg3 f_arg8 (ix3 0 0 l) = invWord (expo (level W 2 (128 * 0 + l))) := by
  refine (inv_read arg12.view 0 2 _ _ _ rfl rfl _ _ _ l).trans ?_
  exact invOut0 arg3 arg8 arg11 arg2 k f_arg3 f_arg8 W hL 2 l

theorem invRow0_3 (W : ℕ → ℕ → EReal) (hL : SlabOK0 arg3 arg8 arg2 k f_arg3 f_arg8 W) (l : Fin 128) :
    tripV.sl.v323 (F := Ideal) arg3 arg8 arg11 arg12 arg2 k f_arg3 f_arg8 (ix3 0 0 l) = invWord (expo (level W 3 (128 * 0 + l))) := by
  refine (inv_read arg12.view 0 3 _ _ _ rfl rfl _ _ _ l).trans ?_
  exact invOut0 arg3 arg8 arg11 arg2 k f_arg3 f_arg8 W hL 3 l

theorem invRow0_4 (W : ℕ → ℕ → EReal) (hL : SlabOK0 arg3 arg8 arg2 k f_arg3 f_arg8 W) (l : Fin 128) :
    tripV.sl.v344 (F := Ideal) arg3 arg8 arg11 arg12 arg2 k f_arg3 f_arg8 (ix3 0 0 l) = invWord (expo (level W 4 (128 * 0 + l))) := by
  refine (inv_read arg12.view 0 4 _ _ _ rfl rfl _ _ _ l).trans ?_
  exact invOut0 arg3 arg8 arg11 arg2 k f_arg3 f_arg8 W hL 4 l

theorem invRow0_5 (W : ℕ → ℕ → EReal) (hL : SlabOK0 arg3 arg8 arg2 k f_arg3 f_arg8 W) (l : Fin 128) :
    tripV.sl.v365 (F := Ideal) arg3 arg8 arg11 arg12 arg2 k f_arg3 f_arg8 (ix3 0 0 l) = invWord (expo (level W 5 (128 * 0 + l))) := by
  refine (inv_read arg12.view 0 5 _ _ _ rfl rfl _ _ _ l).trans ?_
  exact invOut0 arg3 arg8 arg11 arg2 k f_arg3 f_arg8 W hL 5 l

theorem invRow0_6 (W : ℕ → ℕ → EReal) (hL : SlabOK0 arg3 arg8 arg2 k f_arg3 f_arg8 W) (l : Fin 128) :
    tripV.sl.v386 (F := Ideal) arg3 arg8 arg11 arg12 arg2 k f_arg3 f_arg8 (ix3 0 0 l) = invWord (expo (level W 6 (128 * 0 + l))) := by
  refine (inv_read arg12.view 0 6 _ _ _ rfl rfl _ _ _ l).trans ?_
  exact invOut0 arg3 arg8 arg11 arg2 k f_arg3 f_arg8 W hL 6 l

theorem invRow0_7 (W : ℕ → ℕ → EReal) (hL : SlabOK0 arg3 arg8 arg2 k f_arg3 f_arg8 W) (l : Fin 128) :
    tripV.sl.v407 (F := Ideal) arg3 arg8 arg11 arg12 arg2 k f_arg3 f_arg8 (ix3 0 0 l) = invWord (expo (level W 7 (128 * 0 + l))) := by
  refine (inv_read arg12.view 0 7 _ _ _ rfl rfl _ _ _ l).trans ?_
  exact invOut0 arg3 arg8 arg11 arg2 k f_arg3 f_arg8 W hL 7 l

theorem codePiece_0_7 (W : ℕ → ℕ → EReal) (hL : SlabOK0 arg3 arg8 arg2 k f_arg3 f_arg8 W)
    (hV : ∀ (r : Fin 256) (l : Fin 128), tripV.sl.r_2 (F := Ideal) arg3 arg8 arg2 k f_arg3 f_arg8 (ix2 r l) = W r (128 * 0 + l)) (i : Fin 32) (l : Fin 128) :
    (k0_pay50 (tripV.sl.r_2 arg3 arg8 arg2 k f_arg3 f_arg8) (tripV.sl.v407 arg3 arg8 arg11 arg12 arg2 k f_arg3 f_arg8) : S32x128.Idx → EReal) (ix2 i l) = code W (224 + i) (128 * 0 + l) := by
  simp only [tripV.sl.r_2] at hV
  have hi := invRow0_7 arg3 arg8 arg11 arg12 arg2 k f_arg3 f_arg8 W hL l
  have hh := inv_half (level W 7 (128 * 0 + l)) ⟨i.val % 16 % 2, by omega⟩
  have hb : (224 + i.val) / 32 = 7 := by omega
  unfold code
  rw [hb, ← hh]
  pointwise [tripV.sl.r_2, k0_pay50]
  rw [bitcast_half]
  pointwise [hi, hV]

theorem codePiece_0_6 (W : ℕ → ℕ → EReal) (hL : SlabOK0 arg3 arg8 arg2 k f_arg3 f_arg8 W)
    (hV : ∀ (r : Fin 256) (l : Fin 128), tripV.sl.r_2 (F := Ideal) arg3 arg8 arg2 k f_arg3 f_arg8 (ix2 r l) = W r (128 * 0 + l)) (i : Fin 32) (l : Fin 128) :
    (k0_pay49 (tripV.sl.r_19 arg3 arg8 arg11 arg12 arg2 k f_arg3 f_arg8) : S32x128.Idx → EReal) (ix2 i l) = code W (192 + i) (128 * 0 + l) := by
  simp only [tripV.sl.r_2] at hV
  have hi := invRow0_6 arg3 arg8 arg11 arg12 arg2 k f_arg3 f_arg8 W hL l
  have hh := inv_half (level W 6 (128 * 0 + l)) ⟨i.val % 16 % 2, by omega⟩
  have hb : (192 + i.val) / 32 = 6 := by omega
  unfold code
  rw [hb, ← hh]
  pointwise [tripV.sl.r_2, tripV.sl.r_19, k0_pay49, k0_pay48]
  rw [bitcast_half]
  pointwise [hi, hV]

theorem codePiece_0_5 (W : ℕ → ℕ → EReal) (hL : SlabOK0 arg3 arg8 arg2 k f_arg3 f_arg8 W)
    (hV : ∀ (r : Fin 256) (l : Fin 128), tripV.sl.r_2 (F := Ideal) arg3 arg8 arg2 k f_arg3 f_arg8 (ix2 r l) = W r (128 * 0 + l)) (i : Fin 32) (l : Fin 128) :
    (k0_pay47 (tripV.sl.r_2 arg3 arg8 arg2 k f_arg3 f_arg8) (tripV.sl.v365 arg3 arg8 arg11 arg12 arg2 k f_arg3 f_arg8) : S32x128.Idx → EReal) (ix2 i l) = code W (160 + i) (128 * 0 + l) := by
  simp only [tripV.sl.r_2] at hV
  have hi := invRow0_5 arg3 arg8 arg11 arg12 arg2 k f_arg3 f_arg8 W hL l
  have hh := inv_half (level W 5 (128 * 0 + l)) ⟨i.val % 16 % 2, by omega⟩
  have hb : (160 + i.val) / 32 = 5 := by omega
  unfold code
  rw [hb, ← hh]
  pointwise [tripV.sl.r_2, k0_pay47]
  rw [bitcast_half]
  pointwise [hi, hV]

theorem codePiece_0_4 (W : ℕ → ℕ → EReal) (hL : SlabOK0 arg3 arg8 arg2 k f_arg3 f_arg8 W)
    (hV : ∀ (r : Fin 256) (l : Fin 128), tripV.sl.r_2 (F := Ideal) arg3 arg8 arg2 k f_arg3 f_arg8 (ix2 r l) = W r (128 * 0 + l)) (i : Fin 32) (l : Fin 128) :
    (k0_pay46 (tripV.sl.r_17 arg3 arg8 arg2 k f_arg3 f_arg8) (tripV.sl.r_18 arg3 arg8 arg11 arg12 arg2 k f_arg3 f_arg8) : S32x128.Idx → EReal) (ix2 i l) = code W (128 + i) (128 * 0 + l) := by
  simp only [tripV.sl.r_2] at hV
  have hi := invRow0_4 arg3 arg8 arg11 arg12 arg2 k f_arg3 f_arg8 W hL l
  have hh := inv_half (level W 4 (128 * 0 + l)) ⟨i.val % 16 % 2, by omega⟩
  have hb : (128 + i.val) / 32 = 4 := by omega
  unfold code
  rw [hb, ← hh]
  pointwise [tripV.sl.r_2, tripV.sl.r_17, tripV.sl.r_18, k0_pay46, k0_pay44, k0_pay45]
  rw [bitcast_half]
  pointwise [hi, hV]

theorem codePiece_0_3 (W : ℕ → ℕ → EReal) (hL : SlabOK0 arg3 arg8 arg2 k f_arg3 f_arg8 W)
    (hV : ∀ (r : Fin 256) (l : Fin 128), tripV.sl.r_2 (F := Ideal) arg3 arg8 arg2 k f_arg3 f_arg8 (ix2 r l) = W r (128 * 0 + l)) (i : Fin 32) (l : Fin 128) :
    (k0_pay43 (tripV.sl.r_2 arg3 arg8 arg2 k f_arg3 f_arg8) (tripV.sl.v323 arg3 arg8 arg11 arg12 arg2 k f_arg3 f_arg8) : S32x128.Idx → EReal) (ix2 i l) = code W (96 + i) (128 * 0 + l) := by
  simp only [tripV.sl.r_2] at hV
  have hi := invRow0_3 arg3 arg8 arg11 arg12 arg2 k f_arg3 f_arg8 W hL l
  have hh := inv_half (level W 3 (128 * 0 + l)) ⟨i.val % 16 % 2, by omega⟩
  have hb : (96 + i.val) / 32 = 3 := by omega
  unfold code
  rw [hb, ← hh]
  pointwise [tripV.sl.r_2, k0_pay43]
  rw [bitcast_half]
  pointwise [hi, hV]

theorem codePiece_0_2 (W : ℕ → ℕ → EReal) (hL : SlabOK0 arg3 arg8 arg2 k f_arg3 f_arg8 W)
    (hV : ∀ (r : Fin 256) (l : Fin 128), tripV.sl.r_2 (F := Ideal) arg3 arg8 arg2 k f_arg3 f_arg8 (ix2 r l) = W r (128 * 0 + l)) (i : Fin 32) (l : Fin 128) :
    (k0_pay42 (tripV.sl.r_15 arg3 arg8 arg11 arg12 arg2 k f_arg3 f_arg8) (tripV.sl.r_16 arg3 arg8 arg2 k f_arg3 f_arg8) : S32x128.Idx → EReal) (ix2 i l) = code W (64 + i) (128 * 0 + l) := by
  simp only [tripV.sl.r_2] at hV
  have hi := invRow0_2 arg3 arg8 arg11 arg12 arg2 k f_arg3 f_arg8 W hL l
  have hh := inv_half (level W 2 (128 * 0 + l)) ⟨i.val % 16 % 2, by omega⟩
  have hb : (64 + i.val) / 32 = 2 := by omega
  unfold code
  rw [hb, ← hh]
  pointwise [tripV.sl.r_2, tripV.sl.r_15, tripV.sl.r_16, k0_pay42, k0_pay40, k0_pay41]
  rw [bitcast_half]
  pointwise [hi, hV]

theorem codePiece_0_1 (W : ℕ → ℕ → EReal) (hL : SlabOK0 arg3 arg8 arg2 k f_arg3 f_arg8 W)
    (hV : ∀ (r : Fin 256) (l : Fin 128), tripV.sl.r_2 (F := Ideal) arg3 arg8 arg2 k f_arg3 f_arg8 (ix2 r l) = W r (128 * 0 + l)) (i : Fin 32) (l : Fin 128) :
    (k0_pay39 (tripV.sl.r_2 arg3 arg8 arg2 k f_arg3 f_arg8) (tripV.sl.v281 arg3 arg8 arg11 arg12 arg2 k f_arg3 f_arg8) : S32x128.Idx → EReal) (ix2 i l) = code W (32 + i) (128 * 0 + l) := by
  simp only [tripV.sl.r_2] at hV
  have hi := invRow0_1 arg3 arg8 arg11 arg12 arg2 k f_arg3 f_arg8 W hL l
  have hh := inv_half (level W 1 (128 * 0 + l)) ⟨i.val % 16 % 2, by omega⟩
  have hb : (32 + i.val) / 32 = 1 := by omega
  unfold code
  rw [hb, ← hh]
  pointwise [tripV.sl.r_2, k0_pay39]
  rw [bitcast_half]
  pointwise [hi, hV]

theorem codePiece_0_0 (W : ℕ → ℕ → EReal) (hL : SlabOK0 arg3 arg8 arg2 k f_arg3 f_arg8 W)
    (hV : ∀ (r : Fin 256) (l : Fin 128), tripV.sl.r_2 (F := Ideal) arg3 arg8 arg2 k f_arg3 f_arg8 (ix2 r l) = W r (128 * 0 + l)) (i : Fin 32) (l : Fin 128) :
    (k0_pay38 (tripV.sl.r_2 arg3 arg8 arg2 k f_arg3 f_arg8) (tripV.sl.r_14 arg3 arg8 arg11 arg12 arg2 k f_arg3 f_arg8) : S32x128.Idx → EReal) (ix2 i l) = code W (0 + i) (128 * 0 + l) := by
  simp only [tripV.sl.r_2] at hV
  have hi := invRow0_0 arg3 arg8 arg11 arg12 arg2 k f_arg3 f_arg8 W hL l
  have hh := inv_half (level W 0 (128 * 0 + l)) ⟨i.val % 16 % 2, by omega⟩
  have hb : (0 + i.val) / 32 = 0 := by omega
  unfold code
  rw [hb, ← hh]
  pointwise [tripV.sl.r_2, tripV.sl.r_14, k0_pay38, k0_pay37]
  rw [bitcast_half]
  pointwise [hi, hV]

/-- The codes of row block 7 of column chunk 0. -/
theorem codeOK_0_7 (W : ℕ → ℕ → EReal) (hL : SlabOK0 arg3 arg8 arg2 k f_arg3 f_arg8 W)
    (hV : ∀ (r : Fin 256) (l : Fin 128), tripV.sl.r_2 (F := Ideal) arg3 arg8 arg2 k f_arg3 f_arg8 (ix2 r l) = W r (128 * 0 + l)) (x : (codeRect 0 7).shape.Idx) :
    (k0_pay50 (tripV.sl.r_2 arg3 arg8 arg2 k f_arg3 f_arg8) (tripV.sl.v407 arg3 arg8 arg11 arg12 arg2 k f_arg3 f_arg8) : S32x128.Idx → EReal) x = codeG W ((codeRect 0 7).emb x) := by
  obtain ⟨i, l, rfl⟩ : ∃ (i : Fin 32) (l : Fin 128), x = ix2 i l := ⟨x 0, x 1, eq_ix2 x⟩
  exact (codePiece_0_7 arg3 arg8 arg11 arg12 arg2 k f_arg3 f_arg8 W hL hV i l).trans (code_piece W 0 7 i l).symm

/-- The codes of row block 6 of column chunk 0. -/
theorem codeOK_0_6 (W : ℕ → ℕ → EReal) (hL : SlabOK0 arg3 arg8 arg2 k f_arg3 f_arg8 W)
    (hV : ∀ (r : Fin 256) (l : Fin 128), tripV.sl.r_2 (F := Ideal) arg3 arg8 arg2 k f_arg3 f_arg8 (ix2 r l) = W r (128 * 0 + l)) (x : (codeRect 0 6).shape.Idx) :
    (k0_pay49 (tripV.sl.r_19 arg3 arg8 arg11 arg12 arg2 k f_arg3 f_arg8) : S32x128.Idx → EReal) x = codeG W ((codeRect 0 6).emb x) := by
  obtain ⟨i, l, rfl⟩ : ∃ (i : Fin 32) (l : Fin 128), x = ix2 i l := ⟨x 0, x 1, eq_ix2 x⟩
  exact (codePiece_0_6 arg3 arg8 arg11 arg12 arg2 k f_arg3 f_arg8 W hL hV i l).trans (code_piece W 0 6 i l).symm

/-- The codes of row block 5 of column chunk 0. -/
theorem codeOK_0_5 (W : ℕ → ℕ → EReal) (hL : SlabOK0 arg3 arg8 arg2 k f_arg3 f_arg8 W)
    (hV : ∀ (r : Fin 256) (l : Fin 128), tripV.sl.r_2 (F := Ideal) arg3 arg8 arg2 k f_arg3 f_arg8 (ix2 r l) = W r (128 * 0 + l)) (x : (codeRect 0 5).shape.Idx) :
    (k0_pay47 (tripV.sl.r_2 arg3 arg8 arg2 k f_arg3 f_arg8) (tripV.sl.v365 arg3 arg8 arg11 arg12 arg2 k f_arg3 f_arg8) : S32x128.Idx → EReal) x = codeG W ((codeRect 0 5).emb x) := by
  obtain ⟨i, l, rfl⟩ : ∃ (i : Fin 32) (l : Fin 128), x = ix2 i l := ⟨x 0, x 1, eq_ix2 x⟩
  exact (codePiece_0_5 arg3 arg8 arg11 arg12 arg2 k f_arg3 f_arg8 W hL hV i l).trans (code_piece W 0 5 i l).symm

/-- The codes of row block 4 of column chunk 0. -/
theorem codeOK_0_4 (W : ℕ → ℕ → EReal) (hL : SlabOK0 arg3 arg8 arg2 k f_arg3 f_arg8 W)
    (hV : ∀ (r : Fin 256) (l : Fin 128), tripV.sl.r_2 (F := Ideal) arg3 arg8 arg2 k f_arg3 f_arg8 (ix2 r l) = W r (128 * 0 + l)) (x : (codeRect 0 4).shape.Idx) :
    (k0_pay46 (tripV.sl.r_17 arg3 arg8 arg2 k f_arg3 f_arg8) (tripV.sl.r_18 arg3 arg8 arg11 arg12 arg2 k f_arg3 f_arg8) : S32x128.Idx → EReal) x = codeG W ((codeRect 0 4).emb x) := by
  obtain ⟨i, l, rfl⟩ : ∃ (i : Fin 32) (l : Fin 128), x = ix2 i l := ⟨x 0, x 1, eq_ix2 x⟩
  exact (codePiece_0_4 arg3 arg8 arg11 arg12 arg2 k f_arg3 f_arg8 W hL hV i l).trans (code_piece W 0 4 i l).symm

/-- The codes of row block 3 of column chunk 0. -/
theorem codeOK_0_3 (W : ℕ → ℕ → EReal) (hL : SlabOK0 arg3 arg8 arg2 k f_arg3 f_arg8 W)
    (hV : ∀ (r : Fin 256) (l : Fin 128), tripV.sl.r_2 (F := Ideal) arg3 arg8 arg2 k f_arg3 f_arg8 (ix2 r l) = W r (128 * 0 + l)) (x : (codeRect 0 3).shape.Idx) :
    (k0_pay43 (tripV.sl.r_2 arg3 arg8 arg2 k f_arg3 f_arg8) (tripV.sl.v323 arg3 arg8 arg11 arg12 arg2 k f_arg3 f_arg8) : S32x128.Idx → EReal) x = codeG W ((codeRect 0 3).emb x) := by
  obtain ⟨i, l, rfl⟩ : ∃ (i : Fin 32) (l : Fin 128), x = ix2 i l := ⟨x 0, x 1, eq_ix2 x⟩
  exact (codePiece_0_3 arg3 arg8 arg11 arg12 arg2 k f_arg3 f_arg8 W hL hV i l).trans (code_piece W 0 3 i l).symm

/-- The codes of row block 2 of column chunk 0. -/
theorem codeOK_0_2 (W : ℕ → ℕ → EReal) (hL : SlabOK0 arg3 arg8 arg2 k f_arg3 f_arg8 W)
    (hV : ∀ (r : Fin 256) (l : Fin 128), tripV.sl.r_2 (F := Ideal) arg3 arg8 arg2 k f_arg3 f_arg8 (ix2 r l) = W r (128 * 0 + l)) (x : (codeRect 0 2).shape.Idx) :
    (k0_pay42 (tripV.sl.r_15 arg3 arg8 arg11 arg12 arg2 k f_arg3 f_arg8) (tripV.sl.r_16 arg3 arg8 arg2 k f_arg3 f_arg8) : S32x128.Idx → EReal) x = codeG W ((codeRect 0 2).emb x) := by
  obtain ⟨i, l, rfl⟩ : ∃ (i : Fin 32) (l : Fin 128), x = ix2 i l := ⟨x 0, x 1, eq_ix2 x⟩
  exact (codePiece_0_2 arg3 arg8 arg11 arg12 arg2 k f_arg3 f_arg8 W hL hV i l).trans (code_piece W 0 2 i l).symm

/-- The codes of row block 1 of column chunk 0. -/
theorem codeOK_0_1 (W : ℕ → ℕ → EReal) (hL : SlabOK0 arg3 arg8 arg2 k f_arg3 f_arg8 W)
    (hV : ∀ (r : Fin 256) (l : Fin 128), tripV.sl.r_2 (F := Ideal) arg3 arg8 arg2 k f_arg3 f_arg8 (ix2 r l) = W r (128 * 0 + l)) (x : (codeRect 0 1).shape.Idx) :
    (k0_pay39 (tripV.sl.r_2 arg3 arg8 arg2 k f_arg3 f_arg8) (tripV.sl.v281 arg3 arg8 arg11 arg12 arg2 k f_arg3 f_arg8) : S32x128.Idx → EReal) x = codeG W ((codeRect 0 1).emb x) := by
  obtain ⟨i, l, rfl⟩ : ∃ (i : Fin 32) (l : Fin 128), x = ix2 i l := ⟨x 0, x 1, eq_ix2 x⟩
  exact (codePiece_0_1 arg3 arg8 arg11 arg12 arg2 k f_arg3 f_arg8 W hL hV i l).trans (code_piece W 0 1 i l).symm

/-- The codes of row block 0 of column chunk 0. -/
theorem codeOK_0_0 (W : ℕ → ℕ → EReal) (hL : SlabOK0 arg3 arg8 arg2 k f_arg3 f_arg8 W)
    (hV : ∀ (r : Fin 256) (l : Fin 128), tripV.sl.r_2 (F := Ideal) arg3 arg8 arg2 k f_arg3 f_arg8 (ix2 r l) = W r (128 * 0 + l)) (x : (codeRect 0 0).shape.Idx) :
    (k0_pay38 (tripV.sl.r_2 arg3 arg8 arg2 k f_arg3 f_arg8) (tripV.sl.r_14 arg3 arg8 arg11 arg12 arg2 k f_arg3 f_arg8) : S32x128.Idx → EReal) x = codeG W ((codeRect 0 0).emb x) := by
  obtain ⟨i, l, rfl⟩ : ∃ (i : Fin 32) (l : Fin 128), x = ix2 i l := ⟨x 0, x 1, eq_ix2 x⟩
  exact (codePiece_0_0 arg3 arg8 arg11 arg12 arg2 k f_arg3 f_arg8 W hL hV i l).trans (code_piece W 0 0 i l).symm

end Cert.KernelIdeal.Hand
-- ==== Proof.Slab1.lean ====
module

public import proofs.«01_k».proof.Proof.TripBase

@[expose] public section

set_option maxRecDepth 8192
set_option maxHeartbeats 4000000

noncomputable section

namespace Cert.KernelIdeal.Hand

open Cert.KernelIdeal Cert.KernelIdeal.Gen
open Idealize.ShloMosaic Requant
open Idealize.ShloMosaic.View

variable (arg3 : Memref sig .tc .vmem S1x4096x512 .fp8e4m3) (arg8 : Memref sig .tc .vmem S4096x128 .bf16)
  (arg11 : Memref sig .tc .vmem S4x72x2x128 .bf16) (arg12 : Memref sig .tc .vmem S4x8x128 .i32) (arg13 : Memref sig .tc .vmem S256x512 .fp8e4m3)
  (arg2 : BitVec 32) (k : Fin k0_t2_loop.trips)
  (f_arg3 : arg3.view.ty.Contents (Elt Ideal)) (f_arg8 : arg8.view.ty.Contents (Elt Ideal))

theorem slabPiece_1_7 (W : ℕ → ℕ → EReal)
    (hA : ∀ (r : Fin 256) (l : Fin 128), tripV.sl.r_22 (F := Ideal) arg3 arg8 arg2 k f_arg3 f_arg8 (ix2 r l) = aW W r (128 * 1 + l))
    (i : Fin 1) (j : Fin 8) (p : Fin 2) (l : Fin 128) :
    (k0_pay73 (tripV.sl.r_28 arg3 arg8 arg2 k f_arg3 f_arg8) (tripV.sl.r_29 arg3 arg8 arg2 k f_arg3 f_arg8) : S1x8x2x128.Idx → EReal) (ix4 i j p l)
      = max (aW W (224 + (2 * j.val + p.val)) (128 * 1 + l.val)) (aW W (224 + (16 + 2 * j.val + p.val)) (128 * 1 + l.val)) := by
  simp only [tripV.sl.r_22] at hA
  fin_cases p <;> pointwise [tripV.sl.r_22, tripV.sl.r_28, tripV.sl.r_29, k0_pay73, k0_pay70, k0_pay71, k0_pay69] <;> simp only [hA] <;> norm_num <;> (try rfl) <;> congr 2 <;> omega

/-- The piece 7 of column chunk 1. -/
theorem slab1_7 (W : ℕ → ℕ → EReal)
    (hA : ∀ (r : Fin 256) (l : Fin 128), tripV.sl.r_22 (F := Ideal) arg3 arg8 arg2 k f_arg3 f_arg8 (ix2 r l) = aW W r (128 * 1 + l)) (x : (slabRect 1 7).shape.Idx) :
    (k0_pay73 (tripV.sl.r_28 arg3 arg8 arg2 k f_arg3 f_arg8) (tripV.sl.r_29 arg3 arg8 arg2 k f_arg3 f_arg8) : S1x8x2x128.Idx → EReal) x = slabG W ((slabRect 1 7).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_1_7 arg3 arg8 arg2 k f_arg3 f_arg8 W hA i j p l).trans (slab_piece W 1 7 i j p l).symm

theorem slabPiece_1_6 (W : ℕ → ℕ → EReal)
    (hA : ∀ (r : Fin 256) (l : Fin 128), tripV.sl.r_22 (F := Ideal) arg3 arg8 arg2 k f_arg3 f_arg8 (ix2 r l) = aW W r (128 * 1 + l))
    (i : Fin 1) (j : Fin 8) (p : Fin 2) (l : Fin 128) :
    (k0_pay68 (tripV.sl.r_22 arg3 arg8 arg2 k f_arg3 f_arg8) : S1x8x2x128.Idx → EReal) (ix4 i j p l)
      = max (aW W (192 + (2 * j.val + p.val)) (128 * 1 + l.val)) (aW W (192 + (16 + 2 * j.val + p.val)) (128 * 1 + l.val)) := by
  simp only [tripV.sl.r_22] at hA
  fin_cases p <;> pointwise [tripV.sl.r_22, k0_pay68] <;> simp only [hA] <;> norm_num <;> (try rfl) <;> congr 2 <;> omega

/-- The piece 6 of column chunk 1. -/
theorem slab1_6 (W : ℕ → ℕ → EReal)
    (hA : ∀ (r : Fin 256) (l : Fin 128), tripV.sl.r_22 (F := Ideal) arg3 arg8 arg2 k f_arg3 f_arg8 (ix2 r l) = aW W r (128 * 1 + l)) (x : (slabRect 1 6).shape.Idx) :
    (k0_pay68 (tripV.sl.r_22 arg3 arg8 arg2 k f_arg3 f_arg8) : S1x8x2x128.Idx → EReal) x = slabG W ((slabRect 1 6).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_1_6 arg3 arg8 arg2 k f_arg3 f_arg8 W hA i j p l).trans (slab_piece W 1 6 i j p l).symm

theorem slabPiece_1_5 (W : ℕ → ℕ → EReal)
    (hA : ∀ (r : Fin 256) (l : Fin 128), tripV.sl.r_22 (F := Ideal) arg3 arg8 arg2 k f_arg3 f_arg8 (ix2 r l) = aW W r (128 * 1 + l))
    (i : Fin 1) (j : Fin 8) (p : Fin 2) (l : Fin 128) :
    (k0_pay67 (tripV.sl.r_22 arg3 arg8 arg2 k f_arg3 f_arg8) : S1x8x2x128.Idx → EReal) (ix4 i j p l)
      = max (aW W (160 + (2 * j.val + p.val)) (128 * 1 + l.val)) (aW W (160 + (16 + 2 * j.val + p.val)) (128 * 1 + l.val)) := by
  simp only [tripV.sl.r_22] at hA
  fin_cases p <;> pointwise [tripV.sl.r_22, k0_pay67] <;> simp only [hA] <;> norm_num <;> (try rfl) <;> congr 2 <;> omega

/-- The piece 5 of column chunk 1. -/
theorem slab1_5 (W : ℕ → ℕ → EReal)
    (hA : ∀ (r : Fin 256) (l : Fin 128), tripV.sl.r_22 (F := Ideal) arg3 arg8 arg2 k f_arg3 f_arg8 (ix2 r l) = aW W r (128 * 1 + l)) (x : (slabRect 1 5).shape.Idx) :
    (k0_pay67 (tripV.sl.r_22 arg3 arg8 arg2 k f_arg3 f_arg8) : S1x8x2x128.Idx → EReal) x = slabG W ((slabRect 1 5).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_1_5 arg3 arg8 arg2 k f_arg3 f_arg8 W hA i j p l).trans (slab_piece W 1 5 i j p l).symm

theorem slabPiece_1_4 (W : ℕ → ℕ → EReal)
    (hA : ∀ (r : Fin 256) (l : Fin 128), tripV.sl.r_22 (F := Ideal) arg3 arg8 arg2 k f_arg3 f_arg8 (ix2 r l) = aW W r (128 * 1 + l))
    (i : Fin 1) (j : Fin 8) (p : Fin 2) (l : Fin 128) :
    (k0_pay66 (tripV.sl.r_27 arg3 arg8 arg2 k f_arg3 f_arg8) : S1x8x2x128.Idx → EReal) (ix4 i j p l)
      = max (aW W (128 + (2 * j.val + p.val)) (128 * 1 + l.val)) (aW W (128 + (16 + 2 * j.val + p.val)) (128 * 1 + l.val)) := by
  simp only [tripV.sl.r_22] at hA
  fin_cases p <;> pointwise [tripV.sl.r_22, tripV.sl.r_27, k0_pay66, k0_pay65] <;> simp only [hA] <;> norm_num <;> (try rfl) <;> congr 2 <;> omega

/-- The piece 4 of column chunk 1. -/
theorem slab1_4 (W : ℕ → ℕ → EReal)
    (hA : ∀ (r : Fin 256) (l : Fin 128), tripV.sl.r_22 (F := Ideal) arg3 arg8 arg2 k f_arg3 f_arg8 (ix2 r l) = aW W r (128 * 1 + l)) (x : (slabRect 1 4).shape.Idx) :
    (k0_pay66 (tripV.sl.r_27 arg3 arg8 arg2 k f_arg3 f_arg8) : S1x8x2x128.Idx → EReal) x = slabG W ((slabRect 1 4).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_1_4 arg3 arg8 arg2 k f_arg3 f_arg8 W hA i j p l).trans (slab_piece W 1 4 i j p l).symm

theorem slabPiece_1_3 (W : ℕ → ℕ → EReal)
    (hA : ∀ (r : Fin 256) (l : Fin 128), tripV.sl.r_22 (F := Ideal) arg3 arg8 arg2 k f_arg3 f_arg8 (ix2 r l) = aW W r (128 * 1 + l))
    (i : Fin 1) (j : Fin 8) (p : Fin 2) (l : Fin 128) :
    (k0_pay64 (tripV.sl.r_22 arg3 arg8 arg2 k f_arg3 f_arg8) : S1x8x2x128.Idx → EReal) (ix4 i j p l)
      = max (aW W (96 + (2 * j.val + p.val)) (128 * 1 + l.val)) (aW W (96 + (16 + 2 * j.val + p.val)) (128 * 1 + l.val)) := by
  simp only [tripV.sl.r_22] at hA
  fin_cases p <;> pointwise [tripV.sl.r_22, k0_pay64] <;> simp only [hA] <;> norm_num <;> (try rfl) <;> congr 2 <;> omega

/-- The piece 3 of column chunk 1. -/
theorem slab1_3 (W : ℕ → ℕ → EReal)
    (hA : ∀ (r : Fin 256) (l : Fin 128), tripV.sl.r_22 (F := Ideal) arg3 arg8 arg2 k f_arg3 f_arg8 (ix2 r l) = aW W r (128 * 1 + l)) (x : (slabRect 1 3).shape.Idx) :
    (k0_pay64 (tripV.sl.r_22 arg3 arg8 arg2 k f_arg3 f_arg8) : S1x8x2x128.Idx → EReal) x = slabG W ((slabRect 1 3).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_1_3 arg3 arg8 arg2 k f_arg3 f_arg8 W hA i j p l).trans (slab_piece W 1 3 i j p l).symm

theorem slabPiece_1_2 (W : ℕ → ℕ → EReal)
    (hA : ∀ (r : Fin 256) (l : Fin 128), tripV.sl.r_22 (F := Ideal) arg3 arg8 arg2 k f_arg3 f_arg8 (ix2 r l) = aW W r (128 * 1 + l))
    (i : Fin 1) (j : Fin 8) (p : Fin 2) (l : Fin 128) :
    (k0_pay63 (tripV.sl.r_22 arg3 arg8 arg2 k f_arg3 f_arg8) : S1x8x2x128.Idx → EReal) (ix4 i j p l)
      = max (aW W (64 + (2 * j.val + p.val)) (128 * 1 + l.val)) (aW W (64 + (16 + 2 * j.val + p.val)) (128 * 1 + l.val)) := by
  simp only [tripV.sl.r_22] at hA
  fin_cases p <;> pointwise [tripV.sl.r_22, k0_pay63] <;> simp only [hA] <;> norm_num <;> (try rfl) <;> congr 2 <;> omega

/-- The piece 2 of column chunk 1. -/
theorem slab1_2 (W : ℕ → ℕ → EReal)
    (hA : ∀ (r : Fin 256) (l : Fin 128), tripV.sl.r_22 (F := Ideal) arg3 arg8 arg2 k f_arg3 f_arg8 (ix2 r l) = aW W r (128 * 1 + l)) (x : (slabRect 1 2).shape.Idx) :
    (k0_pay63 (tripV.sl.r_22 arg3 arg8 arg2 k f_arg3 f_arg8) : S1x8x2x128.Idx → EReal) x = slabG W ((slabRect 1 2).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_1_2 arg3 arg8 arg2 k f_arg3 f_arg8 W hA i j p l).trans (slab_piece W 1 2 i j p l).symm

theorem slabPiece_1_1 (W : ℕ → ℕ → EReal)
    (hA : ∀ (r : Fin 256) (l : Fin 128), tripV.sl.r_22 (F := Ideal) arg3 arg8 arg2 k f_arg3 f_arg8 (ix2 r l) = aW W r (128 * 1 + l))
    (i : Fin 1) (j : Fin 8) (p : Fin 2) (l : Fin 128) :
    (k0_pay62 (tripV.sl.r_22 arg3 arg8 arg2 k f_arg3 f_arg8) : S1x8x2x128.Idx → EReal) (ix4 i j p l)
      = max (aW W (32 + (2 * j.val + p.val)) (128 * 1 + l.val)) (aW W (32 + (16 + 2 * j.val + p.val)) (128 * 1 + l.val)) := by
  simp only [tripV.sl.r_22] at hA
  fin_cases p <;> pointwise [tripV.sl.r_22, k0_pay62] <;> simp only [hA] <;> norm_num <;> (try rfl) <;> congr 2 <;> omega

/-- The piece 1 of column chunk 1. -/
theorem slab1_1 (W : ℕ → ℕ → EReal)
    (hA : ∀ (r : Fin 256) (l : Fin 128), tripV.sl.r_22 (F := Ideal) arg3 arg8 arg2 k f_arg3 f_arg8 (ix2 r l) = aW W r (128 * 1 + l)) (x : (slabRect 1 1).shape.Idx) :
    (k0_pay62 (tripV.sl.r_22 arg3 arg8 arg2 k f_arg3 f_arg8) : S1x8x2x128.Idx → EReal) x = slabG W ((slabRect 1 1).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_1_1 arg3 arg8 arg2 k f_arg3 f_arg8 W hA i j p l).trans (slab_piece W 1 1 i j p l).symm

theorem slabPiece_1_0 (W : ℕ → ℕ → EReal)
    (hA : ∀ (r : Fin 256) (l : Fin 128), tripV.sl.r_22 (F := Ideal) arg3 arg8 arg2 k f_arg3 f_arg8 (ix2 r l) = aW W r (128 * 1 + l))
    (i : Fin 1) (j : Fin 8) (p : Fin 2) (l : Fin 128) :
    (k0_pay61 (tripV.sl.r_23 arg3 arg8 arg2 k f_arg3 f_arg8) (tripV.sl.r_24 arg3 arg8 arg2 k f_arg3 f_arg8) : S1x8x2x128.Idx → EReal) (ix4 i j p l)
      = max (aW W (0 + (2 * j.val + p.val)) (128 * 1 + l.val)) (aW W (0 + (16 + 2 * j.val + p.val)) (128 * 1 + l.val)) := by
  simp only [tripV.sl.r_22] at hA
  fin_cases p <;> pointwise [tripV.sl.r_22, tripV.sl.r_23, tripV.sl.r_24, k0_pay61, k0_pay57, k0_pay58, k0_pay56] <;> simp only [hA] <;> norm_num <;> (try rfl) <;> congr 2 <;> omega

/-- The piece 0 of column chunk 1. -/
theorem slab1_0 (W : ℕ → ℕ → EReal)
    (hA : ∀ (r : Fin 256) (l : Fin 128), tripV.sl.r_22 (F := Ideal) arg3 arg8 arg2 k f_arg3 f_arg8 (ix2 r l) = aW W r (128 * 1 + l)) (x : (slabRect 1 0).shape.Idx) :
    (k0_pay61 (tripV.sl.r_23 arg3 arg8 arg2 k f_arg3 f_arg8) (tripV.sl.r_24 arg3 arg8 arg2 k f_arg3 f_arg8) : S1x8x2x128.Idx → EReal) x = slabG W ((slabRect 1 0).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_1_0 arg3 arg8 arg2 k f_arg3 f_arg8 W hA i j p l).trans (slab_piece W 1 0 i j p l).symm

/-- Every piece stored up to column chunk 1 agrees with the slab's contents. -/
theorem slabList1 (W : ℕ → ℕ → EReal)
    (hP : ∀ p ∈ tripV.sl.Harg11_8 (F := Ideal) arg3 arg8 arg2 k f_arg3 f_arg8, ∀ x, p.2 x = slabG W (p.1.emb x))
    (hA : ∀ (r : Fin 256) (l : Fin 128), tripV.sl.r_22 (F := Ideal) arg3 arg8 arg2 k f_arg3 f_arg8 (ix2 r l) = aW W r (128 * 1 + l)) :
    ∀ p ∈ tripV.sl.Harg11_16 (F := Ideal) arg3 arg8 arg2 k f_arg3 f_arg8, ∀ x, p.2 x = slabG W (p.1.emb x) := by
  unfold tripV.sl.Harg11_16 tripV.sl.Harg11_15
  refine List.forall_mem_cons.mpr ⟨slab1_7 arg3 arg8 arg2 k f_arg3 f_arg8 W hA, ?_⟩
  refine List.forall_mem_cons.mpr ⟨slab1_6 arg3 arg8 arg2 k f_arg3 f_arg8 W hA, ?_⟩
  refine List.forall_mem_cons.mpr ⟨slab1_5 arg3 arg8 arg2 k f_arg3 f_arg8 W hA, ?_⟩
  refine List.forall_mem_cons.mpr ⟨slab1_4 arg3 arg8 arg2 k f_arg3 f_arg8 W hA, ?_⟩
  refine List.forall_mem_cons.mpr ⟨slab1_3 arg3 arg8 arg2 k f_arg3 f_arg8 W hA, ?_⟩
  refine List.forall_mem_cons.mpr ⟨slab1_2 arg3 arg8 arg2 k f_arg3 f_arg8 W hA, ?_⟩
  refine List.forall_mem_cons.mpr ⟨slab1_1 arg3 arg8 arg2 k f_arg3 f_arg8 W hA, ?_⟩
  refine List.forall_mem_cons.mpr ⟨slab1_0 arg3 arg8 arg2 k f_arg3 f_arg8 W hA, hP⟩

/-- The eight pieces of column chunk 1 are among them. -/
theorem slabHas1 (r : Fin 8) : slabRect 1 r ∈ (tripV.sl.Harg11_16 (F := Ideal) arg3 arg8 arg2 k f_arg3 f_arg8).map (·.1) := by
  unfold tripV.sl.Harg11_16 tripV.sl.Harg11_15
  simp only [List.map_cons]
  fin_cases r
  · exact List.mem_cons_of_mem _ (List.mem_cons_of_mem _ (List.mem_cons_of_mem _ (List.mem_cons_of_mem _ (List.mem_cons_of_mem _ (List.mem_cons_of_mem _ (List.mem_cons_of_mem _ (List.mem_cons_self)))))))
  · exact List.mem_cons_of_mem _ (List.mem_cons_of_mem _ (List.mem_cons_of_mem _ (List.mem_cons_of_mem _ (List.mem_cons_of_mem _ (List.mem_cons_of_mem _ (List.mem_cons_self))))))
  · exact List.mem_cons_of_mem _ (List.mem_cons_of_mem _ (List.mem_cons_of_mem _ (List.mem_cons_of_mem _ (List.mem_cons_of_mem _ (List.mem_cons_self)))))
  · exact List.mem_cons_of_mem _ (List.mem_cons_of_mem _ (List.mem_cons_of_mem _ (List.mem_cons_of_mem _ (List.mem_cons_self))))
  · exact List.mem_cons_of_mem _ (List.mem_cons_of_mem _ (List.mem_cons_of_mem _ (List.mem_cons_self)))
  · exact List.mem_cons_of_mem _ (List.mem_cons_of_mem _ (List.mem_cons_self))
  · exact List.mem_cons_of_mem _ (List.mem_cons_self)
  · exact List.mem_cons_self

end Cert.KernelIdeal.Hand
-- ==== Proof.Exp1.lean ====
module

public import proofs.«01_k».proof.Proof.Slab1

@[expose] public section

set_option maxRecDepth 8192
set_option maxHeartbeats 400000

noncomputable section

namespace Cert.KernelIdeal.Hand

open Cert.KernelIdeal Cert.KernelIdeal.Gen
open Idealize.ShloMosaic Requant
open Idealize.ShloMosaic.View

variable (arg3 : Memref sig .tc .vmem S1x4096x512 .fp8e4m3) (arg8 : Memref sig .tc .vmem S4096x128 .bf16)
  (arg11 : Memref sig .tc .vmem S4x72x2x128 .bf16) (arg12 : Memref sig .tc .vmem S4x8x128 .i32) (arg13 : Memref sig .tc .vmem S256x512 .fp8e4m3)
  (arg2 : BitVec 32) (k : Fin k0_t2_loop.trips)
  (f_arg3 : arg3.view.ty.Contents (Elt Ideal)) (f_arg8 : arg8.view.ty.Contents (Elt Ideal))

/-- The pieces of the slab up to column chunk 1 are what the model says. -/
def SlabOK1 (W : ℕ → ℕ → EReal) : Prop := ∀ p ∈ tripV.sl.Harg11_16 (F := Ideal) arg3 arg8 arg2 k f_arg3 f_arg8, ∀ x, p.2 x = slabG W (p.1.emb x)

theorem raw1_0 (W : ℕ → ℕ → EReal) (hL : SlabOK1 arg3 arg8 arg2 k f_arg3 f_arg8 W) (r : Fin 8) (l : Fin 128) :
    tripV.sl.v532_raw (F := Ideal) arg3 arg8 arg11 arg2 k f_arg3 f_arg8 (ix4 0 r 0 l) = max (aW W (32 * r + 0) (128 * 1 + l)) (aW W (32 * r + 16) (128 * 1 + l))
    ∧ tripV.sl.v532_raw (F := Ideal) arg3 arg8 arg11 arg2 k f_arg3 f_arg8 (ix4 0 r 1 l) = max (aW W (32 * r + 1) (128 * 1 + l)) (aW W (32 * r + 17) (128 * 1 + l)) :=
  ⟨slab_read arg11.view W _ hL 1 0 (slabHas1 arg3 arg8 arg2 k f_arg3 f_arg8) _ rfl _ r 0 l,
   slab_read arg11.view W _ hL 1 0 (slabHas1 arg3 arg8 arg2 k f_arg3 f_arg8) _ rfl _ r 1 l⟩

theorem raw1_1 (W : ℕ → ℕ → EReal) (hL : SlabOK1 arg3 arg8 arg2 k f_arg3 f_arg8 W) (r : Fin 8) (l : Fin 128) :
    tripV.sl.v535_raw (F := Ideal) arg3 arg8 arg11 arg2 k f_arg3 f_arg8 (ix4 0 r 0 l) = max (aW W (32 * r + 2) (128 * 1 + l)) (aW W (32 * r + 18) (128 * 1 + l))
    ∧ tripV.sl.v535_raw (F := Ideal) arg3 arg8 arg11 arg2 k f_arg3 f_arg8 (ix4 0 r 1 l) = max (aW W (32 * r + 3) (128 * 1 + l)) (aW W (32 * r + 19) (128 * 1 + l)) :=
  ⟨slab_read arg11.view W _ hL 1 1 (slabHas1 arg3 arg8 arg2 k f_arg3 f_arg8) _ rfl _ r 0 l,
   slab_read arg11.view W _ hL 1 1 (slabHas1 arg3 arg8 arg2 k f_arg3 f_arg8) _ rfl _ r 1 l⟩

theorem raw1_2 (W : ℕ → ℕ → EReal) (hL : SlabOK1 arg3 arg8 arg2 k f_arg3 f_arg8 W) (r : Fin 8) (l : Fin 128) :
    tripV.sl.v539_raw (F := Ideal) arg3 arg8 arg11 arg2 k f_arg3 f_arg8 (ix4 0 r 0 l) = max (aW W (32 * r + 4) (128 * 1 + l)) (aW W (32 * r + 20) (128 * 1 + l))
    ∧ tripV.sl.v539_raw (F := Ideal) arg3 arg8 arg11 arg2 k f_arg3 f_arg8 (ix4 0 r 1 l) = max (aW W (32 * r + 5) (128 * 1 + l)) (aW W (32 * r + 21) (128 * 1 + l)) :=
  ⟨slab_read arg11.view W _ hL 1 2 (slabHas1 arg3 arg8 arg2 k f_arg3 f_arg8) _ rfl _ r 0 l,
   slab_read arg11.view W _ hL 1 2 (slabHas1 arg3 arg8 arg2 k f_arg3 f_arg8) _ rfl _ r 1 l⟩

theorem raw1_3 (W : ℕ → ℕ → EReal) (hL : SlabOK1 arg3 arg8 arg2 k f_arg3 f_arg8 W) (r : Fin 8) (l : Fin 128) :
    tripV.sl.v543_raw (F := Ideal) arg3 arg8 arg11 arg2 k f_arg3 f_arg8 (ix4 0 r 0 l) = max (aW W (32 * r + 6) (128 * 1 + l)) (aW W (32 * r + 22) (128 * 1 + l))
    ∧ tripV.sl.v543_raw (F := Ideal) arg3 arg8 arg11 arg2 k f_arg3 f_arg8 (ix4 0 r 1 l) = max (aW W (32 * r + 7) (128 * 1 + l)) (aW W (32 * r + 23) (128 * 1 + l)) :=
  ⟨slab_read arg11.view W _ hL 1 3 (slabHas1 arg3 arg8 arg2 k f_arg3 f_arg8) _ rfl _ r 0 l,
   slab_read arg11.view W _ hL 1 3 (slabHas1 arg3 arg8 arg2 k f_arg3 f_arg8) _ rfl _ r 1 l⟩

theorem raw1_4 (W : ℕ → ℕ → EReal) (hL : SlabOK1 arg3 arg8 arg2 k f_arg3 f_arg8 W) (r : Fin 8) (l : Fin 128) :
    tripV.sl.v547_raw (F := Ideal) arg3 arg8 arg11 arg2 k f_arg3 f_arg8 (ix4 0 r 0 l) = max (aW W (32 * r + 8) (128 * 1 + l)) (aW W (32 * r + 24) (128 * 1 + l))
    ∧ tripV.sl.v547_raw (F := Ideal) arg3 arg8 arg11 arg2 k f_arg3 f_arg8 (ix4 0 r 1 l) = max (aW W (32 * r + 9) (128 * 1 + l)) (aW W (32 * r + 25) (128 * 1 + l)) :=
  ⟨slab_read arg11.view W _ hL 1 4 (slabHas1 arg3 arg8 arg2 k f_arg3 f_arg8) _ rfl _ r 0 l,
   slab_read arg11.view W _ hL 1 4 (slabHas1 arg3 arg8 arg2 k f_arg3 f_arg8) _ rfl _ r 1 l⟩

theorem raw1_5 (W : ℕ → ℕ → EReal) (hL : SlabOK1 arg3 arg8 arg2 k f_arg3 f_arg8 W) (r : Fin 8) (l : Fin 128) :
    tripV.sl.v551_raw (F := Ideal) arg3 arg8 arg11 arg2 k f_arg3 f_arg8 (ix4 0 r 0 l) = max (aW W (32 * r + 10) (128 * 1 + l)) (aW W (32 * r + 26) (128 * 1 + l))
    ∧ tripV.sl.v551_raw (F := Ideal) arg3 arg8 arg11 arg2 k f_arg3 f_arg8 (ix4 0 r 1 l) = max (aW W (32 * r + 11) (128 * 1 + l)) (aW W (32 * r + 27) (128 * 1 + l)) :=
  ⟨slab_read arg11.view W _ hL 1 5 (slabHas1 arg3 arg8 arg2 k f_arg3 f_arg8) _ rfl _ r 0 l,
   slab_read arg11.view W _ hL 1 5 (slabHas1 arg3 arg8 arg2 k f_arg3 f_arg8) _ rfl _ r 1 l⟩

theorem raw1_6 (W : ℕ → ℕ → EReal) (hL : SlabOK1 arg3 arg8 arg2 k f_arg3 f_arg8 W) (r : Fin 8) (l : Fin 128) :
    tripV.sl.v555_raw (F := Ideal) arg3 arg8 arg11 arg2 k f_arg3 f_arg8 (ix4 0 r 0 l) = max (aW W (32 * r + 12) (128 * 1 + l)) (aW W (32 * r + 28) (128 * 1 + l))
    ∧ tripV.sl.v555_raw (F := Ideal) arg3 arg8 arg11 arg2 k f_arg3 f_arg8 (ix4 0 r 1 l) = max (aW W (32 * r + 13) (128 * 1 + l)) (aW W (32 * r + 29) (128 * 1 + l)) :=
  ⟨slab_read arg11.view W _ hL 1 6 (slabHas1 arg3 arg8 arg2 k f_arg3 f_arg8) _ rfl _ r 0 l,
   slab_read arg11.view W _ hL 1 6 (slabHas1 arg3 arg8 arg2 k f_arg3 f_arg8) _ rfl _ r 1 l⟩

theorem raw1_7 (W : ℕ → ℕ → EReal) (hL : SlabOK1 arg3 arg8 arg2 k f_arg3 f_arg8 W) (r : Fin 8) (l : Fin 128) :
    tripV.sl.v559_raw (F := Ideal) arg3 arg8 arg11 arg2 k f_arg3 f_arg8 (ix4 0 r 0 l) = max (aW W (32 * r + 14) (128 * 1 + l)) (aW W (32 * r + 30) (128 * 1 + l))
    ∧ tripV.sl.v559_raw (F := Ideal) arg3 arg8 arg11 arg2 k f_arg3 f_arg8 (ix4 0 r 1 l) = max (aW W (32 * r + 15) (128 * 1 + l)) (aW W (32 * r + 31) (128 * 1 + l)) :=
  ⟨slab_read arg11.view W _ hL 1 7 (slabHas1 arg3 arg8 arg2 k f_arg3 f_arg8) _ rfl _ r 0 l,
   slab_read arg11.view W _ hL 1 7 (slabHas1 arg3 arg8 arg2 k f_arg3 f_arg8) _ rfl _ r 1 l⟩

/-- The largest absolute value of 32 rows, scaled: column chunk 1. -/
theorem level1 (W : ℕ → ℕ → EReal) (hL : SlabOK1 arg3 arg8 arg2 k f_arg3 f_arg8 W) (r : Fin 8) (l : Fin 128) :
    tripV.sl.r_34 (F := Ideal) arg3 arg8 arg11 arg2 k f_arg3 f_arg8 (ix2 r l) = level W r (128 * 1 + l) := by
  have e : ∀ A B : EReal, A = B → A * Ideal.ofBits .f32 0x3B124925#32 = B * Ideal.ofBits .f32 0x3B124925#32 := fun A B h => by rw [h]
  pointwise [tripV.sl.r_34, tripV.sl.r_31, tripV.sl.r_32, tripV.sl.r_33, k0_pay77, k0_pay74, k0_pay75, k0_pay76]
  unfold level
  refine e _ _ ?_
  have e1 : ∀ h, (⟨2 * (r : ℕ) / 2, h⟩ : Fin 8) = r := fun h => Fin.ext (by simp)
  have e2 : ∀ h, (⟨(2 * (r : ℕ) + 1) / 2, h⟩ : Fin 8) = r := fun h => Fin.ext (by show (2 * (r : ℕ) + 1) / 2 = _; omega)
  have e3 : (2 * (r : ℕ) % 2 = 0) = True := by simp
  have e4 : ((2 * (r : ℕ) + 1) % 2 = 0) = False := by simp
  simp only [e1, e2, e3, e4, if_true, if_false, (raw1_0 arg3 arg8 arg11 arg2 k f_arg3 f_arg8 W hL r l).1, (raw1_0 arg3 arg8 arg11 arg2 k f_arg3 f_arg8 W hL r l).2, (raw1_1 arg3 arg8 arg11 arg2 k f_arg3 f_arg8 W hL r l).1, (raw1_1 arg3 arg8 arg11 arg2 k f_arg3 f_arg8 W hL r l).2, (raw1_2 arg3 arg8 arg11 arg2 k f_arg3 f_arg8 W hL r l).1, (raw1_2 arg3 arg8 arg11 arg2 k f_arg3 f_arg8 W hL r l).2, (raw1_3 arg3 arg8 arg11 arg2 k f_arg3 f_arg8 W hL r l).1, (raw1_3 arg3 arg8 arg11 arg2 k f_arg3 f_arg8 W hL r l).2, (raw1_4 arg3 arg8 arg11 arg2 k f_arg3 f_arg8 W hL r l).1, (raw1_4 arg3 arg8 arg11 arg2 k f_arg3 f_arg8 W hL r l).2, (raw1_5 arg3 arg8 arg11 arg2 k f_arg3 f_arg8 W hL r l).1, (raw1_5 arg3 arg8 arg11 arg2 k f_arg3 f_arg8 W hL r l).2, (raw1_6 arg3 arg8 arg11 arg2 k f_arg3 f_arg8 W hL r l).1, (raw1_6 arg3 arg8 arg11 arg2 k f_arg3 f_arg8 W hL r l).2, (raw1_7 arg3 arg8 arg11 arg2 k f_arg3 f_arg8 W hL r l).1, (raw1_7 arg3 arg8 arg11 arg2 k f_arg3 f_arg8 W hL r l).2]
  generalize 128 * 1 + (l : ℕ) = q
  apply le_antisymm
  · simp only [max_le_iff]
    repeat' constructor
    all_goals exact le_amax W _ _ _ (by omega) (by omega)
  · refine amax_le W _ _ _ fun i hi => ?_
    interval_cases i <;> simp only [le_max_iff, le_refl, true_or, or_true]

/-- The exponents of column chunk 1. -/
theorem expIn1 (r : Fin 8) (l : Fin 128) :
    (k0_pay83 (tripV.sl.r_37 (F := Ideal) arg3 arg8 arg11 arg2 k f_arg3 f_arg8) (tripV.sl.r_38 (F := Ideal) arg3 arg8 arg11 arg2 k f_arg3 f_arg8) : S8x128.Idx → BitVec 32) (ix2 r l) = expo (tripV.sl.r_34 (F := Ideal) arg3 arg8 arg11 arg2 k f_arg3 f_arg8 (ix2 r l)) := by
  simp only [tripV.sl.r_34, tripV.sl.r_35, tripV.sl.r_36, tripV.sl.r_37, tripV.sl.r_38, k0_pay79, bis_pay83, bis_pay78]
  exact vexpo_apply _ _

/-- The exponents of column chunk 1, as stored. -/
theorem expOut1 (W : ℕ → ℕ → EReal) (hL : SlabOK1 arg3 arg8 arg2 k f_arg3 f_arg8 W) (r : Fin 8) (l : Fin 128) :
    (k0_pay84 (tripV.sl.r_37 (F := Ideal) arg3 arg8 arg11 arg2 k f_arg3 f_arg8) (tripV.sl.r_38 (F := Ideal) arg3 arg8 arg11 arg2 k f_arg3 f_arg8) : S8x128.Idx → BitVec 32) (ix2 r l) = expo (level W r (128 * 1 + l)) := by
  have h := (expIn1 arg3 arg8 arg11 arg2 k f_arg3 f_arg8 r l).trans (congrArg expo (level1 arg3 arg8 arg11 arg2 k f_arg3 f_arg8 W hL r l))
  pointwise [k0_pay84]
  exact h

/-- The words of inverse multipliers of column chunk 1. -/
theorem invOut1 (W : ℕ → ℕ → EReal) (hL : SlabOK1 arg3 arg8 arg2 k f_arg3 f_arg8 W) (r : Fin 8) (l : Fin 128) :
    (k0_pay85 (tripV.sl.r_37 (F := Ideal) arg3 arg8 arg11 arg2 k f_arg3 f_arg8) (tripV.sl.r_38 (F := Ideal) arg3 arg8 arg11 arg2 k f_arg3 f_arg8) : S1x8x128.Idx → BitVec 32) (ix3 0 r l) = invWord (expo (level W r (128 * 1 + l))) := by
  have h := (expIn1 arg3 arg8 arg11 arg2 k f_arg3 f_arg8 r l).trans (congrArg expo (level1 arg3 arg8 arg11 arg2 k f_arg3 f_arg8 W hL r l))
  rw [← h]
  pointwise [k0_pay85]
  rfl

end Cert.KernelIdeal.Hand
-- ==== Proof.Code1.lean ====
module

public import proofs.«01_k».proof.Proof.Exp1

@[expose] public section

set_option maxRecDepth 8192
set_option maxHeartbeats 400000

noncomputable section

namespace Cert.KernelIdeal.Hand

open Cert.KernelIdeal Cert.KernelIdeal.Gen
open Idealize.ShloMosaic Requant
open Idealize.ShloMosaic.View

variable (arg3 : Memref sig .tc .vmem S1x4096x512 .fp8e4m3) (arg8 : Memref sig .tc .vmem S4096x128 .bf16)
  (arg11 : Memref sig .tc .vmem S4x72x2x128 .bf16) (arg12 : Memref sig .tc .vmem S4x8x128 .i32) (arg13 : Memref sig .tc .vmem S256x512 .fp8e4m3)
  (arg2 : BitVec 32) (k : Fin k0_t2_loop.trips)
  (f_arg3 : arg3.view.ty.Contents (Elt Ideal)) (f_arg8 : arg8.view.ty.Contents (Elt Ideal))

theorem invRow1_0 (W : ℕ → ℕ → EReal) (hL : SlabOK1 arg3 arg8 arg2 k f_arg3 f_arg8 W) (l : Fin 128) :
    tripV.sl.v654 (F := Ideal) arg3 arg8 arg11 arg12 arg2 k f_arg3 f_arg8 (ix3 0 0 l) = invWord (expo (level W 0 (128 * 1 + l))) := by
  refine (inv_read arg12.view 1 0 _ _ _ rfl rfl _ _ _ l).trans ?_
  exact invOut1 arg3 arg8 arg11 arg2 k f_arg3 f_arg8 W hL 0 l

theorem invRow1_1 (W : ℕ → ℕ → EReal) (hL : SlabOK1 arg3 arg8 arg2 k f_arg3 f_arg8 W) (l : Fin 128) :
    tripV.sl.v675 (F := Ideal) arg3 arg8 arg11 arg12 arg2 k f_arg3 f_arg8 (ix3 0 0 l) = invWord (expo (level W 1 (128 * 1 + l))) := by
  refine (inv_read arg12.view 1 1 _ _ _ rfl rfl _ _ _ l).trans ?_
  exact invOut1 arg3 arg8 arg11 arg2 k f_arg3 f_arg8 W hL 1 l

theorem invRow1_2 (W : ℕ → ℕ → EReal) (hL : SlabOK1 arg3 arg8 arg2 k f_arg3 f_arg8 W) (l : Fin 128) :
    tripV.sl.v696 (F := Ideal) arg3 arg8 arg11 arg12 arg2 k f_arg3 f_arg8 (ix3 0 0 l) = invWord (expo (level W 2 (128 * 1 + l))) := by
  refine (inv_read arg12.view 1 2 _ _ _ rfl rfl _ _ _ l).trans ?_
  exact invOut1 arg3 arg8 arg11 arg2 k f_arg3 f_arg8 W hL 2 l

theorem invRow1_3 (W : ℕ → ℕ → EReal) (hL : SlabOK1 arg3 arg8 arg2 k f_arg3 f_arg8 W) (l : Fin 128) :
    tripV.sl.v717 (F := Ideal) arg3 arg8 arg11 arg12 arg2 k f_arg3 f_arg8 (ix3 0 0 l) = invWord (expo (level W 3 (128 * 1 + l))) := by
  refine (inv_read arg12.view 1 3 _ _ _ rfl rfl _ _ _ l).trans ?_
  exact invOut1 arg3 arg8 arg11 arg2 k f_arg3 f_arg8 W hL 3 l

theorem invRow1_4 (W : ℕ → ℕ → EReal) (hL : SlabOK1 arg3 arg8 arg2 k f_arg3 f_arg8 W) (l : Fin 128) :
    tripV.sl.v738 (F := Ideal) arg3 arg8 arg11 arg12 arg2 k f_arg3 f_arg8 (ix3 0 0 l) = invWord (expo (level W 4 (128 * 1 + l))) := by
  refine (inv_read arg12.view 1 4 _ _ _ rfl rfl _ _ _ l).trans ?_
  exact invOut1 arg3 arg8 arg11 arg2 k f_arg3 f_arg8 W hL 4 l

theorem invRow1_5 (W : ℕ → ℕ → EReal) (hL : SlabOK1 arg3 arg8 arg2 k f_arg3 f_arg8 W) (l : Fin 128) :
    tripV.sl.v759 (F := Ideal) arg3 arg8 arg11 arg12 arg2 k f_arg3 f_arg8 (ix3 0 0 l) = invWord (expo (level W 5 (128 * 1 + l))) := by
  refine (inv_read arg12.view 1 5 _ _ _ rfl rfl _ _ _ l).trans ?_
  exact invOut1 arg3 arg8 arg11 arg2 k f_arg3 f_arg8 W hL 5 l

theorem invRow1_6 (W : ℕ → ℕ → EReal) (hL : SlabOK1 arg3 arg8 arg2 k f_arg3 f_arg8 W) (l : Fin 128) :
    tripV.sl.v780 (F := Ideal) arg3 arg8 arg11 arg12 arg2 k f_arg3 f_arg8 (ix3 0 0 l) = invWord (expo (level W 6 (128 * 1 + l))) := by
  refine (inv_read arg12.view 1 6 _ _ _ rfl rfl _ _ _ l).trans ?_
  exact invOut1 arg3 arg8 arg11 arg2 k f_arg3 f_arg8 W hL 6 l

theorem invRow1_7 (W : ℕ → ℕ → EReal) (hL : SlabOK1 arg3 arg8 arg2 k f_arg3 f_arg8 W) (l : Fin 128) :
    tripV.sl.v801 (F := Ideal) arg3 arg8 arg11 arg12 arg2 k f_arg3 f_arg8 (ix3 0 0 l) = invWord (expo (level W 7 (128 * 1 + l))) := by
  refine (inv_read arg12.view 1 7 _ _ _ rfl rfl _ _ _ l).trans ?_
  exact invOut1 arg3 arg8 arg11 arg2 k f_arg3 f_arg8 W hL 7 l

theorem codePiece_1_7 (W : ℕ → ℕ → EReal) (hL : SlabOK1 arg3 arg8 arg2 k f_arg3 f_arg8 W)
    (hV : ∀ (r : Fin 256) (l : Fin 128), tripV.sl.r_21 (F := Ideal) arg3 arg8 arg2 k f_arg3 f_arg8 (ix2 r l) = W r (128 * 1 + l)) (i : Fin 32) (l : Fin 128) :
    (k0_pay97 (tripV.sl.r_41 arg3 arg8 arg11 arg12 arg2 k f_arg3 f_arg8) (tripV.sl.r_42 arg3 arg8 arg2 k f_arg3 f_arg8) : S32x128.Idx → EReal) (ix2 i l) = code W (224 + i) (128 * 1 + l) := by
  simp only [tripV.sl.r_21] at hV
  have hi := invRow1_7 arg3 arg8 arg11 arg12 arg2 k f_arg3 f_arg8 W hL l
  have hh := inv_half (level W 7 (128 * 1 + l)) ⟨i.val % 16 % 2, by omega⟩
  have hb : (224 + i.val) / 32 = 7 := by omega
  unfold code
  rw [hb, ← hh]
  pointwise [tripV.sl.r_21, tripV.sl.r_41, tripV.sl.r_42, k0_pay97, k0_pay95, k0_pay96]
  rw [bitcast_half]
  pointwise [hi, hV]

theorem codePiece_1_6 (W : ℕ → ℕ → EReal) (hL : SlabOK1 arg3 arg8 arg2 k f_arg3 f_arg8 W)
    (hV : ∀ (r : Fin 256) (l : Fin 128), tripV.sl.r_21 (F := Ideal) arg3 arg8 arg2 k f_arg3 f_arg8 (ix2 r l) = W r (128 * 1 + l)) (i : Fin 32) (l : Fin 128) :
    (k0_pay94 (tripV.sl.r_21 arg3 arg8 arg2 k f_arg3 f_arg8) (tripV.sl.v780 arg3 arg8 arg11 arg12 arg2 k f_arg3 f_arg8) : S32x128.Idx → EReal) (ix2 i l) = code W (192 + i) (128 * 1 + l) := by
  simp only [tripV.sl.r_21] at hV
  have hi := invRow1_6 arg3 arg8 arg11 arg12 arg2 k f_arg3 f_arg8 W hL l
  have hh := inv_half (level W 6 (128 * 1 + l)) ⟨i.val % 16 % 2, by omega⟩
  have hb : (192 + i.val) / 32 = 6 := by omega
  unfold code
  rw [hb, ← hh]
  pointwise [tripV.sl.r_21, k0_pay94]
  rw [bitcast_half]
  pointwise [hi, hV]

theorem codePiece_1_5 (W : ℕ → ℕ → EReal) (hL : SlabOK1 arg3 arg8 arg2 k f_arg3 f_arg8 W)
    (hV : ∀ (r : Fin 256) (l : Fin 128), tripV.sl.r_21 (F := Ideal) arg3 arg8 arg2 k f_arg3 f_arg8 (ix2 r l) = W r (128 * 1 + l)) (i : Fin 32) (l : Fin 128) :
    (k0_pay93 (tripV.sl.r_21 arg3 arg8 arg2 k f_arg3 f_arg8) (tripV.sl.r_40 arg3 arg8 arg11 arg12 arg2 k f_arg3 f_arg8) : S32x128.Idx → EReal) (ix2 i l) = code W (160 + i) (128 * 1 + l) := by
  simp only [tripV.sl.r_21] at hV
  have hi := invRow1_5 arg3 arg8 arg11 arg12 arg2 k f_arg3 f_arg8 W hL l
  have hh := inv_half (level W 5 (128 * 1 + l)) ⟨i.val % 16 % 2, by omega⟩
  have hb : (160 + i.val) / 32 = 5 := by omega
  unfold code
  rw [hb, ← hh]
  pointwise [tripV.sl.r_21, tripV.sl.r_40, k0_pay93, k0_pay92]
  rw [bitcast_half]
  pointwise [hi, hV]

theorem codePiece_1_4 (W : ℕ → ℕ → EReal) (hL : SlabOK1 arg3 arg8 arg2 k f_arg3 f_arg8 W)
    (hV : ∀ (r : Fin 256) (l : Fin 128), tripV.sl.r_21 (F := Ideal) arg3 arg8 arg2 k f_arg3 f_arg8 (ix2 r l) = W r (128 * 1 + l)) (i : Fin 32) (l : Fin 128) :
    (k0_pay91 (tripV.sl.r_21 arg3 arg8 arg2 k f_arg3 f_arg8) (tripV.sl.v738 arg3 arg8 arg11 arg12 arg2 k f_arg3 f_arg8) : S32x128.Idx → EReal) (ix2 i l) = code W (128 + i) (128 * 1 + l) := by
  simp only [tripV.sl.r_21] at hV
  have hi := invRow1_4 arg3 arg8 arg11 arg12 arg2 k f_arg3 f_arg8 W hL l
  have hh := inv_half (level W 4 (128 * 1 + l)) ⟨i.val % 16 % 2, by omega⟩
  have hb : (128 + i.val) / 32 = 4 := by omega
  unfold code
  rw [hb, ← hh]
  pointwise [tripV.sl.r_21, k0_pay91]
  rw [bitcast_half]
  pointwise [hi, hV]

theorem codePiece_1_3 (W : ℕ → ℕ → EReal) (hL : SlabOK1 arg3 arg8 arg2 k f_arg3 f_arg8 W)
    (hV : ∀ (r : Fin 256) (l : Fin 128), tripV.sl.r_21 (F := Ideal) arg3 arg8 arg2 k f_arg3 f_arg8 (ix2 r l) = W r (128 * 1 + l)) (i : Fin 32) (l : Fin 128) :
    (k0_pay90 (tripV.sl.r_21 arg3 arg8 arg2 k f_arg3 f_arg8) (tripV.sl.r_39 arg3 arg8 arg11 arg12 arg2 k f_arg3 f_arg8) : S32x128.Idx → EReal) (ix2 i l) = code W (96 + i) (128 * 1 + l) := by
  simp only [tripV.sl.r_21] at hV
  have hi := invRow1_3 arg3 arg8 arg11 arg12 arg2 k f_arg3 f_arg8 W hL l
  have hh := inv_half (level W 3 (128 * 1 + l)) ⟨i.val % 16 % 2, by omega⟩
  have hb : (96 + i.val) / 32 = 3 := by omega
  unfold code
  rw [hb, ← hh]
  pointwise [tripV.sl.r_21, tripV.sl.r_39, k0_pay90, k0_pay89]
  rw [bitcast_half]
  pointwise [hi, hV]

theorem codePiece_1_2 (W : ℕ → ℕ → EReal) (hL : SlabOK1 arg3 arg8 arg2 k f_arg3 f_arg8 W)
    (hV : ∀ (r : Fin 256) (l : Fin 128), tripV.sl.r_21 (F := Ideal) arg3 arg8 arg2 k f_arg3 f_arg8 (ix2 r l) = W r (128 * 1 + l)) (i : Fin 32) (l : Fin 128) :
    (k0_pay88 (tripV.sl.r_21 arg3 arg8 arg2 k f_arg3 f_arg8) (tripV.sl.v696 arg3 arg8 arg11 arg12 arg2 k f_arg3 f_arg8) : S32x128.Idx → EReal) (ix2 i l) = code W (64 + i) (128 * 1 + l) := by
  simp only [tripV.sl.r_21] at hV
  have hi := invRow1_2 arg3 arg8 arg11 arg12 arg2 k f_arg3 f_arg8 W hL l
  have hh := inv_half (level W 2 (128 * 1 + l)) ⟨i.val % 16 % 2, by omega⟩
  have hb : (64 + i.val) / 32 = 2 := by omega
  unfold code
  rw [hb, ← hh]
  pointwise [tripV.sl.r_21, k0_pay88]
  rw [bitcast_half]
  pointwise [hi, hV]

theorem codePiece_1_1 (W : ℕ → ℕ → EReal) (hL : SlabOK1 arg3 arg8 arg2 k f_arg3 f_arg8 W)
    (hV : ∀ (r : Fin 256) (l : Fin 128), tripV.sl.r_21 (F := Ideal) arg3 arg8 arg2 k f_arg3 f_arg8 (ix2 r l) = W r (128 * 1 + l)) (i : Fin 32) (l : Fin 128) :
    (k0_pay87 (tripV.sl.r_21 arg3 arg8 arg2 k f_arg3 f_arg8) (tripV.sl.v675 arg3 arg8 arg11 arg12 arg2 k f_arg3 f_arg8) : S32x128.Idx → EReal) (ix2 i l) = code W (32 + i) (128 * 1 + l) := by
  simp only [tripV.sl.r_21] at hV
  have hi := invRow1_1 arg3 arg8 arg11 arg12 arg2 k f_arg3 f_arg8 W hL l
  have hh := inv_half (level W 1 (128 * 1 + l)) ⟨i.val % 16 % 2, by omega⟩
  have hb : (32 + i.val) / 32 = 1 := by omega
  unfold code
  rw [hb, ← hh]
  pointwise [tripV.sl.r_21, k0_pay87]
  rw [bitcast_half]
  pointwise [hi, hV]

theorem codePiece_1_0 (W : ℕ → ℕ → EReal) (hL : SlabOK1 arg3 arg8 arg2 k f_arg3 f_arg8 W)
    (hV : ∀ (r : Fin 256) (l : Fin 128), tripV.sl.r_21 (F := Ideal) arg3 arg8 arg2 k f_arg3 f_arg8 (ix2 r l) = W r (128 * 1 + l)) (i : Fin 32) (l : Fin 128) :
    (k0_pay86 (tripV.sl.r_21 arg3 arg8 arg2 k f_arg3 f_arg8) (tripV.sl.v654 arg3 arg8 arg11 arg12 arg2 k f_arg3 f_arg8) : S32x128.Idx → EReal) (ix2 i l) = code W (0 + i) (128 * 1 + l) := by
  simp only [tripV.sl.r_21] at hV
  have hi := invRow1_0 arg3 arg8 arg11 arg12 arg2 k f_arg3 f_arg8 W hL l
  have hh := inv_half (level W 0 (128 * 1 + l)) ⟨i.val % 16 % 2, by omega⟩
  have hb : (0 + i.val) / 32 = 0 := by omega
  unfold code
  rw [hb, ← hh]
  pointwise [tripV.sl.r_21, k0_pay86]
  rw [bitcast_half]
  pointwise [hi, hV]

/-- The codes of row block 7 of column chunk 1. -/
theorem codeOK_1_7 (W : ℕ → ℕ → EReal) (hL : SlabOK1 arg3 arg8 arg2 k f_arg3 f_arg8 W)
    (hV : ∀ (r : Fin 256) (l : Fin 128), tripV.sl.r_21 (F := Ideal) arg3 arg8 arg2 k f_arg3 f_arg8 (ix2 r l) = W r (128 * 1 + l)) (x : (codeRect 1 7).shape.Idx) :
    (k0_pay97 (tripV.sl.r_41 arg3 arg8 arg11 arg12 arg2 k f_arg3 f_arg8) (tripV.sl.r_42 arg3 arg8 arg2 k f_arg3 f_arg8) : S32x128.Idx → EReal) x = codeG W ((codeRect 1 7).emb x) := by
  obtain ⟨i, l, rfl⟩ : ∃ (i : Fin 32) (l : Fin 128), x = ix2 i l := ⟨x 0, x 1, eq_ix2 x⟩
  exact (codePiece_1_7 arg3 arg8 arg11 arg12 arg2 k f_arg3 f_arg8 W hL hV i l).trans (code_piece W 1 7 i l).symm

/-- The codes of row block 6 of column chunk 1. -/
theorem codeOK_1_6 (W : ℕ → ℕ → EReal) (hL : SlabOK1 arg3 arg8 arg2 k f_arg3 f_arg8 W)
    (hV : ∀ (r : Fin 256) (l : Fin 128), tripV.sl.r_21 (F := Ideal) arg3 arg8 arg2 k f_arg3 f_arg8 (ix2 r l) = W r (128 * 1 + l)) (x : (codeRect 1 6).shape.Idx) :
    (k0_pay94 (tripV.sl.r_21 arg3 arg8 arg2 k f_arg3 f_arg8) (tripV.sl.v780 arg3 arg8 arg11 arg12 arg2 k f_arg3 f_arg8) : S32x128.Idx → EReal) x = codeG W ((codeRect 1 6).emb x) := by
  obtain ⟨i, l, rfl⟩ : ∃ (i : Fin 32) (l : Fin 128), x = ix2 i l := ⟨x 0, x 1, eq_ix2 x⟩
  exact (codePiece_1_6 arg3 arg8 arg11 arg12 arg2 k f_arg3 f_arg8 W hL hV i l).trans (code_piece W 1 6 i l).symm

/-- The codes of row block 5 of column chunk 1. -/
theorem codeOK_1_5 (W : ℕ → ℕ → EReal) (hL : SlabOK1 arg3 arg8 arg2 k f_arg3 f_arg8 W)
    (hV : ∀ (r : Fin 256) (l : Fin 128), tripV.sl.r_21 (F := Ideal) arg3 arg8 arg2 k f_arg3 f_arg8 (ix2 r l) = W r (128 * 1 + l)) (x : (codeRect 1 5).shape.Idx) :
    (k0_pay93 (tripV.sl.r_21 arg3 arg8 arg2 k f_arg3 f_arg8) (tripV.sl.r_40 arg3 arg8 arg11 arg12 arg2 k f_arg3 f_arg8) : S32x128.Idx → EReal) x = codeG W ((codeRect 1 5).emb x) := by
  obtain ⟨i, l, rfl⟩ : ∃ (i : Fin 32) (l : Fin 128), x = ix2 i l := ⟨x 0, x 1, eq_ix2 x⟩
  exact (codePiece_1_5 arg3 arg8 arg11 arg12 arg2 k f_arg3 f_arg8 W hL hV i l).trans (code_piece W 1 5 i l).symm

/-- The codes of row block 4 of column chunk 1. -/
theorem codeOK_1_4 (W : ℕ → ℕ → EReal) (hL : SlabOK1 arg3 arg8 arg2 k f_arg3 f_arg8 W)
    (hV : ∀ (r : Fin 256) (l : Fin 128), tripV.sl.r_21 (F := Ideal) arg3 arg8 arg2 k f_arg3 f_arg8 (ix2 r l) = W r (128 * 1 + l)) (x : (codeRect 1 4).shape.Idx) :
    (k0_pay91 (tripV.sl.r_21 arg3 arg8 arg2 k f_arg3 f_arg8) (tripV.sl.v738 arg3 arg8 arg11 arg12 arg2 k f_arg3 f_arg8) : S32x128.Idx → EReal) x = codeG W ((codeRect 1 4).emb x) := by
  obtain ⟨i, l, rfl⟩ : ∃ (i : Fin 32) (l : Fin 128), x = ix2 i l := ⟨x 0, x 1, eq_ix2 x⟩
  exact (codePiece_1_4 arg3 arg8 arg11 arg12 arg2 k f_arg3 f_arg8 W hL hV i l).trans (code_piece W 1 4 i l).symm

/-- The codes of row block 3 of column chunk 1. -/
theorem codeOK_1_3 (W : ℕ → ℕ → EReal) (hL : SlabOK1 arg3 arg8 arg2 k f_arg3 f_arg8 W)
    (hV : ∀ (r : Fin 256) (l : Fin 128), tripV.sl.r_21 (F := Ideal) arg3 arg8 arg2 k f_arg3 f_arg8 (ix2 r l) = W r (128 * 1 + l)) (x : (codeRect 1 3).shape.Idx) :
    (k0_pay90 (tripV.sl.r_21 arg3 arg8 arg2 k f_arg3 f_arg8) (tripV.sl.r_39 arg3 arg8 arg11 arg12 arg2 k f_arg3 f_arg8) : S32x128.Idx → EReal) x = codeG W ((codeRect 1 3).emb x) := by
  obtain ⟨i, l, rfl⟩ : ∃ (i : Fin 32) (l : Fin 128), x = ix2 i l := ⟨x 0, x 1, eq_ix2 x⟩
  exact (codePiece_1_3 arg3 arg8 arg11 arg12 arg2 k f_arg3 f_arg8 W hL hV i l).trans (code_piece W 1 3 i l).symm

/-- The codes of row block 2 of column chunk 1. -/
theorem codeOK_1_2 (W : ℕ → ℕ → EReal) (hL : SlabOK1 arg3 arg8 arg2 k f_arg3 f_arg8 W)
    (hV : ∀ (r : Fin 256) (l : Fin 128), tripV.sl.r_21 (F := Ideal) arg3 arg8 arg2 k f_arg3 f_arg8 (ix2 r l) = W r (128 * 1 + l)) (x : (codeRect 1 2).shape.Idx) :
    (k0_pay88 (tripV.sl.r_21 arg3 arg8 arg2 k f_arg3 f_arg8) (tripV.sl.v696 arg3 arg8 arg11 arg12 arg2 k f_arg3 f_arg8) : S32x128.Idx → EReal) x = codeG W ((codeRect 1 2).emb x) := by
  obtain ⟨i, l, rfl⟩ : ∃ (i : Fin 32) (l : Fin 128), x = ix2 i l := ⟨x 0, x 1, eq_ix2 x⟩
  exact (codePiece_1_2 arg3 arg8 arg11 arg12 arg2 k f_arg3 f_arg8 W hL hV i l).trans (code_piece W 1 2 i l).symm

/-- The codes of row block 1 of column chunk 1. -/
theorem codeOK_1_1 (W : ℕ → ℕ → EReal) (hL : SlabOK1 arg3 arg8 arg2 k f_arg3 f_arg8 W)
    (hV : ∀ (r : Fin 256) (l : Fin 128), tripV.sl.r_21 (F := Ideal) arg3 arg8 arg2 k f_arg3 f_arg8 (ix2 r l) = W r (128 * 1 + l)) (x : (codeRect 1 1).shape.Idx) :
    (k0_pay87 (tripV.sl.r_21 arg3 arg8 arg2 k f_arg3 f_arg8) (tripV.sl.v675 arg3 arg8 arg11 arg12 arg2 k f_arg3 f_arg8) : S32x128.Idx → EReal) x = codeG W ((codeRect 1 1).emb x) := by
  obtain ⟨i, l, rfl⟩ : ∃ (i : Fin 32) (l : Fin 128), x = ix2 i l := ⟨x 0, x 1, eq_ix2 x⟩
  exact (codePiece_1_1 arg3 arg8 arg11 arg12 arg2 k f_arg3 f_arg8 W hL hV i l).trans (code_piece W 1 1 i l).symm

/-- The codes of row block 0 of column chunk 1. -/
theorem codeOK_1_0 (W : ℕ → ℕ → EReal) (hL : SlabOK1 arg3 arg8 arg2 k f_arg3 f_arg8 W)
    (hV : ∀ (r : Fin 256) (l : Fin 128), tripV.sl.r_21 (F := Ideal) arg3 arg8 arg2 k f_arg3 f_arg8 (ix2 r l) = W r (128 * 1 + l)) (x : (codeRect 1 0).shape.Idx) :
    (k0_pay86 (tripV.sl.r_21 arg3 arg8 arg2 k f_arg3 f_arg8) (tripV.sl.v654 arg3 arg8 arg11 arg12 arg2 k f_arg3 f_arg8) : S32x128.Idx → EReal) x = codeG W ((codeRect 1 0).emb x) := by
  obtain ⟨i, l, rfl⟩ : ∃ (i : Fin 32) (l : Fin 128), x = ix2 i l := ⟨x 0, x 1, eq_ix2 x⟩
  exact (codePiece_1_0 arg3 arg8 arg11 arg12 arg2 k f_arg3 f_arg8 W hL hV i l).trans (code_piece W 1 0 i l).symm

end Cert.KernelIdeal.Hand
-- ==== Proof.Slab2.lean ====
module

public import proofs.«01_k».proof.Proof.TripBase

@[expose] public section

set_option maxRecDepth 8192
set_option maxHeartbeats 4000000

noncomputable section

namespace Cert.KernelIdeal.Hand

open Cert.KernelIdeal Cert.KernelIdeal.Gen
open Idealize.ShloMosaic Requant
open Idealize.ShloMosaic.View

variable (arg3 : Memref sig .tc .vmem S1x4096x512 .fp8e4m3) (arg8 : Memref sig .tc .vmem S4096x128 .bf16)
  (arg11 : Memref sig .tc .vmem S4x72x2x128 .bf16) (arg12 : Memref sig .tc .vmem S4x8x128 .i32) (arg13 : Memref sig .tc .vmem S256x512 .fp8e4m3)
  (arg2 : BitVec 32) (k : Fin k0_t2_loop.trips)
  (f_arg3 : arg3.view.ty.Contents (Elt Ideal)) (f_arg8 : arg8.view.ty.Contents (Elt Ideal))

theorem slabPiece_2_7 (W : ℕ → ℕ → EReal)
    (hA : ∀ (r : Fin 256) (l : Fin 128), tripV.sl.r_44 (F := Ideal) arg3 arg8 arg2 k f_arg3 f_arg8 (ix2 r l) = aW W r (128 * 2 + l))
    (i : Fin 1) (j : Fin 8) (p : Fin 2) (l : Fin 128) :
    (k0_pay116 (tripV.sl.r_44 arg3 arg8 arg2 k f_arg3 f_arg8) : S1x8x2x128.Idx → EReal) (ix4 i j p l)
      = max (aW W (224 + (2 * j.val + p.val)) (128 * 2 + l.val)) (aW W (224 + (16 + 2 * j.val + p.val)) (128 * 2 + l.val)) := by
  simp only [tripV.sl.r_44] at hA
  fin_cases p <;> pointwise [tripV.sl.r_44, k0_pay116] <;> simp only [hA] <;> norm_num <;> (try rfl) <;> congr 2 <;> omega

/-- The piece 7 of column chunk 2. -/
theorem slab2_7 (W : ℕ → ℕ → EReal)
    (hA : ∀ (r : Fin 256) (l : Fin 128), tripV.sl.r_44 (F := Ideal) arg3 arg8 arg2 k f_arg3 f_arg8 (ix2 r l) = aW W r (128 * 2 + l)) (x : (slabRect 2 7).shape.Idx) :
    (k0_pay116 (tripV.sl.r_44 arg3 arg8 arg2 k f_arg3 f_arg8) : S1x8x2x128.Idx → EReal) x = slabG W ((slabRect 2 7).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_2_7 arg3 arg8 arg2 k f_arg3 f_arg8 W hA i j p l).trans (slab_piece W 2 7 i j p l).symm

theorem slabPiece_2_6 (W : ℕ → ℕ → EReal)
    (hA : ∀ (r : Fin 256) (l : Fin 128), tripV.sl.r_44 (F := Ideal) arg3 arg8 arg2 k f_arg3 f_arg8 (ix2 r l) = aW W r (128 * 2 + l))
    (i : Fin 1) (j : Fin 8) (p : Fin 2) (l : Fin 128) :
    (k0_pay115 (tripV.sl.r_44 arg3 arg8 arg2 k f_arg3 f_arg8) : S1x8x2x128.Idx → EReal) (ix4 i j p l)
      = max (aW W (192 + (2 * j.val + p.val)) (128 * 2 + l.val)) (aW W (192 + (16 + 2 * j.val + p.val)) (128 * 2 + l.val)) := by
  simp only [tripV.sl.r_44] at hA
  fin_cases p <;> pointwise [tripV.sl.r_44, k0_pay115] <;> simp only [hA] <;> norm_num <;> (try rfl) <;> congr 2 <;> omega

/-- The piece 6 of column chunk 2. -/
theorem slab2_6 (W : ℕ → ℕ → EReal)
    (hA : ∀ (r : Fin 256) (l : Fin 128), tripV.sl.r_44 (F := Ideal) arg3 arg8 arg2 k f_arg3 f_arg8 (ix2 r l) = aW W r (128 * 2 + l)) (x : (slabRect 2 6).shape.Idx) :
    (k0_pay115 (tripV.sl.r_44 arg3 arg8 arg2 k f_arg3 f_arg8) : S1x8x2x128.Idx → EReal) x = slabG W ((slabRect 2 6).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_2_6 arg3 arg8 arg2 k f_arg3 f_arg8 W hA i j p l).trans (slab_piece W 2 6 i j p l).symm

theorem slabPiece_2_5 (W : ℕ → ℕ → EReal)
    (hA : ∀ (r : Fin 256) (l : Fin 128), tripV.sl.r_44 (F := Ideal) arg3 arg8 arg2 k f_arg3 f_arg8 (ix2 r l) = aW W r (128 * 2 + l))
    (i : Fin 1) (j : Fin 8) (p : Fin 2) (l : Fin 128) :
    (k0_pay114 (tripV.sl.r_47 arg3 arg8 arg2 k f_arg3 f_arg8) (tripV.sl.r_48 arg3 arg8 arg2 k f_arg3 f_arg8) : S1x8x2x128.Idx → EReal) (ix4 i j p l)
      = max (aW W (160 + (2 * j.val + p.val)) (128 * 2 + l.val)) (aW W (160 + (16 + 2 * j.val + p.val)) (128 * 2 + l.val)) := by
  simp only [tripV.sl.r_44] at hA
  fin_cases p <;> pointwise [tripV.sl.r_44, tripV.sl.r_47, tripV.sl.r_48, k0_pay114, k0_pay110, k0_pay111, k0_pay109] <;> simp only [hA] <;> norm_num <;> (try rfl) <;> congr 2 <;> omega

/-- The piece 5 of column chunk 2. -/
theorem slab2_5 (W : ℕ → ℕ → EReal)
    (hA : ∀ (r : Fin 256) (l : Fin 128), tripV.sl.r_44 (F := Ideal) arg3 arg8 arg2 k f_arg3 f_arg8 (ix2 r l) = aW W r (128 * 2 + l)) (x : (slabRect 2 5).shape.Idx) :
    (k0_pay114 (tripV.sl.r_47 arg3 arg8 arg2 k f_arg3 f_arg8) (tripV.sl.r_48 arg3 arg8 arg2 k f_arg3 f_arg8) : S1x8x2x128.Idx → EReal) x = slabG W ((slabRect 2 5).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_2_5 arg3 arg8 arg2 k f_arg3 f_arg8 W hA i j p l).trans (slab_piece W 2 5 i j p l).symm

theorem slabPiece_2_4 (W : ℕ → ℕ → EReal)
    (hA : ∀ (r : Fin 256) (l : Fin 128), tripV.sl.r_44 (F := Ideal) arg3 arg8 arg2 k f_arg3 f_arg8 (ix2 r l) = aW W r (128 * 2 + l))
    (i : Fin 1) (j : Fin 8) (p : Fin 2) (l : Fin 128) :
    (k0_pay108 (tripV.sl.r_44 arg3 arg8 arg2 k f_arg3 f_arg8) : S1x8x2x128.Idx → EReal) (ix4 i j p l)
      = max (aW W (128 + (2 * j.val + p.val)) (128 * 2 + l.val)) (aW W (128 + (16 + 2 * j.val + p.val)) (128 * 2 + l.val)) := by
  simp only [tripV.sl.r_44] at hA
  fin_cases p <;> pointwise [tripV.sl.r_44, k0_pay108] <;> simp only [hA] <;> norm_num <;> (try rfl) <;> congr 2 <;> omega

/-- The piece 4 of column chunk 2. -/
theorem slab2_4 (W : ℕ → ℕ → EReal)
    (hA : ∀ (r : Fin 256) (l : Fin 128), tripV.sl.r_44 (F := Ideal) arg3 arg8 arg2 k f_arg3 f_arg8 (ix2 r l) = aW W r (128 * 2 + l)) (x : (slabRect 2 4).shape.Idx) :
    (k0_pay108 (tripV.sl.r_44 arg3 arg8 arg2 k f_arg3 f_arg8) : S1x8x2x128.Idx → EReal) x = slabG W ((slabRect 2 4).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_2_4 arg3 arg8 arg2 k f_arg3 f_arg8 W hA i j p l).trans (slab_piece W 2 4 i j p l).symm

theorem slabPiece_2_3 (W : ℕ → ℕ → EReal)
    (hA : ∀ (r : Fin 256) (l : Fin 128), tripV.sl.r_44 (F := Ideal) arg3 arg8 arg2 k f_arg3 f_arg8 (ix2 r l) = aW W r (128 * 2 + l))
    (i : Fin 1) (j : Fin 8) (p : Fin 2) (l : Fin 128) :
    (k0_pay107 (tripV.sl.r_44 arg3 arg8 arg2 k f_arg3 f_arg8) : S1x8x2x128.Idx → EReal) (ix4 i j p l)
      = max (aW W (96 + (2 * j.val + p.val)) (128 * 2 + l.val)) (aW W (96 + (16 + 2 * j.val + p.val)) (128 * 2 + l.val)) := by
  simp only [tripV.sl.r_44] at hA
  fin_cases p <;> pointwise [tripV.sl.r_44, k0_pay107] <;> simp only [hA] <;> norm_num <;> (try rfl) <;> congr 2 <;> omega

/-- The piece 3 of column chunk 2. -/
theorem slab2_3 (W : ℕ → ℕ → EReal)
    (hA : ∀ (r : Fin 256) (l : Fin 128), tripV.sl.r_44 (F := Ideal) arg3 arg8 arg2 k f_arg3 f_arg8 (ix2 r l) = aW W r (128 * 2 + l)) (x : (slabRect 2 3).shape.Idx) :
    (k0_pay107 (tripV.sl.r_44 arg3 arg8 arg2 k f_arg3 f_arg8) : S1x8x2x128.Idx → EReal) x = slabG W ((slabRect 2 3).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_2_3 arg3 arg8 arg2 k f_arg3 f_arg8 W hA i j p l).trans (slab_piece W 2 3 i j p l).symm

theorem slabPiece_2_2 (W : ℕ → ℕ → EReal)
    (hA : ∀ (r : Fin 256) (l : Fin 128), tripV.sl.r_44 (F := Ideal) arg3 arg8 arg2 k f_arg3 f_arg8 (ix2 r l) = aW W r (128 * 2 + l))
    (i : Fin 1) (j : Fin 8) (p : Fin 2) (l : Fin 128) :
    (k0_pay106 (tripV.sl.r_45 arg3 arg8 arg2 k f_arg3 f_arg8) (tripV.sl.r_46 arg3 arg8 arg2 k f_arg3 f_arg8) : S1x8x2x128.Idx → EReal) (ix4 i j p l)
      = max (aW W (64 + (2 * j.val + p.val)) (128 * 2 + l.val)) (aW W (64 + (16 + 2 * j.val + p.val)) (128 * 2 + l.val)) := by
  simp only [tripV.sl.r_44] at hA
  fin_cases p <;> pointwise [tripV.sl.r_44, tripV.sl.r_45, tripV.sl.r_46, k0_pay106, k0_pay104, k0_pay105] <;> simp only [hA] <;> norm_num <;> (try rfl) <;> congr 2 <;> omega

/-- The piece 2 of column chunk 2. -/
theorem slab2_2 (W : ℕ → ℕ → EReal)
    (hA : ∀ (r : Fin 256) (l : Fin 128), tripV.sl.r_44 (F := Ideal) arg3 arg8 arg2 k f_arg3 f_arg8 (ix2 r l) = aW W r (128 * 2 + l)) (x : (slabRect 2 2).shape.Idx) :
    (k0_pay106 (tripV.sl.r_45 arg3 arg8 arg2 k f_arg3 f_arg8) (tripV.sl.r_46 arg3 arg8 arg2 k f_arg3 f_arg8) : S1x8x2x128.Idx → EReal) x = slabG W ((slabRect 2 2).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_2_2 arg3 arg8 arg2 k f_arg3 f_arg8 W hA i j p l).trans (slab_piece W 2 2 i j p l).symm

theorem slabPiece_2_1 (W : ℕ → ℕ → EReal)
    (hA : ∀ (r : Fin 256) (l : Fin 128), tripV.sl.r_44 (F := Ideal) arg3 arg8 arg2 k f_arg3 f_arg8 (ix2 r l) = aW W r (128 * 2 + l))
    (i : Fin 1) (j : Fin 8) (p : Fin 2) (l : Fin 128) :
    (k0_pay103 (tripV.sl.r_20 arg8 k f_arg8) k0_pay98 (k0_pay99 arg2) (tripV.sl.v866 arg3 k f_arg3) : S1x8x2x128.Idx → EReal) (ix4 i j p l)
      = max (aW W (32 + (2 * j.val + p.val)) (128 * 2 + l.val)) (aW W (32 + (16 + 2 * j.val + p.val)) (128 * 2 + l.val)) := by
  simp only [tripV.sl.r_44] at hA
  fin_cases p <;> pointwise [tripV.sl.r_44, k0_pay103] <;> simp only [hA] <;> norm_num <;> (try rfl) <;> congr 2 <;> omega

/-- The piece 1 of column chunk 2. -/
theorem slab2_1 (W : ℕ → ℕ → EReal)
    (hA : ∀ (r : Fin 256) (l : Fin 128), tripV.sl.r_44 (F := Ideal) arg3 arg8 arg2 k f_arg3 f_arg8 (ix2 r l) = aW W r (128 * 2 + l)) (x : (slabRect 2 1).shape.Idx) :
    (k0_pay103 (tripV.sl.r_20 arg8 k f_arg8) k0_pay98 (k0_pay99 arg2) (tripV.sl.v866 arg3 k f_arg3) : S1x8x2x128.Idx → EReal) x = slabG W ((slabRect 2 1).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_2_1 arg3 arg8 arg2 k f_arg3 f_arg8 W hA i j p l).trans (slab_piece W 2 1 i j p l).symm

theorem slabPiece_2_0 (W : ℕ → ℕ → EReal)
    (hA : ∀ (r : Fin 256) (l : Fin 128), tripV.sl.r_44 (F := Ideal) arg3 arg8 arg2 k f_arg3 f_arg8 (ix2 r l) = aW W r (128 * 2 + l))
    (i : Fin 1) (j : Fin 8) (p : Fin 2) (l : Fin 128) :
    (k0_pay102 (tripV.sl.r_20 arg8 k f_arg8) k0_pay98 (k0_pay99 arg2) (tripV.sl.v866 arg3 k f_arg3) : S1x8x2x128.Idx → EReal) (ix4 i j p l)
      = max (aW W (0 + (2 * j.val + p.val)) (128 * 2 + l.val)) (aW W (0 + (16 + 2 * j.val + p.val)) (128 * 2 + l.val)) := by
  simp only [tripV.sl.r_44] at hA
  fin_cases p <;> pointwise [tripV.sl.r_44, k0_pay102] <;> simp only [hA] <;> norm_num <;> (try rfl) <;> congr 2 <;> omega

/-- The piece 0 of column chunk 2. -/
theorem slab2_0 (W : ℕ → ℕ → EReal)
    (hA : ∀ (r : Fin 256) (l : Fin 128), tripV.sl.r_44 (F := Ideal) arg3 arg8 arg2 k f_arg3 f_arg8 (ix2 r l) = aW W r (128 * 2 + l)) (x : (slabRect 2 0).shape.Idx) :
    (k0_pay102 (tripV.sl.r_20 arg8 k f_arg8) k0_pay98 (k0_pay99 arg2) (tripV.sl.v866 arg3 k f_arg3) : S1x8x2x128.Idx → EReal) x = slabG W ((slabRect 2 0).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_2_0 arg3 arg8 arg2 k f_arg3 f_arg8 W hA i j p l).trans (slab_piece W 2 0 i j p l).symm

/-- Every piece stored up to column chunk 2 agrees with the slab's contents. -/
theorem slabList2 (W : ℕ → ℕ → EReal)
    (hP : ∀ p ∈ tripV.sl.Harg11_16 (F := Ideal) arg3 arg8 arg2 k f_arg3 f_arg8, ∀ x, p.2 x = slabG W (p.1.emb x))
    (hA : ∀ (r : Fin 256) (l : Fin 128), tripV.sl.r_44 (F := Ideal) arg3 arg8 arg2 k f_arg3 f_arg8 (ix2 r l) = aW W r (128 * 2 + l)) :
    ∀ p ∈ tripV.sl.Harg11_24 (F := Ideal) arg3 arg8 arg2 k f_arg3 f_arg8, ∀ x, p.2 x = slabG W (p.1.emb x) := by
  unfold tripV.sl.Harg11_24 tripV.sl.Harg11_21
  refine List.forall_mem_cons.mpr ⟨slab2_7 arg3 arg8 arg2 k f_arg3 f_arg8 W hA, ?_⟩
  refine List.forall_mem_cons.mpr ⟨slab2_6 arg3 arg8 arg2 k f_arg3 f_arg8 W hA, ?_⟩
  refine List.forall_mem_cons.mpr ⟨slab2_5 arg3 arg8 arg2 k f_arg3 f_arg8 W hA, ?_⟩
  refine List.forall_mem_cons.mpr ⟨slab2_4 arg3 arg8 arg2 k f_arg3 f_arg8 W hA, ?_⟩
  refine List.forall_mem_cons.mpr ⟨slab2_3 arg3 arg8 arg2 k f_arg3 f_arg8 W hA, ?_⟩
  refine List.forall_mem_cons.mpr ⟨slab2_2 arg3 arg8 arg2 k f_arg3 f_arg8 W hA, ?_⟩
  refine List.forall_mem_cons.mpr ⟨slab2_1 arg3 arg8 arg2 k f_arg3 f_arg8 W hA, ?_⟩
  refine List.forall_mem_cons.mpr ⟨slab2_0 arg3 arg8 arg2 k f_arg3 f_arg8 W hA, hP⟩

/-- The eight pieces of column chunk 2 are among them. -/
theorem slabHas2 (r : Fin 8) : slabRect 2 r ∈ (tripV.sl.Harg11_24 (F := Ideal) arg3 arg8 arg2 k f_arg3 f_arg8).map (·.1) := by
  unfold tripV.sl.Harg11_24 tripV.sl.Harg11_21
  simp only [List.map_cons]
  fin_cases r
  · exact List.mem_cons_of_mem _ (List.mem_cons_of_mem _ (List.mem_cons_of_mem _ (List.mem_cons_of_mem _ (List.mem_cons_of_mem _ (List.mem_cons_of_mem _ (List.mem_cons_of_mem _ (List.mem_cons_self)))))))
  · exact List.mem_cons_of_mem _ (List.mem_cons_of_mem _ (List.mem_cons_of_mem _ (List.mem_cons_of_mem _ (List.mem_cons_of_mem _ (List.mem_cons_of_mem _ (List.mem_cons_self))))))
  · exact List.mem_cons_of_mem _ (List.mem_cons_of_mem _ (List.mem_cons_of_mem _ (List.mem_cons_of_mem _ (List.mem_cons_of_mem _ (List.mem_cons_self)))))
  · exact List.mem_cons_of_mem _ (List.mem_cons_of_mem _ (List.mem_cons_of_mem _ (List.mem_cons_of_mem _ (List.mem_cons_self))))
  · exact List.mem_cons_of_mem _ (List.mem_cons_of_mem _ (List.mem_cons_of_mem _ (List.mem_cons_self)))
  · exact List.mem_cons_of_mem _ (List.mem_cons_of_mem _ (List.mem_cons_self))
  · exact List.mem_cons_of_mem _ (List.mem_cons_self)
  · exact List.mem_cons_self

end Cert.KernelIdeal.Hand
-- ==== Proof.Exp2.lean ====
module

public import proofs.«01_k».proof.Proof.Slab2

@[expose] public section

set_option maxRecDepth 8192
set_option maxHeartbeats 400000

noncomputable section

namespace Cert.KernelIdeal.Hand

open Cert.KernelIdeal Cert.KernelIdeal.Gen
open Idealize.ShloMosaic Requant
open Idealize.ShloMosaic.View

variable (arg3 : Memref sig .tc .vmem S1x4096x512 .fp8e4m3) (arg8 : Memref sig .tc .vmem S4096x128 .bf16)
  (arg11 : Memref sig .tc .vmem S4x72x2x128 .bf16) (arg12 : Memref sig .tc .vmem S4x8x128 .i32) (arg13 : Memref sig .tc .vmem S256x512 .fp8e4m3)
  (arg2 : BitVec 32) (k : Fin k0_t2_loop.trips)
  (f_arg3 : arg3.view.ty.Contents (Elt Ideal)) (f_arg8 : arg8.view.ty.Contents (Elt Ideal))

/-- The pieces of the slab up to column chunk 2 are what the model says. -/
def SlabOK2 (W : ℕ → ℕ → EReal) : Prop := ∀ p ∈ tripV.sl.Harg11_24 (F := Ideal) arg3 arg8 arg2 k f_arg3 f_arg8, ∀ x, p.2 x = slabG W (p.1.emb x)

theorem raw2_0 (W : ℕ → ℕ → EReal) (hL : SlabOK2 arg3 arg8 arg2 k f_arg3 f_arg8 W) (r : Fin 8) (l : Fin 128) :
    tripV.sl.v926_raw (F := Ideal) arg3 arg8 arg11 arg2 k f_arg3 f_arg8 (ix4 0 r 0 l) = max (aW W (32 * r + 0) (128 * 2 + l)) (aW W (32 * r + 16) (128 * 2 + l))
    ∧ tripV.sl.v926_raw (F := Ideal) arg3 arg8 arg11 arg2 k f_arg3 f_arg8 (ix4 0 r 1 l) = max (aW W (32 * r + 1) (128 * 2 + l)) (aW W (32 * r + 17) (128 * 2 + l)) :=
  ⟨slab_read arg11.view W _ hL 2 0 (slabHas2 arg3 arg8 arg2 k f_arg3 f_arg8) _ rfl _ r 0 l,
   slab_read arg11.view W _ hL 2 0 (slabHas2 arg3 arg8 arg2 k f_arg3 f_arg8) _ rfl _ r 1 l⟩

theorem raw2_1 (W : ℕ → ℕ → EReal) (hL : SlabOK2 arg3 arg8 arg2 k f_arg3 f_arg8 W) (r : Fin 8) (l : Fin 128) :
    tripV.sl.v929_raw (F := Ideal) arg3 arg8 arg11 arg2 k f_arg3 f_arg8 (ix4 0 r 0 l) = max (aW W (32 * r + 2) (128 * 2 + l)) (aW W (32 * r + 18) (128 * 2 + l))
    ∧ tripV.sl.v929_raw (F := Ideal) arg3 arg8 arg11 arg2 k f_arg3 f_arg8 (ix4 0 r 1 l) = max (aW W (32 * r + 3) (128 * 2 + l)) (aW W (32 * r + 19) (128 * 2 + l)) :=
  ⟨slab_read arg11.view W _ hL 2 1 (slabHas2 arg3 arg8 arg2 k f_arg3 f_arg8) _ rfl _ r 0 l,
   slab_read arg11.view W _ hL 2 1 (slabHas2 arg3 arg8 arg2 k f_arg3 f_arg8) _ rfl _ r 1 l⟩

theorem raw2_2 (W : ℕ → ℕ → EReal) (hL : SlabOK2 arg3 arg8 arg2 k f_arg3 f_arg8 W) (r : Fin 8) (l : Fin 128) :
    tripV.sl.v933_raw (F := Ideal) arg3 arg8 arg11 arg2 k f_arg3 f_arg8 (ix4 0 r 0 l) = max (aW W (32 * r + 4) (128 * 2 + l)) (aW W (32 * r + 20) (128 * 2 + l))
    ∧ tripV.sl.v933_raw (F := Ideal) arg3 arg8 arg11 arg2 k f_arg3 f_arg8 (ix4 0 r 1 l) = max (aW W (32 * r + 5) (128 * 2 + l)) (aW W (32 * r + 21) (128 * 2 + l)) :=
  ⟨slab_read arg11.view W _ hL 2 2 (slabHas2 arg3 arg8 arg2 k f_arg3 f_arg8) _ rfl _ r 0 l,
   slab_read arg11.view W _ hL 2 2 (slabHas2 arg3 arg8 arg2 k f_arg3 f_arg8) _ rfl _ r 1 l⟩

theorem raw2_3 (W : ℕ → ℕ → EReal) (hL : SlabOK2 arg3 arg8 arg2 k f_arg3 f_arg8 W) (r : Fin 8) (l : Fin 128) :
    tripV.sl.v937_raw (F := Ideal) arg3 arg8 arg11 arg2 k f_arg3 f_arg8 (ix4 0 r 0 l) = max (aW W (32 * r + 6) (128 * 2 + l)) (aW W (32 * r + 22) (128 * 2 + l))
    ∧ tripV.sl.v937_raw (F := Ideal) arg3 arg8 arg11 arg2 k f_arg3 f_arg8 (ix4 0 r 1 l) = max (aW W (32 * r + 7) (128 * 2 + l)) (aW W (32 * r + 23) (128 * 2 + l)) :=
  ⟨slab_read arg11.view W _ hL 2 3 (slabHas2 arg3 arg8 arg2 k f_arg3 f_arg8) _ rfl _ r 0 l,
   slab_read arg11.view W _ hL 2 3 (slabHas2 arg3 arg8 arg2 k f_arg3 f_arg8) _ rfl _ r 1 l⟩

theorem raw2_4 (W : ℕ → ℕ → EReal) (hL : SlabOK2 arg3 arg8 arg2 k f_arg3 f_arg8 W) (r : Fin 8) (l : Fin 128) :
    tripV.sl.v941_raw (F := Ideal) arg3 arg8 arg11 arg2 k f_arg3 f_arg8 (ix4 0 r 0 l) = max (aW W (32 * r + 8) (128 * 2 + l)) (aW W (32 * r + 24) (128 * 2 + l))
    ∧ tripV.sl.v941_raw (F := Ideal) arg3 arg8 arg11 arg2 k f_arg3 f_arg8 (ix4 0 r 1 l) = max (aW W (32 * r + 9) (128 * 2 + l)) (aW W (32 * r + 25) (128 * 2 + l)) :=
  ⟨slab_read arg11.view W _ hL 2 4 (slabHas2 arg3 arg8 arg2 k f_arg3 f_arg8) _ rfl _ r 0 l,
   slab_read arg11.view W _ hL 2 4 (slabHas2 arg3 arg8 arg2 k f_arg3 f_arg8) _ rfl _ r 1 l⟩

theorem raw2_5 (W : ℕ → ℕ → EReal) (hL : SlabOK2 arg3 arg8 arg2 k f_arg3 f_arg8 W) (r : Fin 8) (l : Fin 128) :
    tripV.sl.v945_raw (F := Ideal) arg3 arg8 arg11 arg2 k f_arg3 f_arg8 (ix4 0 r 0 l) = max (aW W (32 * r + 10) (128 * 2 + l)) (aW W (32 * r + 26) (128 * 2 + l))
    ∧ tripV.sl.v945_raw (F := Ideal) arg3 arg8 arg11 arg2 k f_arg3 f_arg8 (ix4 0 r 1 l) = max (aW W (32 * r + 11) (128 * 2 + l)) (aW W (32 * r + 27) (128 * 2 + l)) :=
  ⟨slab_read arg11.view W _ hL 2 5 (slabHas2 arg3 arg8 arg2 k f_arg3 f_arg8) _ rfl _ r 0 l,
   slab_read arg11.view W _ hL 2 5 (slabHas2 arg3 arg8 arg2 k f_arg3 f_arg8) _ rfl _ r 1 l⟩

theorem raw2_6 (W : ℕ → ℕ → EReal) (hL : SlabOK2 arg3 arg8 arg2 k f_arg3 f_arg8 W) (r : Fin 8) (l : Fin 128) :
    tripV.sl.v949_raw (F := Ideal) arg3 arg8 arg11 arg2 k f_arg3 f_arg8 (ix4 0 r 0 l) = max (aW W (32 * r + 12) (128 * 2 + l)) (aW W (32 * r + 28) (128 * 2 + l))
    ∧ tripV.sl.v949_raw (F := Ideal) arg3 arg8 arg11 arg2 k f_arg3 f_arg8 (ix4 0 r 1 l) = max (aW W (32 * r + 13) (128 * 2 + l)) (aW W (32 * r + 29) (128 * 2 + l)) :=
  ⟨slab_read arg11.view W _ hL 2 6 (slabHas2 arg3 arg8 arg2 k f_arg3 f_arg8) _ rfl _ r 0 l,
   slab_read arg11.view W _ hL 2 6 (slabHas2 arg3 arg8 arg2 k f_arg3 f_arg8) _ rfl _ r 1 l⟩

theorem raw2_7 (W : ℕ → ℕ → EReal) (hL : SlabOK2 arg3 arg8 arg2 k f_arg3 f_arg8 W) (r : Fin 8) (l : Fin 128) :
    tripV.sl.v953_raw (F := Ideal) arg3 arg8 arg11 arg2 k f_arg3 f_arg8 (ix4 0 r 0 l) = max (aW W (32 * r + 14) (128 * 2 + l)) (aW W (32 * r + 30) (128 * 2 + l))
    ∧ tripV.sl.v953_raw (F := Ideal) arg3 arg8 arg11 arg2 k f_arg3 f_arg8 (ix4 0 r 1 l) = max (aW W (32 * r + 15) (128 * 2 + l)) (aW W (32 * r + 31) (128 * 2 + l)) :=
  ⟨slab_read arg11.view W _ hL 2 7 (slabHas2 arg3 arg8 arg2 k f_arg3 f_arg8) _ rfl _ r 0 l,
   slab_read arg11.view W _ hL 2 7 (slabHas2 arg3 arg8 arg2 k f_arg3 f_arg8) _ rfl _ r 1 l⟩

/-- The largest absolute value of 32 rows, scaled: column chunk 2. -/
theorem level2 (W : ℕ → ℕ → EReal) (hL : SlabOK2 arg3 arg8 arg2 k f_arg3 f_arg8 W) (r : Fin 8) (l : Fin 128) :
    tripV.sl.r_54 (F := Ideal) arg3 arg8 arg11 arg2 k f_arg3 f_arg8 (ix2 r l) = level W r (128 * 2 + l) := by
  have e : ∀ A B : EReal, A = B → A * Ideal.ofBits .f32 0x3B124925#32 = B * Ideal.ofBits .f32 0x3B124925#32 := fun A B h => by rw [h]
  pointwise [tripV.sl.r_54, tripV.sl.r_52, tripV.sl.r_53, tripV.sl.r_51, k0_pay120, k0_pay118, k0_pay119, k0_pay117]
  unfold level
  refine e _ _ ?_
  have e1 : ∀ h, (⟨2 * (r : ℕ) / 2, h⟩ : Fin 8) = r := fun h => Fin.ext (by simp)
  have e2 : ∀ h, (⟨(2 * (r : ℕ) + 1) / 2, h⟩ : Fin 8) = r := fun h => Fin.ext (by show (2 * (r : ℕ) + 1) / 2 = _; omega)
  have e3 : (2 * (r : ℕ) % 2 = 0) = True := by simp
  have e4 : ((2 * (r : ℕ) + 1) % 2 = 0) = False := by simp
  simp only [e1, e2, e3, e4, if_true, if_false, (raw2_0 arg3 arg8 arg11 arg2 k f_arg3 f_arg8 W hL r l).1, (raw2_0 arg3 arg8 arg11 arg2 k f_arg3 f_arg8 W hL r l).2, (raw2_1 arg3 arg8 arg11 arg2 k f_arg3 f_arg8 W hL r l).1, (raw2_1 arg3 arg8 arg11 arg2 k f_arg3 f_arg8 W hL r l).2, (raw2_2 arg3 arg8 arg11 arg2 k f_arg3 f_arg8 W hL r l).1, (raw2_2 arg3 arg8 arg11 arg2 k f_arg3 f_arg8 W hL r l).2, (raw2_3 arg3 arg8 arg11 arg2 k f_arg3 f_arg8 W hL r l).1, (raw2_3 arg3 arg8 arg11 arg2 k f_arg3 f_arg8 W hL r l).2, (raw2_4 arg3 arg8 arg11 arg2 k f_arg3 f_arg8 W hL r l).1, (raw2_4 arg3 arg8 arg11 arg2 k f_arg3 f_arg8 W hL r l).2, (raw2_5 arg3 arg8 arg11 arg2 k f_arg3 f_arg8 W hL r l).1, (raw2_5 arg3 arg8 arg11 arg2 k f_arg3 f_arg8 W hL r l).2, (raw2_6 arg3 arg8 arg11 arg2 k f_arg3 f_arg8 W hL r l).1, (raw2_6 arg3 arg8 arg11 arg2 k f_arg3 f_arg8 W hL r l).2, (raw2_7 arg3 arg8 arg11 arg2 k f_arg3 f_arg8 W hL r l).1, (raw2_7 arg3 arg8 arg11 arg2 k f_arg3 f_arg8 W hL r l).2]
  generalize 128 * 2 + (l : ℕ) = q
  apply le_antisymm
  · simp only [max_le_iff]
    repeat' constructor
    all_goals exact le_amax W _ _ _ (by omega) (by omega)
  · refine amax_le W _ _ _ fun i hi => ?_
    interval_cases i <;> simp only [le_max_iff, le_refl, true_or, or_true]

/-- The exponents of column chunk 2. -/
theorem expIn2 (r : Fin 8) (l : Fin 128) :
    (k0_pay123 (tripV.sl.r_54 (F := Ideal) arg3 arg8 arg11 arg2 k f_arg3 f_arg8) (tripV.sl.r_55 (F := Ideal) arg3 arg8 arg11 arg2 k f_arg3 f_arg8) k0_pay122 : S8x128.Idx → BitVec 32) (ix2 r l) = expo (tripV.sl.r_54 (F := Ideal) arg3 arg8 arg11 arg2 k f_arg3 f_arg8 (ix2 r l)) := by
  simp only [tripV.sl.r_54, tripV.sl.r_55, bis_pay123, bis_pay121]
  exact vexpo_apply _ _

/-- The exponents of column chunk 2, as stored. -/
theorem expOut2 (W : ℕ → ℕ → EReal) (hL : SlabOK2 arg3 arg8 arg2 k f_arg3 f_arg8 W) (r : Fin 8) (l : Fin 128) :
    (k0_pay124 (tripV.sl.r_54 (F := Ideal) arg3 arg8 arg11 arg2 k f_arg3 f_arg8) (tripV.sl.r_55 (F := Ideal) arg3 arg8 arg11 arg2 k f_arg3 f_arg8) k0_pay122 : S8x128.Idx → BitVec 32) (ix2 r l) = expo (level W r (128 * 2 + l)) := by
  have h := (expIn2 arg3 arg8 arg11 arg2 k f_arg3 f_arg8 r l).trans (congrArg expo (level2 arg3 arg8 arg11 arg2 k f_arg3 f_arg8 W hL r l))
  pointwise [k0_pay124]
  exact h

/-- The words of inverse multipliers of column chunk 2. -/
theorem invOut2 (W : ℕ → ℕ → EReal) (hL : SlabOK2 arg3 arg8 arg2 k f_arg3 f_arg8 W) (r : Fin 8) (l : Fin 128) :
    (k0_pay126 (tripV.sl.r_56 (F := Ideal) arg3 arg8 arg11 arg2 k f_arg3 f_arg8) : S1x8x128.Idx → BitVec 32) (ix3 0 r l) = invWord (expo (level W r (128 * 2 + l))) := by
  have h := (expIn2 arg3 arg8 arg11 arg2 k f_arg3 f_arg8 r l).trans (congrArg expo (level2 arg3 arg8 arg11 arg2 k f_arg3 f_arg8 W hL r l))
  rw [← h]
  pointwise [tripV.sl.r_56, k0_pay126, k0_pay125]
  rfl

end Cert.KernelIdeal.Hand
-- ==== Proof.Code2.lean ====
module

public import proofs.«01_k».proof.Proof.Exp2

@[expose] public section

set_option maxRecDepth 8192
set_option maxHeartbeats 400000

noncomputable section

namespace Cert.KernelIdeal.Hand

open Cert.KernelIdeal Cert.KernelIdeal.Gen
open Idealize.ShloMosaic Requant
open Idealize.ShloMosaic.View

variable (arg3 : Memref sig .tc .vmem S1x4096x512 .fp8e4m3) (arg8 : Memref sig .tc .vmem S4096x128 .bf16)
  (arg11 : Memref sig .tc .vmem S4x72x2x128 .bf16) (arg12 : Memref sig .tc .vmem S4x8x128 .i32) (arg13 : Memref sig .tc .vmem S256x512 .fp8e4m3)
  (arg2 : BitVec 32) (k : Fin k0_t2_loop.trips)
  (f_arg3 : arg3.view.ty.Contents (Elt Ideal)) (f_arg8 : arg8.view.ty.Contents (Elt Ideal))

theorem invRow2_0 (W : ℕ → ℕ → EReal) (hL : SlabOK2 arg3 arg8 arg2 k f_arg3 f_arg8 W) (l : Fin 128) :
    tripV.sl.v1048 (F := Ideal) arg3 arg8 arg11 arg12 arg2 k f_arg3 f_arg8 (ix3 0 0 l) = invWord (expo (level W 0 (128 * 2 + l))) := by
  refine (inv_read arg12.view 2 0 _ _ _ rfl rfl _ _ _ l).trans ?_
  exact invOut2 arg3 arg8 arg11 arg2 k f_arg3 f_arg8 W hL 0 l

theorem invRow2_1 (W : ℕ → ℕ → EReal) (hL : SlabOK2 arg3 arg8 arg2 k f_arg3 f_arg8 W) (l : Fin 128) :
    tripV.sl.v1069 (F := Ideal) arg3 arg8 arg11 arg12 arg2 k f_arg3 f_arg8 (ix3 0 0 l) = invWord (expo (level W 1 (128 * 2 + l))) := by
  refine (inv_read arg12.view 2 1 _ _ _ rfl rfl _ _ _ l).trans ?_
  exact invOut2 arg3 arg8 arg11 arg2 k f_arg3 f_arg8 W hL 1 l

theorem invRow2_2 (W : ℕ → ℕ → EReal) (hL : SlabOK2 arg3 arg8 arg2 k f_arg3 f_arg8 W) (l : Fin 128) :
    tripV.sl.v1090 (F := Ideal) arg3 arg8 arg11 arg12 arg2 k f_arg3 f_arg8 (ix3 0 0 l) = invWord (expo (level W 2 (128 * 2 + l))) := by
  refine (inv_read arg12.view 2 2 _ _ _ rfl rfl _ _ _ l).trans ?_
  exact invOut2 arg3 arg8 arg11 arg2 k f_arg3 f_arg8 W hL 2 l

theorem invRow2_3 (W : ℕ → ℕ → EReal) (hL : SlabOK2 arg3 arg8 arg2 k f_arg3 f_arg8 W) (l : Fin 128) :
    tripV.sl.v1111 (F := Ideal) arg3 arg8 arg11 arg12 arg2 k f_arg3 f_arg8 (ix3 0 0 l) = invWord (expo (level W 3 (128 * 2 + l))) := by
  refine (inv_read arg12.view 2 3 _ _ _ rfl rfl _ _ _ l).trans ?_
  exact invOut2 arg3 arg8 arg11 arg2 k f_arg3 f_arg8 W hL 3 l

theorem invRow2_4 (W : ℕ → ℕ → EReal) (hL : SlabOK2 arg3 arg8 arg2 k f_arg3 f_arg8 W) (l : Fin 128) :
    tripV.sl.v1132 (F := Ideal) arg3 arg8 arg11 arg12 arg2 k f_arg3 f_arg8 (ix3 0 0 l) = invWord (expo (level W 4 (128 * 2 + l))) := by
  refine (inv_read arg12.view 2 4 _ _ _ rfl rfl _ _ _ l).trans ?_
  exact invOut2 arg3 arg8 arg11 arg2 k f_arg3 f_arg8 W hL 4 l

theorem invRow2_5 (W : ℕ → ℕ → EReal) (hL : SlabOK2 arg3 arg8 arg2 k f_arg3 f_arg8 W) (l : Fin 128) :
    tripV.sl.v1153 (F := Ideal) arg3 arg8 arg11 arg12 arg2 k f_arg3 f_arg8 (ix3 0 0 l) = invWord (expo (level W 5 (128 * 2 + l))) := by
  refine (inv_read arg12.view 2 5 _ _ _ rfl rfl _ _ _ l).trans ?_
  exact invOut2 arg3 arg8 arg11 arg2 k f_arg3 f_arg8 W hL 5 l

theorem invRow2_6 (W : ℕ → ℕ → EReal) (hL : SlabOK2 arg3 arg8 arg2 k f_arg3 f_arg8 W) (l : Fin 128) :
    tripV.sl.v1174 (F := Ideal) arg3 arg8 arg11 arg12 arg2 k f_arg3 f_arg8 (ix3 0 0 l) = invWord (expo (level W 6 (128 * 2 + l))) := by
  refine (inv_read arg12.view 2 6 _ _ _ rfl rfl _ _ _ l).trans ?_
  exact invOut2 arg3 arg8 arg11 arg2 k f_arg3 f_arg8 W hL 6 l

theorem invRow2_7 (W : ℕ → ℕ → EReal) (hL : SlabOK2 arg3 arg8 arg2 k f_arg3 f_arg8 W) (l : Fin 128) :
    tripV.sl.v1195 (F := Ideal) arg3 arg8 arg11 arg12 arg2 k f_arg3 f_arg8 (ix3 0 0 l) = invWord (expo (level W 7 (128 * 2 + l))) := by
  refine (inv_read arg12.view 2 7 _ _ _ rfl rfl _ _ _ l).trans ?_
  exact invOut2 arg3 arg8 arg11 arg2 k f_arg3 f_arg8 W hL 7 l

theorem codePiece_2_7 (W : ℕ → ℕ → EReal) (hL : SlabOK2 arg3 arg8 arg2 k f_arg3 f_arg8 W)
    (hV : ∀ (r : Fin 256) (l : Fin 128), tripV.sl.r_43 (F := Ideal) arg3 arg8 arg2 k f_arg3 f_arg8 (ix2 r l) = W r (128 * 2 + l)) (i : Fin 32) (l : Fin 128) :
    (k0_pay134 (tripV.sl.r_43 arg3 arg8 arg2 k f_arg3 f_arg8) (tripV.sl.v1195 arg3 arg8 arg11 arg12 arg2 k f_arg3 f_arg8) : S32x128.Idx → EReal) (ix2 i l) = code W (224 + i) (128 * 2 + l) := by
  simp only [tripV.sl.r_43] at hV
  have hi := invRow2_7 arg3 arg8 arg11 arg12 arg2 k f_arg3 f_arg8 W hL l
  have hh := inv_half (level W 7 (128 * 2 + l)) ⟨i.val % 16 % 2, by omega⟩
  have hb : (224 + i.val) / 32 = 7 := by omega
  unfold code
  rw [hb, ← hh]
  pointwise [tripV.sl.r_43, k0_pay134]
  rw [bitcast_half]
  pointwise [hi, hV]

theorem codePiece_2_6 (W : ℕ → ℕ → EReal) (hL : SlabOK2 arg3 arg8 arg2 k f_arg3 f_arg8 W)
    (hV : ∀ (r : Fin 256) (l : Fin 128), tripV.sl.r_43 (F := Ideal) arg3 arg8 arg2 k f_arg3 f_arg8 (ix2 r l) = W r (128 * 2 + l)) (i : Fin 32) (l : Fin 128) :
    (k0_pay133 (tripV.sl.r_43 arg3 arg8 arg2 k f_arg3 f_arg8) (tripV.sl.v1174 arg3 arg8 arg11 arg12 arg2 k f_arg3 f_arg8) : S32x128.Idx → EReal) (ix2 i l) = code W (192 + i) (128 * 2 + l) := by
  simp only [tripV.sl.r_43] at hV
  have hi := invRow2_6 arg3 arg8 arg11 arg12 arg2 k f_arg3 f_arg8 W hL l
  have hh := inv_half (level W 6 (128 * 2 + l)) ⟨i.val % 16 % 2, by omega⟩
  have hb : (192 + i.val) / 32 = 6 := by omega
  unfold code
  rw [hb, ← hh]
  pointwise [tripV.sl.r_43, k0_pay133]
  rw [bitcast_half]
  pointwise [hi, hV]

theorem codePiece_2_5 (W : ℕ → ℕ → EReal) (hL : SlabOK2 arg3 arg8 arg2 k f_arg3 f_arg8 W)
    (hV : ∀ (r : Fin 256) (l : Fin 128), tripV.sl.r_43 (F := Ideal) arg3 arg8 arg2 k f_arg3 f_arg8 (ix2 r l) = W r (128 * 2 + l)) (i : Fin 32) (l : Fin 128) :
    (k0_pay132 (tripV.sl.r_43 arg3 arg8 arg2 k f_arg3 f_arg8) (tripV.sl.v1153 arg3 arg8 arg11 arg12 arg2 k f_arg3 f_arg8) : S32x128.Idx → EReal) (ix2 i l) = code W (160 + i) (128 * 2 + l) := by
  simp only [tripV.sl.r_43] at hV
  have hi := invRow2_5 arg3 arg8 arg11 arg12 arg2 k f_arg3 f_arg8 W hL l
  have hh := inv_half (level W 5 (128 * 2 + l)) ⟨i.val % 16 % 2, by omega⟩
  have hb : (160 + i.val) / 32 = 5 := by omega
  unfold code
  rw [hb, ← hh]
  pointwise [tripV.sl.r_43, k0_pay132]
  rw [bitcast_half]
  pointwise [hi, hV]

theorem codePiece_2_4 (W : ℕ → ℕ → EReal) (hL : SlabOK2 arg3 arg8 arg2 k f_arg3 f_arg8 W)
    (hV : ∀ (r : Fin 256) (l : Fin 128), tripV.sl.r_43 (F := Ideal) arg3 arg8 arg2 k f_arg3 f_arg8 (ix2 r l) = W r (128 * 2 + l)) (i : Fin 32) (l : Fin 128) :
    (k0_pay131 (tripV.sl.r_43 arg3 arg8 arg2 k f_arg3 f_arg8) (tripV.sl.v1132 arg3 arg8 arg11 arg12 arg2 k f_arg3 f_arg8) : S32x128.Idx → EReal) (ix2 i l) = code W (128 + i) (128 * 2 + l) := by
  simp only [tripV.sl.r_43] at hV
  have hi := invRow2_4 arg3 arg8 arg11 arg12 arg2 k f_arg3 f_arg8 W hL l
  have hh := inv_half (level W 4 (128 * 2 + l)) ⟨i.val % 16 % 2, by omega⟩
  have hb : (128 + i.val) / 32 = 4 := by omega
  unfold code
  rw [hb, ← hh]
  pointwise [tripV.sl.r_43, k0_pay131]
  rw [bitcast_half]
  pointwise [hi, hV]

theorem codePiece_2_3 (W : ℕ → ℕ → EReal) (hL : SlabOK2 arg3 arg8 arg2 k f_arg3 f_arg8 W)
    (hV : ∀ (r : Fin 256) (l : Fin 128), tripV.sl.r_43 (F := Ideal) arg3 arg8 arg2 k f_arg3 f_arg8 (ix2 r l) = W r (128 * 2 + l)) (i : Fin 32) (l : Fin 128) :
    (k0_pay130 (tripV.sl.r_43 arg3 arg8 arg2 k f_arg3 f_arg8) (tripV.sl.v1111 arg3 arg8 arg11 arg12 arg2 k f_arg3 f_arg8) : S32x128.Idx → EReal) (ix2 i l) = code W (96 + i) (128 * 2 + l) := by
  simp only [tripV.sl.r_43] at hV
  have hi := invRow2_3 arg3 arg8 arg11 arg12 arg2 k f_arg3 f_arg8 W hL l
  have hh := inv_half (level W 3 (128 * 2 + l)) ⟨i.val % 16 % 2, by omega⟩
  have hb : (96 + i.val) / 32 = 3 := by omega
  unfold code
  rw [hb, ← hh]
  pointwise [tripV.sl.r_43, k0_pay130]
  rw [bitcast_half]
  pointwise [hi, hV]

theorem codePiece_2_2 (W : ℕ → ℕ → EReal) (hL : SlabOK2 arg3 arg8 arg2 k f_arg3 f_arg8 W)
    (hV : ∀ (r : Fin 256) (l : Fin 128), tripV.sl.r_43 (F := Ideal) arg3 arg8 arg2 k f_arg3 f_arg8 (ix2 r l) = W r (128 * 2 + l)) (i : Fin 32) (l : Fin 128) :
    (k0_pay129 (tripV.sl.r_43 arg3 arg8 arg2 k f_arg3 f_arg8) (tripV.sl.v1090 arg3 arg8 arg11 arg12 arg2 k f_arg3 f_arg8) : S32x128.Idx → EReal) (ix2 i l) = code W (64 + i) (128 * 2 + l) := by
  simp only [tripV.sl.r_43] at hV
  have hi := invRow2_2 arg3 arg8 arg11 arg12 arg2 k f_arg3 f_arg8 W hL l
  have hh := inv_half (level W 2 (128 * 2 + l)) ⟨i.val % 16 % 2, by omega⟩
  have hb : (64 + i.val) / 32 = 2 := by omega
  unfold code
  rw [hb, ← hh]
  pointwise [tripV.sl.r_43, k0_pay129]
  rw [bitcast_half]
  pointwise [hi, hV]

theorem codePiece_2_1 (W : ℕ → ℕ → EReal) (hL : SlabOK2 arg3 arg8 arg2 k f_arg3 f_arg8 W)
    (hV : ∀ (r : Fin 256) (l : Fin 128), tripV.sl.r_43 (F := Ideal) arg3 arg8 arg2 k f_arg3 f_arg8 (ix2 r l) = W r (128 * 2 + l)) (i : Fin 32) (l : Fin 128) :
    (tripV.sl.r_57 arg3 arg8 arg11 arg12 arg2 k f_arg3 f_arg8 : S32x128.Idx → EReal) (ix2 i l) = code W (32 + i) (128 * 2 + l) := by
  simp only [tripV.sl.r_43] at hV
  have hi := invRow2_1 arg3 arg8 arg11 arg12 arg2 k f_arg3 f_arg8 W hL l
  have hh := inv_half (level W 1 (128 * 2 + l)) ⟨i.val % 16 % 2, by omega⟩
  have hb : (32 + i.val) / 32 = 1 := by omega
  unfold code
  rw [hb, ← hh]
  pointwise [tripV.sl.r_43, tripV.sl.r_57, k0_pay128]
  rw [bitcast_half]
  pointwise [hi, hV]

theorem codePiece_2_0 (W : ℕ → ℕ → EReal) (hL : SlabOK2 arg3 arg8 arg2 k f_arg3 f_arg8 W)
    (hV : ∀ (r : Fin 256) (l : Fin 128), tripV.sl.r_43 (F := Ideal) arg3 arg8 arg2 k f_arg3 f_arg8 (ix2 r l) = W r (128 * 2 + l)) (i : Fin 32) (l : Fin 128) :
    (k0_pay127 (tripV.sl.r_43 arg3 arg8 arg2 k f_arg3 f_arg8) (tripV.sl.v1048 arg3 arg8 arg11 arg12 arg2 k f_arg3 f_arg8) : S32x128.Idx → EReal) (ix2 i l) = code W (0 + i) (128 * 2 + l) := by
  simp only [tripV.sl.r_43] at hV
  have hi := invRow2_0 arg3 arg8 arg11 arg12 arg2 k f_arg3 f_arg8 W hL l
  have hh := inv_half (level W 0 (128 * 2 + l)) ⟨i.val % 16 % 2, by omega⟩
  have hb : (0 + i.val) / 32 = 0 := by omega
  unfold code
  rw [hb, ← hh]
  pointwise [tripV.sl.r_43, k0_pay127]
  rw [bitcast_half]
  pointwise [hi, hV]

/-- The codes of row block 7 of column chunk 2. -/
theorem codeOK_2_7 (W : ℕ → ℕ → EReal) (hL : SlabOK2 arg3 arg8 arg2 k f_arg3 f_arg8 W)
    (hV : ∀ (r : Fin 256) (l : Fin 128), tripV.sl.r_43 (F := Ideal) arg3 arg8 arg2 k f_arg3 f_arg8 (ix2 r l) = W r (128 * 2 + l)) (x : (codeRect 2 7).shape.Idx) :
    (k0_pay134 (tripV.sl.r_43 arg3 arg8 arg2 k f_arg3 f_arg8) (tripV.sl.v1195 arg3 arg8 arg11 arg12 arg2 k f_arg3 f_arg8) : S32x128.Idx → EReal) x = codeG W ((codeRect 2 7).emb x) := by
  obtain ⟨i, l, rfl⟩ : ∃ (i : Fin 32) (l : Fin 128), x = ix2 i l := ⟨x 0, x 1, eq_ix2 x⟩
  exact (codePiece_2_7 arg3 arg8 arg11 arg12 arg2 k f_arg3 f_arg8 W hL hV i l).trans (code_piece W 2 7 i l).symm

/-- The codes of row block 6 of column chunk 2. -/
theorem codeOK_2_6 (W : ℕ → ℕ → EReal) (hL : SlabOK2 arg3 arg8 arg2 k f_arg3 f_arg8 W)
    (hV : ∀ (r : Fin 256) (l : Fin 128), tripV.sl.r_43 (F := Ideal) arg3 arg8 arg2 k f_arg3 f_arg8 (ix2 r l) = W r (128 * 2 + l)) (x : (codeRect 2 6).shape.Idx) :
    (k0_pay133 (tripV.sl.r_43 arg3 arg8 arg2 k f_arg3 f_arg8) (tripV.sl.v1174 arg3 arg8 arg11 arg12 arg2 k f_arg3 f_arg8) : S32x128.Idx → EReal) x = codeG W ((codeRect 2 6).emb x) := by
  obtain ⟨i, l, rfl⟩ : ∃ (i : Fin 32) (l : Fin 128), x = ix2 i l := ⟨x 0, x 1, eq_ix2 x⟩
  exact (codePiece_2_6 arg3 arg8 arg11 arg12 arg2 k f_arg3 f_arg8 W hL hV i l).trans (code_piece W 2 6 i l).symm

/-- The codes of row block 5 of column chunk 2. -/
theorem codeOK_2_5 (W : ℕ → ℕ → EReal) (hL : SlabOK2 arg3 arg8 arg2 k f_arg3 f_arg8 W)
    (hV : ∀ (r : Fin 256) (l : Fin 128), tripV.sl.r_43 (F := Ideal) arg3 arg8 arg2 k f_arg3 f_arg8 (ix2 r l) = W r (128 * 2 + l)) (x : (codeRect 2 5).shape.Idx) :
    (k0_pay132 (tripV.sl.r_43 arg3 arg8 arg2 k f_arg3 f_arg8) (tripV.sl.v1153 arg3 arg8 arg11 arg12 arg2 k f_arg3 f_arg8) : S32x128.Idx → EReal) x = codeG W ((codeRect 2 5).emb x) := by
  obtain ⟨i, l, rfl⟩ : ∃ (i : Fin 32) (l : Fin 128), x = ix2 i l := ⟨x 0, x 1, eq_ix2 x⟩
  exact (codePiece_2_5 arg3 arg8 arg11 arg12 arg2 k f_arg3 f_arg8 W hL hV i l).trans (code_piece W 2 5 i l).symm

/-- The codes of row block 4 of column chunk 2. -/
theorem codeOK_2_4 (W : ℕ → ℕ → EReal) (hL : SlabOK2 arg3 arg8 arg2 k f_arg3 f_arg8 W)
    (hV : ∀ (r : Fin 256) (l : Fin 128), tripV.sl.r_43 (F := Ideal) arg3 arg8 arg2 k f_arg3 f_arg8 (ix2 r l) = W r (128 * 2 + l)) (x : (codeRect 2 4).shape.Idx) :
    (k0_pay131 (tripV.sl.r_43 arg3 arg8 arg2 k f_arg3 f_arg8) (tripV.sl.v1132 arg3 arg8 arg11 arg12 arg2 k f_arg3 f_arg8) : S32x128.Idx → EReal) x = codeG W ((codeRect 2 4).emb x) := by
  obtain ⟨i, l, rfl⟩ : ∃ (i : Fin 32) (l : Fin 128), x = ix2 i l := ⟨x 0, x 1, eq_ix2 x⟩
  exact (codePiece_2_4 arg3 arg8 arg11 arg12 arg2 k f_arg3 f_arg8 W hL hV i l).trans (code_piece W 2 4 i l).symm

/-- The codes of row block 3 of column chunk 2. -/
theorem codeOK_2_3 (W : ℕ → ℕ → EReal) (hL : SlabOK2 arg3 arg8 arg2 k f_arg3 f_arg8 W)
    (hV : ∀ (r : Fin 256) (l : Fin 128), tripV.sl.r_43 (F := Ideal) arg3 arg8 arg2 k f_arg3 f_arg8 (ix2 r l) = W r (128 * 2 + l)) (x : (codeRect 2 3).shape.Idx) :
    (k0_pay130 (tripV.sl.r_43 arg3 arg8 arg2 k f_arg3 f_arg8) (tripV.sl.v1111 arg3 arg8 arg11 arg12 arg2 k f_arg3 f_arg8) : S32x128.Idx → EReal) x = codeG W ((codeRect 2 3).emb x) := by
  obtain ⟨i, l, rfl⟩ : ∃ (i : Fin 32) (l : Fin 128), x = ix2 i l := ⟨x 0, x 1, eq_ix2 x⟩
  exact (codePiece_2_3 arg3 arg8 arg11 arg12 arg2 k f_arg3 f_arg8 W hL hV i l).trans (code_piece W 2 3 i l).symm

/-- The codes of row block 2 of column chunk 2. -/
theorem codeOK_2_2 (W : ℕ → ℕ → EReal) (hL : SlabOK2 arg3 arg8 arg2 k f_arg3 f_arg8 W)
    (hV : ∀ (r : Fin 256) (l : Fin 128), tripV.sl.r_43 (F := Ideal) arg3 arg8 arg2 k f_arg3 f_arg8 (ix2 r l) = W r (128 * 2 + l)) (x : (codeRect 2 2).shape.Idx) :
    (k0_pay129 (tripV.sl.r_43 arg3 arg8 arg2 k f_arg3 f_arg8) (tripV.sl.v1090 arg3 arg8 arg11 arg12 arg2 k f_arg3 f_arg8) : S32x128.Idx → EReal) x = codeG W ((codeRect 2 2).emb x) := by
  obtain ⟨i, l, rfl⟩ : ∃ (i : Fin 32) (l : Fin 128), x = ix2 i l := ⟨x 0, x 1, eq_ix2 x⟩
  exact (codePiece_2_2 arg3 arg8 arg11 arg12 arg2 k f_arg3 f_arg8 W hL hV i l).trans (code_piece W 2 2 i l).symm

/-- The codes of row block 1 of column chunk 2. -/
theorem codeOK_2_1 (W : ℕ → ℕ → EReal) (hL : SlabOK2 arg3 arg8 arg2 k f_arg3 f_arg8 W)
    (hV : ∀ (r : Fin 256) (l : Fin 128), tripV.sl.r_43 (F := Ideal) arg3 arg8 arg2 k f_arg3 f_arg8 (ix2 r l) = W r (128 * 2 + l)) (x : (codeRect 2 1).shape.Idx) :
    (tripV.sl.r_57 arg3 arg8 arg11 arg12 arg2 k f_arg3 f_arg8 : S32x128.Idx → EReal) x = codeG W ((codeRect 2 1).emb x) := by
  obtain ⟨i, l, rfl⟩ : ∃ (i : Fin 32) (l : Fin 128), x = ix2 i l := ⟨x 0, x 1, eq_ix2 x⟩
  exact (codePiece_2_1 arg3 arg8 arg11 arg12 arg2 k f_arg3 f_arg8 W hL hV i l).trans (code_piece W 2 1 i l).symm

/-- The codes of row block 0 of column chunk 2. -/
theorem codeOK_2_0 (W : ℕ → ℕ → EReal) (hL : SlabOK2 arg3 arg8 arg2 k f_arg3 f_arg8 W)
    (hV : ∀ (r : Fin 256) (l : Fin 128), tripV.sl.r_43 (F := Ideal) arg3 arg8 arg2 k f_arg3 f_arg8 (ix2 r l) = W r (128 * 2 + l)) (x : (codeRect 2 0).shape.Idx) :
    (k0_pay127 (tripV.sl.r_43 arg3 arg8 arg2 k f_arg3 f_arg8) (tripV.sl.v1048 arg3 arg8 arg11 arg12 arg2 k f_arg3 f_arg8) : S32x128.Idx → EReal) x = codeG W ((codeRect 2 0).emb x) := by
  obtain ⟨i, l, rfl⟩ : ∃ (i : Fin 32) (l : Fin 128), x = ix2 i l := ⟨x 0, x 1, eq_ix2 x⟩
  exact (codePiece_2_0 arg3 arg8 arg11 arg12 arg2 k f_arg3 f_arg8 W hL hV i l).trans (code_piece W 2 0 i l).symm

end Cert.KernelIdeal.Hand
-- ==== Proof.Slab3.lean ====
module

public import proofs.«01_k».proof.Proof.TripBase

@[expose] public section

set_option maxRecDepth 8192
set_option maxHeartbeats 4000000

noncomputable section

namespace Cert.KernelIdeal.Hand

open Cert.KernelIdeal Cert.KernelIdeal.Gen
open Idealize.ShloMosaic Requant
open Idealize.ShloMosaic.View

variable (arg3 : Memref sig .tc .vmem S1x4096x512 .fp8e4m3) (arg8 : Memref sig .tc .vmem S4096x128 .bf16)
  (arg11 : Memref sig .tc .vmem S4x72x2x128 .bf16) (arg12 : Memref sig .tc .vmem S4x8x128 .i32) (arg13 : Memref sig .tc .vmem S256x512 .fp8e4m3)
  (arg2 : BitVec 32) (k : Fin k0_t2_loop.trips)
  (f_arg3 : arg3.view.ty.Contents (Elt Ideal)) (f_arg8 : arg8.view.ty.Contents (Elt Ideal))

theorem slabPiece_3_7 (W : ℕ → ℕ → EReal)
    (hA : ∀ (r : Fin 256) (l : Fin 128), tripV.sl.r_59 (F := Ideal) arg3 arg8 arg2 k f_arg3 f_arg8 (ix2 r l) = aW W r (128 * 3 + l))
    (i : Fin 1) (j : Fin 8) (p : Fin 2) (l : Fin 128) :
    (k0_pay151 (tripV.sl.r_64 arg3 arg8 arg2 k f_arg3 f_arg8) (tripV.sl.r_65 arg3 arg8 arg2 k f_arg3 f_arg8) : S1x8x2x128.Idx → EReal) (ix4 i j p l)
      = max (aW W (224 + (2 * j.val + p.val)) (128 * 3 + l.val)) (aW W (224 + (16 + 2 * j.val + p.val)) (128 * 3 + l.val)) := by
  simp only [tripV.sl.r_59] at hA
  fin_cases p <;> pointwise [tripV.sl.r_59, tripV.sl.r_64, tripV.sl.r_65, k0_pay151, k0_pay149, k0_pay150] <;> simp only [hA] <;> norm_num <;> (try rfl) <;> congr 2 <;> omega

/-- The piece 7 of column chunk 3. -/
theorem slab3_7 (W : ℕ → ℕ → EReal)
    (hA : ∀ (r : Fin 256) (l : Fin 128), tripV.sl.r_59 (F := Ideal) arg3 arg8 arg2 k f_arg3 f_arg8 (ix2 r l) = aW W r (128 * 3 + l)) (x : (slabRect 3 7).shape.Idx) :
    (k0_pay151 (tripV.sl.r_64 arg3 arg8 arg2 k f_arg3 f_arg8) (tripV.sl.r_65 arg3 arg8 arg2 k f_arg3 f_arg8) : S1x8x2x128.Idx → EReal) x = slabG W ((slabRect 3 7).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_3_7 arg3 arg8 arg2 k f_arg3 f_arg8 W hA i j p l).trans (slab_piece W 3 7 i j p l).symm

theorem slabPiece_3_6 (W : ℕ → ℕ → EReal)
    (hA : ∀ (r : Fin 256) (l : Fin 128), tripV.sl.r_59 (F := Ideal) arg3 arg8 arg2 k f_arg3 f_arg8 (ix2 r l) = aW W r (128 * 3 + l))
    (i : Fin 1) (j : Fin 8) (p : Fin 2) (l : Fin 128) :
    (k0_pay148 (tripV.sl.r_59 arg3 arg8 arg2 k f_arg3 f_arg8) : S1x8x2x128.Idx → EReal) (ix4 i j p l)
      = max (aW W (192 + (2 * j.val + p.val)) (128 * 3 + l.val)) (aW W (192 + (16 + 2 * j.val + p.val)) (128 * 3 + l.val)) := by
  simp only [tripV.sl.r_59] at hA
  fin_cases p <;> pointwise [tripV.sl.r_59, k0_pay148] <;> simp only [hA] <;> norm_num <;> (try rfl) <;> congr 2 <;> omega

/-- The piece 6 of column chunk 3. -/
theorem slab3_6 (W : ℕ → ℕ → EReal)
    (hA : ∀ (r : Fin 256) (l : Fin 128), tripV.sl.r_59 (F := Ideal) arg3 arg8 arg2 k f_arg3 f_arg8 (ix2 r l) = aW W r (128 * 3 + l)) (x : (slabRect 3 6).shape.Idx) :
    (k0_pay148 (tripV.sl.r_59 arg3 arg8 arg2 k f_arg3 f_arg8) : S1x8x2x128.Idx → EReal) x = slabG W ((slabRect 3 6).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_3_6 arg3 arg8 arg2 k f_arg3 f_arg8 W hA i j p l).trans (slab_piece W 3 6 i j p l).symm

theorem slabPiece_3_5 (W : ℕ → ℕ → EReal)
    (hA : ∀ (r : Fin 256) (l : Fin 128), tripV.sl.r_59 (F := Ideal) arg3 arg8 arg2 k f_arg3 f_arg8 (ix2 r l) = aW W r (128 * 3 + l))
    (i : Fin 1) (j : Fin 8) (p : Fin 2) (l : Fin 128) :
    (k0_pay147 (tripV.sl.r_59 arg3 arg8 arg2 k f_arg3 f_arg8) : S1x8x2x128.Idx → EReal) (ix4 i j p l)
      = max (aW W (160 + (2 * j.val + p.val)) (128 * 3 + l.val)) (aW W (160 + (16 + 2 * j.val + p.val)) (128 * 3 + l.val)) := by
  simp only [tripV.sl.r_59] at hA
  fin_cases p <;> pointwise [tripV.sl.r_59, k0_pay147] <;> simp only [hA] <;> norm_num <;> (try rfl) <;> congr 2 <;> omega

/-- The piece 5 of column chunk 3. -/
theorem slab3_5 (W : ℕ → ℕ → EReal)
    (hA : ∀ (r : Fin 256) (l : Fin 128), tripV.sl.r_59 (F := Ideal) arg3 arg8 arg2 k f_arg3 f_arg8 (ix2 r l) = aW W r (128 * 3 + l)) (x : (slabRect 3 5).shape.Idx) :
    (k0_pay147 (tripV.sl.r_59 arg3 arg8 arg2 k f_arg3 f_arg8) : S1x8x2x128.Idx → EReal) x = slabG W ((slabRect 3 5).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_3_5 arg3 arg8 arg2 k f_arg3 f_arg8 W hA i j p l).trans (slab_piece W 3 5 i j p l).symm

theorem slabPiece_3_4 (W : ℕ → ℕ → EReal)
    (hA : ∀ (r : Fin 256) (l : Fin 128), tripV.sl.r_59 (F := Ideal) arg3 arg8 arg2 k f_arg3 f_arg8 (ix2 r l) = aW W r (128 * 3 + l))
    (i : Fin 1) (j : Fin 8) (p : Fin 2) (l : Fin 128) :
    (k0_pay146 (tripV.sl.r_59 arg3 arg8 arg2 k f_arg3 f_arg8) : S1x8x2x128.Idx → EReal) (ix4 i j p l)
      = max (aW W (128 + (2 * j.val + p.val)) (128 * 3 + l.val)) (aW W (128 + (16 + 2 * j.val + p.val)) (128 * 3 + l.val)) := by
  simp only [tripV.sl.r_59] at hA
  fin_cases p <;> pointwise [tripV.sl.r_59, k0_pay146] <;> simp only [hA] <;> norm_num <;> (try rfl) <;> congr 2 <;> omega

/-- The piece 4 of column chunk 3. -/
theorem slab3_4 (W : ℕ → ℕ → EReal)
    (hA : ∀ (r : Fin 256) (l : Fin 128), tripV.sl.r_59 (F := Ideal) arg3 arg8 arg2 k f_arg3 f_arg8 (ix2 r l) = aW W r (128 * 3 + l)) (x : (slabRect 3 4).shape.Idx) :
    (k0_pay146 (tripV.sl.r_59 arg3 arg8 arg2 k f_arg3 f_arg8) : S1x8x2x128.Idx → EReal) x = slabG W ((slabRect 3 4).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_3_4 arg3 arg8 arg2 k f_arg3 f_arg8 W hA i j p l).trans (slab_piece W 3 4 i j p l).symm

theorem slabPiece_3_3 (W : ℕ → ℕ → EReal)
    (hA : ∀ (r : Fin 256) (l : Fin 128), tripV.sl.r_59 (F := Ideal) arg3 arg8 arg2 k f_arg3 f_arg8 (ix2 r l) = aW W r (128 * 3 + l))
    (i : Fin 1) (j : Fin 8) (p : Fin 2) (l : Fin 128) :
    (k0_pay145 (tripV.sl.r_61 arg3 arg8 arg2 k f_arg3 f_arg8) (tripV.sl.r_62 arg3 arg8 arg2 k f_arg3 f_arg8) : S1x8x2x128.Idx → EReal) (ix4 i j p l)
      = max (aW W (96 + (2 * j.val + p.val)) (128 * 3 + l.val)) (aW W (96 + (16 + 2 * j.val + p.val)) (128 * 3 + l.val)) := by
  simp only [tripV.sl.r_59] at hA
  fin_cases p <;> pointwise [tripV.sl.r_59, tripV.sl.r_61, tripV.sl.r_62, k0_pay145, k0_pay142, k0_pay143, k0_pay141] <;> simp only [hA] <;> norm_num <;> (try rfl) <;> congr 2 <;> omega

/-- The piece 3 of column chunk 3. -/
theorem slab3_3 (W : ℕ → ℕ → EReal)
    (hA : ∀ (r : Fin 256) (l : Fin 128), tripV.sl.r_59 (F := Ideal) arg3 arg8 arg2 k f_arg3 f_arg8 (ix2 r l) = aW W r (128 * 3 + l)) (x : (slabRect 3 3).shape.Idx) :
    (k0_pay145 (tripV.sl.r_61 arg3 arg8 arg2 k f_arg3 f_arg8) (tripV.sl.r_62 arg3 arg8 arg2 k f_arg3 f_arg8) : S1x8x2x128.Idx → EReal) x = slabG W ((slabRect 3 3).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_3_3 arg3 arg8 arg2 k f_arg3 f_arg8 W hA i j p l).trans (slab_piece W 3 3 i j p l).symm

theorem slabPiece_3_2 (W : ℕ → ℕ → EReal)
    (hA : ∀ (r : Fin 256) (l : Fin 128), tripV.sl.r_59 (F := Ideal) arg3 arg8 arg2 k f_arg3 f_arg8 (ix2 r l) = aW W r (128 * 3 + l))
    (i : Fin 1) (j : Fin 8) (p : Fin 2) (l : Fin 128) :
    (k0_pay140 (tripV.sl.r_59 arg3 arg8 arg2 k f_arg3 f_arg8) : S1x8x2x128.Idx → EReal) (ix4 i j p l)
      = max (aW W (64 + (2 * j.val + p.val)) (128 * 3 + l.val)) (aW W (64 + (16 + 2 * j.val + p.val)) (128 * 3 + l.val)) := by
  simp only [tripV.sl.r_59] at hA
  fin_cases p <;> pointwise [tripV.sl.r_59, k0_pay140] <;> simp only [hA] <;> norm_num <;> (try rfl) <;> congr 2 <;> omega

/-- The piece 2 of column chunk 3. -/
theorem slab3_2 (W : ℕ → ℕ → EReal)
    (hA : ∀ (r : Fin 256) (l : Fin 128), tripV.sl.r_59 (F := Ideal) arg3 arg8 arg2 k f_arg3 f_arg8 (ix2 r l) = aW W r (128 * 3 + l)) (x : (slabRect 3 2).shape.Idx) :
    (k0_pay140 (tripV.sl.r_59 arg3 arg8 arg2 k f_arg3 f_arg8) : S1x8x2x128.Idx → EReal) x = slabG W ((slabRect 3 2).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_3_2 arg3 arg8 arg2 k f_arg3 f_arg8 W hA i j p l).trans (slab_piece W 3 2 i j p l).symm

theorem slabPiece_3_1 (W : ℕ → ℕ → EReal)
    (hA : ∀ (r : Fin 256) (l : Fin 128), tripV.sl.r_59 (F := Ideal) arg3 arg8 arg2 k f_arg3 f_arg8 (ix2 r l) = aW W r (128 * 3 + l))
    (i : Fin 1) (j : Fin 8) (p : Fin 2) (l : Fin 128) :
    (k0_pay139 (tripV.sl.r_59 arg3 arg8 arg2 k f_arg3 f_arg8) : S1x8x2x128.Idx → EReal) (ix4 i j p l)
      = max (aW W (32 + (2 * j.val + p.val)) (128 * 3 + l.val)) (aW W (32 + (16 + 2 * j.val + p.val)) (128 * 3 + l.val)) := by
  simp only [tripV.sl.r_59] at hA
  fin_cases p <;> pointwise [tripV.sl.r_59, k0_pay139] <;> simp only [hA] <;> norm_num <;> (try rfl) <;> congr 2 <;> omega

/-- The piece 1 of column chunk 3. -/
theorem slab3_1 (W : ℕ → ℕ → EReal)
    (hA : ∀ (r : Fin 256) (l : Fin 128), tripV.sl.r_59 (F := Ideal) arg3 arg8 arg2 k f_arg3 f_arg8 (ix2 r l) = aW W r (128 * 3 + l)) (x : (slabRect 3 1).shape.Idx) :
    (k0_pay139 (tripV.sl.r_59 arg3 arg8 arg2 k f_arg3 f_arg8) : S1x8x2x128.Idx → EReal) x = slabG W ((slabRect 3 1).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_3_1 arg3 arg8 arg2 k f_arg3 f_arg8 W hA i j p l).trans (slab_piece W 3 1 i j p l).symm

theorem slabPiece_3_0 (W : ℕ → ℕ → EReal)
    (hA : ∀ (r : Fin 256) (l : Fin 128), tripV.sl.r_59 (F := Ideal) arg3 arg8 arg2 k f_arg3 f_arg8 (ix2 r l) = aW W r (128 * 3 + l))
    (i : Fin 1) (j : Fin 8) (p : Fin 2) (l : Fin 128) :
    (k0_pay138 (tripV.sl.r_59 arg3 arg8 arg2 k f_arg3 f_arg8) (tripV.sl.r_60 arg3 arg8 arg2 k f_arg3 f_arg8) : S1x8x2x128.Idx → EReal) (ix4 i j p l)
      = max (aW W (0 + (2 * j.val + p.val)) (128 * 3 + l.val)) (aW W (0 + (16 + 2 * j.val + p.val)) (128 * 3 + l.val)) := by
  simp only [tripV.sl.r_59] at hA
  fin_cases p <;> pointwise [tripV.sl.r_59, tripV.sl.r_60, k0_pay138, k0_pay137] <;> simp only [hA] <;> norm_num <;> (try rfl) <;> congr 2 <;> omega

/-- The piece 0 of column chunk 3. -/
theorem slab3_0 (W : ℕ → ℕ → EReal)
    (hA : ∀ (r : Fin 256) (l : Fin 128), tripV.sl.r_59 (F := Ideal) arg3 arg8 arg2 k f_arg3 f_arg8 (ix2 r l) = aW W r (128 * 3 + l)) (x : (slabRect 3 0).shape.Idx) :
    (k0_pay138 (tripV.sl.r_59 arg3 arg8 arg2 k f_arg3 f_arg8) (tripV.sl.r_60 arg3 arg8 arg2 k f_arg3 f_arg8) : S1x8x2x128.Idx → EReal) x = slabG W ((slabRect 3 0).emb x) := by
  obtain ⟨i, j, p, l, rfl⟩ : ∃ (i : Fin 1) (j : Fin 8) (p : Fin 2) (l : Fin 128), x = ix4 i j p l := ⟨x 0, x 1, x 2, x 3, eq_ix4 x⟩
  exact (slabPiece_3_0 arg3 arg8 arg2 k f_arg3 f_arg8 W hA i j p l).trans (slab_piece W 3 0 i j p l).symm

/-- Every piece stored up to column chunk 3 agrees with the slab's contents. -/
theorem slabList3 (W : ℕ → ℕ → EReal)
    (hP : ∀ p ∈ tripV.sl.Harg11_24 (F := Ideal) arg3 arg8 arg2 k f_arg3 f_arg8, ∀ x, p.2 x = slabG W (p.1.emb x))
    (hA : ∀ (r : Fin 256) (l : Fin 128), tripV.sl.r_59 (F := Ideal) arg3 arg8 arg2 k f_arg3 f_arg8 (ix2 r l) = aW W r (128 * 3 + l)) :
    ∀ p ∈ tripV.sl.Harg11_32 (F := Ideal) arg3 arg8 arg2 k f_arg3 f_arg8, ∀ x, p.2 x = slabG W (p.1.emb x) := by
  unfold tripV.sl.Harg11_32 tripV.sl.Harg11_27
  refine List.forall_mem_cons.mpr ⟨slab3_7 arg3 arg8 arg2 k f_arg3 f_arg8 W hA, ?_⟩
  refine List.forall_mem_cons.mpr ⟨slab3_6 arg3 arg8 arg2 k f_arg3 f_arg8 W hA, ?_⟩
  refine List.forall_mem_cons.mpr ⟨slab3_5 arg3 arg8 arg2 k f_arg3 f_arg8 W hA, ?_⟩
  refine List.forall_mem_cons.mpr ⟨slab3_4 arg3 arg8 arg2 k f_arg3 f_arg8 W hA, ?_⟩
  refine List.forall_mem_cons.mpr ⟨slab3_3 arg3 arg8 arg2 k f_arg3 f_arg8 W hA, ?_⟩
  refine List.forall_mem_cons.mpr ⟨slab3_2 arg3 arg8 arg2 k f_arg3 f_arg8 W hA, ?_⟩
  refine List.forall_mem_cons.mpr ⟨slab3_1 arg3 arg8 arg2 k f_arg3 f_arg8 W hA, ?_⟩
  refine List.forall_mem_cons.mpr ⟨slab3_0 arg3 arg8 arg2 k f_arg3 f_arg8 W hA, hP⟩

/-- The eight pieces of column chunk 3 are among them. -/
theorem slabHas3 (r : Fin 8) : slabRect 3 r ∈ (tripV.sl.Harg11_32 (F := Ideal) arg3 arg8 arg2 k f_arg3 f_arg8).map (·.1) := by
  unfold tripV.sl.Harg11_32 tripV.sl.Harg11_27
  simp only [List.map_cons]
  fin_cases r
  · exact List.mem_cons_of_mem _ (List.mem_cons_of_mem _ (List.mem_cons_of_mem _ (List.mem_cons_of_mem _ (List.mem_cons_of_mem _ (List.mem_cons_of_mem _ (List.mem_cons_of_mem _ (List.mem_cons_self)))))))
  · exact List.mem_cons_of_mem _ (List.mem_cons_of_mem _ (List.mem_cons_of_mem _ (List.mem_cons_of_mem _ (List.mem_cons_of_mem _ (List.mem_cons_of_mem _ (List.mem_cons_self))))))
  · exact List.mem_cons_of_mem _ (List.mem_cons_of_mem _ (List.mem_cons_of_mem _ (List.mem_cons_of_mem _ (List.mem_cons_of_mem _ (List.mem_cons_self)))))
  · exact List.mem_cons_of_mem _ (List.mem_cons_of_mem _ (List.mem_cons_of_mem _ (List.mem_cons_of_mem _ (List.mem_cons_self))))
  · exact List.mem_cons_of_mem _ (List.mem_cons_of_mem _ (List.mem_cons_of_mem _ (List.mem_cons_self)))
  · exact List.mem_cons_of_mem _ (List.mem_cons_of_mem _ (List.mem_cons_self))
  · exact List.mem_cons_of_mem _ (List.mem_cons_self)
  · exact List.mem_cons_self

end Cert.KernelIdeal.Hand
-- ==== Proof.Exp3.lean ====
module

public import proofs.«01_k».proof.Proof.Slab3

@[expose] public section

set_option maxRecDepth 8192
set_option maxHeartbeats 400000

noncomputable section

namespace Cert.KernelIdeal.Hand

open Cert.KernelIdeal Cert.KernelIdeal.Gen
open Idealize.ShloMosaic Requant
open Idealize.ShloMosaic.View

variable (arg3 : Memref sig .tc .vmem S1x4096x512 .fp8e4m3) (arg8 : Memref sig .tc .vmem S4096x128 .bf16)
  (arg11 : Memref sig .tc .vmem S4x72x2x128 .bf16) (arg12 : Memref sig .tc .vmem S4x8x128 .i32) (arg13 : Memref sig .tc .vmem S256x512 .fp8e4m3)
  (arg2 : BitVec 32) (k : Fin k0_t2_loop.trips)
  (f_arg3 : arg3.view.ty.Contents (Elt Ideal)) (f_arg8 : arg8.view.ty.Contents (Elt Ideal))

/-- The pieces of the slab up to column chunk 3 are what the model says. -/
def SlabOK3 (W : ℕ → ℕ → EReal) : Prop := ∀ p ∈ tripV.sl.Harg11_32 (F := Ideal) arg3 arg8 arg2 k f_arg3 f_arg8, ∀ x, p.2 x = slabG W (p.1.emb x)

theorem raw3_0 (W : ℕ → ℕ → EReal) (hL : SlabOK3 arg3 arg8 arg2 k f_arg3 f_arg8 W) (r : Fin 8) (l : Fin 128) :
    tripV.sl.v1320_raw (F := Ideal) arg3 arg8 arg11 arg2 k f_arg3 f_arg8 (ix4 0 r 0 l) = max (aW W (32 * r + 0) (128 * 3 + l)) (aW W (32 * r + 16) (128 * 3 + l))
    ∧ tripV.sl.v1320_raw (F := Ideal) arg3 arg8 arg11 arg2 k f_arg3 f_arg8 (ix4 0 r 1 l) = max (aW W (32 * r + 1) (128 * 3 + l)) (aW W (32 * r + 17) (128 * 3 + l)) :=
  ⟨slab_read arg11.view W _ hL 3 0 (slabHas3 arg3 arg8 arg2 k f_arg3 f_arg8) _ rfl _ r 0 l,
   slab_read arg11.view W _ hL 3 0 (slabHas3 arg3 arg8 arg2 k f_arg3 f_arg8) _ rfl _ r 1 l⟩

theorem raw3_1 (W : ℕ → ℕ → EReal) (hL : SlabOK3 arg3 arg8 arg2 k f_arg3 f_arg8 W) (r : Fin 8) (l : Fin 128) :
    tripV.sl.v1323_raw (F := Ideal) arg3 arg8 arg11 arg2 k f_arg3 f_arg8 (ix4 0 r 0 l) = max (aW W (32 * r + 2) (128 * 3 + l)) (aW W (32 * r + 18) (128 * 3 + l))
    ∧ tripV.sl.v1323_raw (F := Ideal) arg3 arg8 arg11 arg2 k f_arg3 f_arg8 (ix4 0 r 1 l) = max (aW W (32 * r + 3) (128 * 3 + l)) (aW W (32 * r + 19) (128 * 3 + l)) :=
  ⟨slab_read arg11.view W _ hL 3 1 (slabHas3 arg3 arg8 arg2 k f_arg3 f_arg8) _ rfl _ r 0 l,
   slab_read arg11.view W _ hL 3 1 (slabHas3 arg3 arg8 arg2 k f_arg3 f_arg8) _ rfl _ r 1 l⟩

theorem raw3_2 (W : ℕ → ℕ → EReal) (hL : SlabOK3 arg3 arg8 arg2 k f_arg3 f_arg8 W) (r : Fin 8) (l : Fin 128) :
    tripV.sl.v1327_raw (F := Ideal) arg3 arg8 arg11 arg2 k f_arg3 f_arg8 (ix4 0 r 0 l) = max (aW W (32 * r + 4) (128 * 3 + l)) (aW W (32 * r + 20) (128 * 3 + l))
    ∧ tripV.sl.v1327_raw (F := Ideal) arg3 arg8 arg11 arg2 k f_arg3 f_arg8 (ix4 0 r 1 l) = max (aW W (32 * r + 5) (128 * 3 + l)) (aW W (32 * r + 21) (128 * 3 + l)) :=
  ⟨slab_read arg11.view W _ hL 3 2 (slabHas3 arg3 arg8 arg2 k f_arg3 f_arg8) _ rfl _ r 0 l,
   slab_read arg11.view W _ hL 3 2 (slabHas3 arg3 arg8 arg2 k f_arg3 f_arg8) _ rfl _ r 1 l⟩

theorem raw3_3 (W : ℕ → ℕ → EReal) (hL : SlabOK3 arg3 arg8 arg2 k f_arg3 f_arg8 W) (r : Fin 8) (l : Fin 128) :
    tripV.sl.v1331_raw (F := Ideal) arg3 arg8 arg11 arg2 k f_arg3 f_arg8 (ix4 0 r 0 l) = max (aW W (32 * r + 6) (128 * 3 + l)) (aW W (32 * r + 22) (128 * 3 + l))
    ∧ tripV.sl.v1331_raw (F := Ideal) arg3 arg8 arg11 arg2 k f_arg3 f_arg8 (ix4 0 r 1 l) = max (aW W (32 * r + 7) (128 * 3 + l)) (aW W (32 * r + 23) (128 * 3 + l)) :=
  ⟨slab_read arg11.view W _ hL 3 3 (slabHas3 arg3 arg8 arg2 k f_arg3 f_arg8) _ rfl _ r 0 l,
   slab_read arg11.view W _ hL 3 3 (slabHas3 arg3 arg8 arg2 k f_arg3 f_arg8) _ rfl _ r 1 l⟩

theorem raw3_4 (W : ℕ → ℕ → EReal) (hL : SlabOK3 arg3 arg8 arg2 k f_arg3 f_arg8 W) (r : Fin 8) (l : Fin 128) :
    tripV.sl.v1335_raw (F := Ideal) arg3 arg8 arg11 arg2 k f_arg3 f_arg8 (ix4 0 r 0 l) = max (aW W (32 * r + 8) (128 * 3 + l)) (aW W (32 * r + 24) (128 * 3 + l))
    ∧ tripV.sl.v1335_raw (F := Ideal) arg3 arg8 arg11 arg2 k f_arg3 f_arg8 (ix4 0 r 1 l) = max (aW W (32 * r + 9) (128 * 3 + l)) (aW W (32 * r + 25) (128 * 3 + l)) :=
  ⟨slab_read arg11.view W _ hL 3 4 (slabHas3 arg3 arg8 arg2 k f_arg3 f_arg8) _ rfl _ r 0 l,
   slab_read arg11.view W _ hL 3 4 (slabHas3 arg3 arg8 arg2 k f_arg3 f_arg8) _ rfl _ r 1 l⟩

theorem raw3_5 (W : ℕ → ℕ → EReal) (hL : SlabOK3 arg3 arg8 arg2 k f_arg3 f_arg8 W) (r : Fin 8) (l : Fin 128) :
    tripV.sl.v1339_raw (F := Ideal) arg3 arg8 arg11 arg2 k f_arg3 f_arg8 (ix4 0 r 0 l) = max (aW W (32 * r + 10) (128 * 3 + l)) (aW W (32 * r + 26) (128 * 3 + l))
    ∧ tripV.sl.v1339_raw (F := Ideal) arg3 arg8 arg11 arg2 k f_arg3 f_arg8 (ix4 0 r 1 l) = max (aW W (32 * r + 11) (128 * 3 + l)) (aW W (32 * r + 27) (128 * 3 + l)) :=
  ⟨slab_read arg11.view W _ hL 3 5 (slabHas3 arg3 arg8 arg2 k f_arg3 f_arg8) _ rfl _ r 0 l,
   slab_read arg11.view W _ hL 3 5 (slabHas3 arg3 arg8 arg2 k f_arg3 f_arg8) _ rfl _ r 1 l⟩

theorem raw3_6 (W : ℕ → ℕ → EReal) (hL : SlabOK3 arg3 arg8 arg2 k f_arg3 f_arg8 W) (r : Fin 8) (l : Fin 128) :
    tripV.sl.v1343_raw (F := Ideal) arg3 arg8 arg11 arg2 k f_arg3 f_arg8 (ix4 0 r 0 l) = max (aW W (32 * r + 12) (128 * 3 + l)) (aW W (32 * r + 28) (128 * 3 + l))
    ∧ tripV.sl.v1343_raw (F := Ideal) arg3 arg8 arg11 arg2 k f_arg3 f_arg8 (ix4 0 r 1 l) = max (aW W (32 * r + 13) (128 * 3 + l)) (aW W (32 * r + 29) (128 * 3 + l)) :=
  ⟨slab_read arg11.view W _ hL 3 6 (slabHas3 arg3 arg8 arg2 k f_arg3 f_arg8) _ rfl _ r 0 l,
   slab_read arg11.view W _ hL 3 6 (slabHas3 arg3 arg8 arg2 k f_arg3 f_arg8) _ rfl _ r 1 l⟩

theorem raw3_7 (W : ℕ → ℕ → EReal) (hL : SlabOK3 arg3 arg8 arg2 k f_arg3 f_arg8 W) (r : Fin 8) (l : Fin 128) :
    tripV.sl.v1347_raw (F := Ideal) arg3 arg8 arg11 arg2 k f_arg3 f_arg8 (ix4 0 r 0 l) = max (aW W (32 * r + 14) (128 * 3 + l)) (aW W (32 * r + 30) (128 * 3 + l))
    ∧ tripV.sl.v1347_raw (F := Ideal) arg3 arg8 arg11 arg2 k f_arg3 f_arg8 (ix4 0 r 1 l) = max (aW W (32 * r + 15) (128 * 3 + l)) (aW W (32 * r + 31) (128 * 3 + l)) :=
  ⟨slab_read arg11.view W _ hL 3 7 (slabHas3 arg3 arg8 arg2 k f_arg3 f_arg8) _ rfl _ r 0 l,
   slab_read arg11.view W _ hL 3 7 (slabHas3 arg3 arg8 arg2 k f_arg3 f_arg8) _ rfl _ r 1 l⟩

/-- The largest absolute value of 32 rows, scaled: column chunk 3. -/
theorem level3 (W : ℕ → ℕ → EReal) (hL : SlabOK3 arg3 arg8 arg2 k f_arg3 f_arg8 W) (r : Fin 8) (l : Fin 128) :
    tripV.sl.r_69 (F := Ideal) arg3 arg8 arg11 arg2 k f_arg3 f_arg8 (ix2 r l) = level W r (128 * 3 + l) := by
  have e : ∀ A B : EReal, A = B → A * Ideal.ofBits .f32 0x3B124925#32 = B * Ideal.ofBits .f32 0x3B124925#32 := fun A B h => by rw [h]
  pointwise [tripV.sl.r_69, tripV.sl.r_66, tripV.sl.r_67, tripV.sl.r_68, k0_pay155, k0_pay152, k0_pay153, k0_pay154]
  unfold level
  refine e _ _ ?_
  have e1 : ∀ h, (⟨2 * (r : ℕ) / 2, h⟩ : Fin 8) = r := fun h => Fin.ext (by simp)
  have e2 : ∀ h, (⟨(2 * (r : ℕ) + 1) / 2, h⟩ : Fin 8) = r := fun h => Fin.ext (by show (2 * (r : ℕ) + 1) / 2 = _; omega)
  have e3 : (2 * (r : ℕ) % 2 = 0) = True := by simp
  have e4 : ((2 * (r : ℕ) + 1) % 2 = 0) = False := by simp
  simp only [e1, e2, e3, e4, if_true, if_false, (raw3_0 arg3 arg8 arg11 arg2 k f_arg3 f_arg8 W hL r l).1, (raw3_0 arg3 arg8 arg11 arg2 k f_arg3 f_arg8 W hL r l).2, (raw3_1 arg3 arg8 arg11 arg2 k f_arg3 f_arg8 W hL r l).1, (raw3_1 arg3 arg8 arg11 arg2 k f_arg3 f_arg8 W hL r l).2, (raw3_2 arg3 arg8 arg11 arg2 k f_arg3 f_arg8 W hL r l).1, (raw3_2 arg3 arg8 arg11 arg2 k f_arg3 f_arg8 W hL r l).2, (raw3_3 arg3 arg8 arg11 arg2 k f_arg3 f_arg8 W hL r l).1, (raw3_3 arg3 arg8 arg11 arg2 k f_arg3 f_arg8 W hL r l).2, (raw3_4 arg3 arg8 arg11 arg2 k f_arg3 f_arg8 W hL r l).1, (raw3_4 arg3 arg8 arg11 arg2 k f_arg3 f_arg8 W hL r l).2, (raw3_5 arg3 arg8 arg11 arg2 k f_arg3 f_arg8 W hL r l).1, (raw3_5 arg3 arg8 arg11 arg2 k f_arg3 f_arg8 W hL r l).2, (raw3_6 arg3 arg8 arg11 arg2 k f_arg3 f_arg8 W hL r l).1, (raw3_6 arg3 arg8 arg11 arg2 k f_arg3 f_arg8 W hL r l).2, (raw3_7 arg3 arg8 arg11 arg2 k f_arg3 f_arg8 W hL r l).1, (raw3_7 arg3 arg8 arg11 arg2 k f_arg3 f_arg8 W hL r l).2]
  generalize 128 * 3 + (l : ℕ) = q
  apply le_antisymm
  · simp only [max_le_iff]
    repeat' constructor
    all_goals exact le_amax W _ _ _ (by omega) (by omega)
  · refine amax_le W _ _ _ fun i hi => ?_
    interval_cases i <;> simp only [le_max_iff, le_refl, true_or, or_true]

/-- The exponents of column chunk 3. -/
theorem expIn3 (r : Fin 8) (l : Fin 128) :
    (k0_pay159 (tripV.sl.r_72 (F := Ideal) arg3 arg8 arg11 arg2 k f_arg3 f_arg8) : S8x128.Idx → BitVec 32) (ix2 r l) = expo (tripV.sl.r_69 (F := Ideal) arg3 arg8 arg11 arg2 k f_arg3 f_arg8 (ix2 r l)) := by
  simp only [tripV.sl.r_69, tripV.sl.r_70, tripV.sl.r_71, tripV.sl.r_72, k0_pay157, bis_pay159, bis_pay156]
  exact vexpo_apply _ _

/-- The exponents of column chunk 3, as stored. -/
theorem expOut3 (W : ℕ → ℕ → EReal) (hL : SlabOK3 arg3 arg8 arg2 k f_arg3 f_arg8 W) (r : Fin 8) (l : Fin 128) :
    (k0_pay160 (tripV.sl.r_72 (F := Ideal) arg3 arg8 arg11 arg2 k f_arg3 f_arg8) : S8x128.Idx → BitVec 32) (ix2 r l) = expo (level W r (128 * 3 + l)) := by
  have h := (expIn3 arg3 arg8 arg11 arg2 k f_arg3 f_arg8 r l).trans (congrArg expo (level3 arg3 arg8 arg11 arg2 k f_arg3 f_arg8 W hL r l))
  pointwise [k0_pay160]
  exact h

/-- The words of inverse multipliers of column chunk 3. -/
theorem invOut3 (W : ℕ → ℕ → EReal) (hL : SlabOK3 arg3 arg8 arg2 k f_arg3 f_arg8 W) (r : Fin 8) (l : Fin 128) :
    (k0_pay161 (tripV.sl.r_72 (F := Ideal) arg3 arg8 arg11 arg2 k f_arg3 f_arg8) : S1x8x128.Idx → BitVec 32) (ix3 0 r l) = invWord (expo (level W r (128 * 3 + l))) := by
  have h := (expIn3 arg3 arg8 arg11 arg2 k f_arg3 f_arg8 r l).trans (congrArg expo (level3 arg3 arg8 arg11 arg2 k f_arg3 f_arg8 W hL r l))
  rw [← h]
  pointwise [k0_pay161]
  rfl

end Cert.KernelIdeal.Hand
-- ==== Proof.Code3.lean ====
module

public import proofs.«01_k».proof.Proof.Exp3

@[expose] public section

set_option maxRecDepth 8192
set_option maxHeartbeats 400000

noncomputable section

namespace Cert.KernelIdeal.Hand

open Cert.KernelIdeal Cert.KernelIdeal.Gen
open Idealize.ShloMosaic Requant
open Idealize.ShloMosaic.View

variable (arg3 : Memref sig .tc .vmem S1x4096x512 .fp8e4m3) (arg8 : Memref sig .tc .vmem S4096x128 .bf16)
  (arg11 : Memref sig .tc .vmem S4x72x2x128 .bf16) (arg12 : Memref sig .tc .vmem S4x8x128 .i32) (arg13 : Memref sig .tc .vmem S256x512 .fp8e4m3)
  (arg2 : BitVec 32) (k : Fin k0_t2_loop.trips)
  (f_arg3 : arg3.view.ty.Contents (Elt Ideal)) (f_arg8 : arg8.view.ty.Contents (Elt Ideal))

theorem invRow3_0 (W : ℕ → ℕ → EReal) (hL : SlabOK3 arg3 arg8 arg2 k f_arg3 f_arg8 W) (l : Fin 128) :
    tripV.sl.v1442 (F := Ideal) arg3 arg8 arg11 arg12 arg2 k f_arg3 f_arg8 (ix3 0 0 l) = invWord (expo (level W 0 (128 * 3 + l))) := by
  refine (inv_read arg12.view 3 0 _ _ _ rfl rfl _ _ _ l).trans ?_
  exact invOut3 arg3 arg8 arg11 arg2 k f_arg3 f_arg8 W hL 0 l

theorem invRow3_1 (W : ℕ → ℕ → EReal) (hL : SlabOK3 arg3 arg8 arg2 k f_arg3 f_arg8 W) (l : Fin 128) :
    tripV.sl.v1463 (F := Ideal) arg3 arg8 arg11 arg12 arg2 k f_arg3 f_arg8 (ix3 0 0 l) = invWord (expo (level W 1 (128 * 3 + l))) := by
  refine (inv_read arg12.view 3 1 _ _ _ rfl rfl _ _ _ l).trans ?_
  exact invOut3 arg3 arg8 arg11 arg2 k f_arg3 f_arg8 W hL 1 l

theorem invRow3_2 (W : ℕ → ℕ → EReal) (hL : SlabOK3 arg3 arg8 arg2 k f_arg3 f_arg8 W) (l : Fin 128) :
    tripV.sl.v1484 (F := Ideal) arg3 arg8 arg11 arg12 arg2 k f_arg3 f_arg8 (ix3 0 0 l) = invWord (expo (level W 2 (128 * 3 + l))) := by
  refine (inv_read arg12.view 3 2 _ _ _ rfl rfl _ _ _ l).trans ?_
  exact invOut3 arg3 arg8 arg11 arg2 k f_arg3 f_arg8 W hL 2 l

theorem invRow3_3 (W : ℕ → ℕ → EReal) (hL : SlabOK3 arg3 arg8 arg2 k f_arg3 f_arg8 W) (l : Fin 128) :
    tripV.sl.v1505 (F := Ideal) arg3 arg8 arg11 arg12 arg2 k f_arg3 f_arg8 (ix3 0 0 l) = invWord (expo (level W 3 (128 * 3 + l))) := by
  refine (inv_read arg12.view 3 3 _ _ _ rfl rfl _ _ _ l).trans ?_
  exact invOut3 arg3 arg8 arg11 arg2 k f_arg3 f_arg8 W hL 3 l

theorem invRow3_4 (W : ℕ → ℕ → EReal) (hL : SlabOK3 arg3 arg8 arg2 k f_arg3 f_arg8 W) (l : Fin 128) :
    tripV.sl.v1526 (F := Ideal) arg3 arg8 arg11 arg12 arg2 k f_arg3 f_arg8 (ix3 0 0 l) = invWord (expo (level W 4 (128 * 3 + l))) := by
  refine (inv_read arg12.view 3 4 _ _ _ rfl rfl _ _ _ l).trans ?_
  exact invOut3 arg3 arg8 arg11 arg2 k f_arg3 f_arg8 W hL 4 l

theorem invRow3_5 (W : ℕ → ℕ → EReal) (hL : SlabOK3 arg3 arg8 arg2 k f_arg3 f_arg8 W) (l : Fin 128) :
    tripV.sl.v1547 (F := Ideal) arg3 arg8 arg11 arg12 arg2 k f_arg3 f_arg8 (ix3 0 0 l) = invWord (expo (level W 5 (128 * 3 + l))) := by
  refine (inv_read arg12.view 3 5 _ _ _ rfl rfl _ _ _ l).trans ?_
  exact invOut3 arg3 arg8 arg11 arg2 k f_arg3 f_arg8 W hL 5 l

theorem invRow3_6 (W : ℕ → ℕ → EReal) (hL : SlabOK3 arg3 arg8 arg2 k f_arg3 f_arg8 W) (l : Fin 128) :
    tripV.sl.v1568 (F := Ideal) arg3 arg8 arg11 arg12 arg2 k f_arg3 f_arg8 (ix3 0 0 l) = invWord (expo (level W 6 (128 * 3 + l))) := by
  refine (inv_read arg12.view 3 6 _ _ _ rfl rfl _ _ _ l).trans ?_
  exact invOut3 arg3 arg8 arg11 arg2 k f_arg3 f_arg8 W hL 6 l

theorem invRow3_7 (W : ℕ → ℕ → EReal) (hL : SlabOK3 arg3 arg8 arg2 k f_arg3 f_arg8 W) (l : Fin 128) :
    tripV.sl.v1589 (F := Ideal) arg3 arg8 arg11 arg12 arg2 k f_arg3 f_arg8 (ix3 0 0 l) = invWord (expo (level W 7 (128 * 3 + l))) := by
  refine (inv_read arg12.view 3 7 _ _ _ rfl rfl _ _ _ l).trans ?_
  exact invOut3 arg3 arg8 arg11 arg2 k f_arg3 f_arg8 W hL 7 l

theorem codePiece_3_7 (W : ℕ → ℕ → EReal) (hL : SlabOK3 arg3 arg8 arg2 k f_arg3 f_arg8 W)
    (hV : ∀ (r : Fin 256) (l : Fin 128), tripV.sl.r_58 (F := Ideal) arg3 arg8 arg2 k f_arg3 f_arg8 (ix2 r l) = W r (128 * 3 + l)) (i : Fin 32) (l : Fin 128) :
    (k0_pay172 (tripV.sl.r_58 arg3 arg8 arg2 k f_arg3 f_arg8) (tripV.sl.v1589 arg3 arg8 arg11 arg12 arg2 k f_arg3 f_arg8) : S32x128.Idx → EReal) (ix2 i l) = code W (224 + i) (128 * 3 + l) := by
  simp only [tripV.sl.r_58] at hV
  have hi := invRow3_7 arg3 arg8 arg11 arg12 arg2 k f_arg3 f_arg8 W hL l
  have hh := inv_half (level W 7 (128 * 3 + l)) ⟨i.val % 16 % 2, by omega⟩
  have hb : (224 + i.val) / 32 = 7 := by omega
  unfold code
  rw [hb, ← hh]
  pointwise [tripV.sl.r_58, k0_pay172]
  rw [bitcast_half]
  pointwise [hi, hV]

theorem codePiece_3_6 (W : ℕ → ℕ → EReal) (hL : SlabOK3 arg3 arg8 arg2 k f_arg3 f_arg8 W)
    (hV : ∀ (r : Fin 256) (l : Fin 128), tripV.sl.r_58 (F := Ideal) arg3 arg8 arg2 k f_arg3 f_arg8 (ix2 r l) = W r (128 * 3 + l)) (i : Fin 32) (l : Fin 128) :
    (tripV.sl.r_76 arg3 arg8 arg11 arg12 arg2 k f_arg3 f_arg8 : S32x128.Idx → EReal) (ix2 i l) = code W (192 + i) (128 * 3 + l) := by
  simp only [tripV.sl.r_58] at hV
  have hi := invRow3_6 arg3 arg8 arg11 arg12 arg2 k f_arg3 f_arg8 W hL l
  have hh := inv_half (level W 6 (128 * 3 + l)) ⟨i.val % 16 % 2, by omega⟩
  have hb : (192 + i.val) / 32 = 6 := by omega
  unfold code
  rw [hb, ← hh]
  pointwise [tripV.sl.r_58, tripV.sl.r_76, k0_pay171]
  rw [bitcast_half]
  pointwise [hi, hV]

theorem codePiece_3_5 (W : ℕ → ℕ → EReal) (hL : SlabOK3 arg3 arg8 arg2 k f_arg3 f_arg8 W)
    (hV : ∀ (r : Fin 256) (l : Fin 128), tripV.sl.r_58 (F := Ideal) arg3 arg8 arg2 k f_arg3 f_arg8 (ix2 r l) = W r (128 * 3 + l)) (i : Fin 32) (l : Fin 128) :
    (k0_pay170 (tripV.sl.r_58 arg3 arg8 arg2 k f_arg3 f_arg8) (tripV.sl.v1547 arg3 arg8 arg11 arg12 arg2 k f_arg3 f_arg8) : S32x128.Idx → EReal) (ix2 i l) = code W (160 + i) (128 * 3 + l) := by
  simp only [tripV.sl.r_58] at hV
  have hi := invRow3_5 arg3 arg8 arg11 arg12 arg2 k f_arg3 f_arg8 W hL l
  have hh := inv_half (level W 5 (128 * 3 + l)) ⟨i.val % 16 % 2, by omega⟩
  have hb : (160 + i.val) / 32 = 5 := by omega
  unfold code
  rw [hb, ← hh]
  pointwise [tripV.sl.r_58, k0_pay170]
  rw [bitcast_half]
  pointwise [hi, hV]

theorem codePiece_3_4 (W : ℕ → ℕ → EReal) (hL : SlabOK3 arg3 arg8 arg2 k f_arg3 f_arg8 W)
    (hV : ∀ (r : Fin 256) (l : Fin 128), tripV.sl.r_58 (F := Ideal) arg3 arg8 arg2 k f_arg3 f_arg8 (ix2 r l) = W r (128 * 3 + l)) (i : Fin 32) (l : Fin 128) :
    (k0_pay169 (tripV.sl.r_75 arg3 arg8 arg11 arg12 arg2 k f_arg3 f_arg8) : S32x128.Idx → EReal) (ix2 i l) = code W (128 + i) (128 * 3 + l) := by
  simp only [tripV.sl.r_58] at hV
  have hi := invRow3_4 arg3 arg8 arg11 arg12 arg2 k f_arg3 f_arg8 W hL l
  have hh := inv_half (level W 4 (128 * 3 + l)) ⟨i.val % 16 % 2, by omega⟩
  have hb : (128 + i.val) / 32 = 4 := by omega
  unfold code
  rw [hb, ← hh]
  pointwise [tripV.sl.r_58, tripV.sl.r_75, k0_pay169, k0_pay168]
  rw [bitcast_half]
  pointwise [hi, hV]

theorem codePiece_3_3 (W : ℕ → ℕ → EReal) (hL : SlabOK3 arg3 arg8 arg2 k f_arg3 f_arg8 W)
    (hV : ∀ (r : Fin 256) (l : Fin 128), tripV.sl.r_58 (F := Ideal) arg3 arg8 arg2 k f_arg3 f_arg8 (ix2 r l) = W r (128 * 3 + l)) (i : Fin 32) (l : Fin 128) :
    (k0_pay167 (tripV.sl.r_58 arg3 arg8 arg2 k f_arg3 f_arg8) (tripV.sl.v1505 arg3 arg8 arg11 arg12 arg2 k f_arg3 f_arg8) : S32x128.Idx → EReal) (ix2 i l) = code W (96 + i) (128 * 3 + l) := by
  simp only [tripV.sl.r_58] at hV
  have hi := invRow3_3 arg3 arg8 arg11 arg12 arg2 k f_arg3 f_arg8 W hL l
  have hh := inv_half (level W 3 (128 * 3 + l)) ⟨i.val % 16 % 2, by omega⟩
  have hb : (96 + i.val) / 32 = 3 := by omega
  unfold code
  rw [hb, ← hh]
  pointwise [tripV.sl.r_58, k0_pay167]
  rw [bitcast_half]
  pointwise [hi, hV]

theorem codePiece_3_2 (W : ℕ → ℕ → EReal) (hL : SlabOK3 arg3 arg8 arg2 k f_arg3 f_arg8 W)
    (hV : ∀ (r : Fin 256) (l : Fin 128), tripV.sl.r_58 (F := Ideal) arg3 arg8 arg2 k f_arg3 f_arg8 (ix2 r l) = W r (128 * 3 + l)) (i : Fin 32) (l : Fin 128) :
    (k0_pay166 (tripV.sl.r_74 arg3 arg8 arg11 arg12 arg2 k f_arg3 f_arg8) : S32x128.Idx → EReal) (ix2 i l) = code W (64 + i) (128 * 3 + l) := by
  simp only [tripV.sl.r_58] at hV
  have hi := invRow3_2 arg3 arg8 arg11 arg12 arg2 k f_arg3 f_arg8 W hL l
  have hh := inv_half (level W 2 (128 * 3 + l)) ⟨i.val % 16 % 2, by omega⟩
  have hb : (64 + i.val) / 32 = 2 := by omega
  unfold code
  rw [hb, ← hh]
  pointwise [tripV.sl.r_58, tripV.sl.r_74, k0_pay166, k0_pay165]
  rw [bitcast_half]
  pointwise [hi, hV]

theorem codePiece_3_1 (W : ℕ → ℕ → EReal) (hL : SlabOK3 arg3 arg8 arg2 k f_arg3 f_arg8 W)
    (hV : ∀ (r : Fin 256) (l : Fin 128), tripV.sl.r_58 (F := Ideal) arg3 arg8 arg2 k f_arg3 f_arg8 (ix2 r l) = W r (128 * 3 + l)) (i : Fin 32) (l : Fin 128) :
    (k0_pay164 (tripV.sl.r_58 arg3 arg8 arg2 k f_arg3 f_arg8) (tripV.sl.v1463 arg3 arg8 arg11 arg12 arg2 k f_arg3 f_arg8) : S32x128.Idx → EReal) (ix2 i l) = code W (32 + i) (128 * 3 + l) := by
  simp only [tripV.sl.r_58] at hV
  have hi := invRow3_1 arg3 arg8 arg11 arg12 arg2 k f_arg3 f_arg8 W hL l
  have hh := inv_half (level W 1 (128 * 3 + l)) ⟨i.val % 16 % 2, by omega⟩
  have hb : (32 + i.val) / 32 = 1 := by omega
  unfold code
  rw [hb, ← hh]
  pointwise [tripV.sl.r_58, k0_pay164]
  rw [bitcast_half]
  pointwise [hi, hV]

theorem codePiece_3_0 (W : ℕ → ℕ → EReal) (hL : SlabOK3 arg3 arg8 arg2 k f_arg3 f_arg8 W)
    (hV : ∀ (r : Fin 256) (l : Fin 128), tripV.sl.r_58 (F := Ideal) arg3 arg8 arg2 k f_arg3 f_arg8 (ix2 r l) = W r (128 * 3 + l)) (i : Fin 32) (l : Fin 128) :
    (k0_pay163 (tripV.sl.r_73 arg3 arg8 arg11 arg12 arg2 k f_arg3 f_arg8) : S32x128.Idx → EReal) (ix2 i l) = code W (0 + i) (128 * 3 + l) := by
  simp only [tripV.sl.r_58] at hV
  have hi := invRow3_0 arg3 arg8 arg11 arg12 arg2 k f_arg3 f_arg8 W hL l
  have hh := inv_half (level W 0 (128 * 3 + l)) ⟨i.val % 16 % 2, by omega⟩
  have hb : (0 + i.val) / 32 = 0 := by omega
  unfold code
  rw [hb, ← hh]
  pointwise [tripV.sl.r_58, tripV.sl.r_73, k0_pay163, k0_pay162]
  rw [bitcast_half]
  pointwise [hi, hV]

/-- The codes of row block 7 of column chunk 3. -/
theorem codeOK_3_7 (W : ℕ → ℕ → EReal) (hL : SlabOK3 arg3 arg8 arg2 k f_arg3 f_arg8 W)
    (hV : ∀ (r : Fin 256) (l : Fin 128), tripV.sl.r_58 (F := Ideal) arg3 arg8 arg2 k f_arg3 f_arg8 (ix2 r l) = W r (128 * 3 + l)) (x : (codeRect 3 7).shape.Idx) :
    (k0_pay172 (tripV.sl.r_58 arg3 arg8 arg2 k f_arg3 f_arg8) (tripV.sl.v1589 arg3 arg8 arg11 arg12 arg2 k f_arg3 f_arg8) : S32x128.Idx → EReal) x = codeG W ((codeRect 3 7).emb x) := by
  obtain ⟨i, l, rfl⟩ : ∃ (i : Fin 32) (l : Fin 128), x = ix2 i l := ⟨x 0, x 1, eq_ix2 x⟩
  exact (codePiece_3_7 arg3 arg8 arg11 arg12 arg2 k f_arg3 f_arg8 W hL hV i l).trans (code_piece W 3 7 i l).symm

/-- The codes of row block 6 of column chunk 3. -/
theorem codeOK_3_6 (W : ℕ → ℕ → EReal) (hL : SlabOK3 arg3 arg8 arg2 k f_arg3 f_arg8 W)
    (hV : ∀ (r : Fin 256) (l : Fin 128), tripV.sl.r_58 (F := Ideal) arg3 arg8 arg2 k f_arg3 f_arg8 (ix2 r l) = W r (128 * 3 + l)) (x : (codeRect 3 6).shape.Idx) :
    (tripV.sl.r_76 arg3 arg8 arg11 arg12 arg2 k f_arg3 f_arg8 : S32x128.Idx → EReal) x = codeG W ((codeRect 3 6).emb x) := by
  obtain ⟨i, l, rfl⟩ : ∃ (i : Fin 32) (l : Fin 128), x = ix2 i l := ⟨x 0, x 1, eq_ix2 x⟩
  exact (codePiece_3_6 arg3 arg8 arg11 arg12 arg2 k f_arg3 f_arg8 W hL hV i l).trans (code_piece W 3 6 i l).symm

/-- The codes of row block 5 of column chunk 3. -/
theorem codeOK_3_5 (W : ℕ → ℕ → EReal) (hL : SlabOK3 arg3 arg8 arg2 k f_arg3 f_arg8 W)
    (hV : ∀ (r : Fin 256) (l : Fin 128), tripV.sl.r_58 (F := Ideal) arg3 arg8 arg2 k f_arg3 f_arg8 (ix2 r l) = W r (128 * 3 + l)) (x : (codeRect 3 5).shape.Idx) :
    (k0_pay170 (tripV.sl.r_58 arg3 arg8 arg2 k f_arg3 f_arg8) (tripV.sl.v1547 arg3 arg8 arg11 arg12 arg2 k f_arg3 f_arg8) : S32x128.Idx → EReal) x = codeG W ((codeRect 3 5).emb x) := by
  obtain ⟨i, l, rfl⟩ : ∃ (i : Fin 32) (l : Fin 128), x = ix2 i l := ⟨x 0, x 1, eq_ix2 x⟩
  exact (codePiece_3_5 arg3 arg8 arg11 arg12 arg2 k f_arg3 f_arg8 W hL hV i l).trans (code_piece W 3 5 i l).symm

/-- The codes of row block 4 of column chunk 3. -/
theorem codeOK_3_4 (W : ℕ → ℕ → EReal) (hL : SlabOK3 arg3 arg8 arg2 k f_arg3 f_arg8 W)
    (hV : ∀ (r : Fin 256) (l : Fin 128), tripV.sl.r_58 (F := Ideal) arg3 arg8 arg2 k f_arg3 f_arg8 (ix2 r l) = W r (128 * 3 + l)) (x : (codeRect 3 4).shape.Idx) :
    (k0_pay169 (tripV.sl.r_75 arg3 arg8 arg11 arg12 arg2 k f_arg3 f_arg8) : S32x128.Idx → EReal) x = codeG W ((codeRect 3 4).emb x) := by
  obtain ⟨i, l, rfl⟩ : ∃ (i : Fin 32) (l : Fin 128), x = ix2 i l := ⟨x 0, x 1, eq_ix2 x⟩
  exact (codePiece_3_4 arg3 arg8 arg11 arg12 arg2 k f_arg3 f_arg8 W hL hV i l).trans (code_piece W 3 4 i l).symm

/-- The codes of row block 3 of column chunk 3. -/
theorem codeOK_3_3 (W : ℕ → ℕ → EReal) (hL : SlabOK3 arg3 arg8 arg2 k f_arg3 f_arg8 W)
    (hV : ∀ (r : Fin 256) (l : Fin 128), tripV.sl.r_58 (F := Ideal) arg3 arg8 arg2 k f_arg3 f_arg8 (ix2 r l) = W r (128 * 3 + l)) (x : (codeRect 3 3).shape.Idx) :
    (k0_pay167 (tripV.sl.r_58 arg3 arg8 arg2 k f_arg3 f_arg8) (tripV.sl.v1505 arg3 arg8 arg11 arg12 arg2 k f_arg3 f_arg8) : S32x128.Idx → EReal) x = codeG W ((codeRect 3 3).emb x) := by
  obtain ⟨i, l, rfl⟩ : ∃ (i : Fin 32) (l : Fin 128), x = ix2 i l := ⟨x 0, x 1, eq_ix2 x⟩
  exact (codePiece_3_3 arg3 arg8 arg11 arg12 arg2 k f_arg3 f_arg8 W hL hV i l).trans (code_piece W 3 3 i l).symm

/-- The codes of row block 2 of column chunk 3. -/
theorem codeOK_3_2 (W : ℕ → ℕ → EReal) (hL : SlabOK3 arg3 arg8 arg2 k f_arg3 f_arg8 W)
    (hV : ∀ (r : Fin 256) (l : Fin 128), tripV.sl.r_58 (F := Ideal) arg3 arg8 arg2 k f_arg3 f_arg8 (ix2 r l) = W r (128 * 3 + l)) (x : (codeRect 3 2).shape.Idx) :
    (k0_pay166 (tripV.sl.r_74 arg3 arg8 arg11 arg12 arg2 k f_arg3 f_arg8) : S32x128.Idx → EReal) x = codeG W ((codeRect 3 2).emb x) := by
  obtain ⟨i, l, rfl⟩ : ∃ (i : Fin 32) (l : Fin 128), x = ix2 i l := ⟨x 0, x 1, eq_ix2 x⟩
  exact (codePiece_3_2 arg3 arg8 arg11 arg12 arg2 k f_arg3 f_arg8 W hL hV i l).trans (code_piece W 3 2 i l).symm

/-- The codes of row block 1 of column chunk 3. -/
theorem codeOK_3_1 (W : ℕ → ℕ → EReal) (hL : SlabOK3 arg3 arg8 arg2 k f_arg3 f_arg8 W)
    (hV : ∀ (r : Fin 256) (l : Fin 128), tripV.sl.r_58 (F := Ideal) arg3 arg8 arg2 k f_arg3 f_arg8 (ix2 r l) = W r (128 * 3 + l)) (x : (codeRect 3 1).shape.Idx) :
    (k0_pay164 (tripV.sl.r_58 arg3 arg8 arg2 k f_arg3 f_arg8) (tripV.sl.v1463 arg3 arg8 arg11 arg12 arg2 k f_arg3 f_arg8) : S32x128.Idx → EReal) x = codeG W ((codeRect 3 1).emb x) := by
  obtain ⟨i, l, rfl⟩ : ∃ (i : Fin 32) (l : Fin 128), x = ix2 i l := ⟨x 0, x 1, eq_ix2 x⟩
  exact (codePiece_3_1 arg3 arg8 arg11 arg12 arg2 k f_arg3 f_arg8 W hL hV i l).trans (code_piece W 3 1 i l).symm

/-- The codes of row block 0 of column chunk 3. -/
theorem codeOK_3_0 (W : ℕ → ℕ → EReal) (hL : SlabOK3 arg3 arg8 arg2 k f_arg3 f_arg8 W)
    (hV : ∀ (r : Fin 256) (l : Fin 128), tripV.sl.r_58 (F := Ideal) arg3 arg8 arg2 k f_arg3 f_arg8 (ix2 r l) = W r (128 * 3 + l)) (x : (codeRect 3 0).shape.Idx) :
    (k0_pay163 (tripV.sl.r_73 arg3 arg8 arg11 arg12 arg2 k f_arg3 f_arg8) : S32x128.Idx → EReal) x = codeG W ((codeRect 3 0).emb x) := by
  obtain ⟨i, l, rfl⟩ : ∃ (i : Fin 32) (l : Fin 128), x = ix2 i l := ⟨x 0, x 1, eq_ix2 x⟩
  exact (codePiece_3_0 arg3 arg8 arg11 arg12 arg2 k f_arg3 f_arg8 W hL hV i l).trans (code_piece W 3 0 i l).symm

end Cert.KernelIdeal.Hand
-- ==== Proof.CodeAll.lean ====
module

public import proofs.«01_k».proof.Proof.Vals
public import proofs.«01_k».proof.Proof.Code0
public import proofs.«01_k».proof.Proof.Code1
public import proofs.«01_k».proof.Proof.Code2
public import proofs.«01_k».proof.Proof.Code3

@[expose] public section

set_option maxRecDepth 8192
set_option maxHeartbeats 1000000

noncomputable section

namespace Cert.KernelIdeal.Hand

open Cert.KernelIdeal Cert.KernelIdeal.Gen
open Idealize.ShloMosaic Requant
open Idealize.ShloMosaic.View

variable (arg3 : Memref sig .tc .vmem S1x4096x512 .fp8e4m3) (arg8 : Memref sig .tc .vmem S4096x128 .bf16)
  (arg11 : Memref sig .tc .vmem S4x72x2x128 .bf16) (arg12 : Memref sig .tc .vmem S4x8x128 .i32) (arg13 : Memref sig .tc .vmem S256x512 .fp8e4m3)
  (arg2 : BitVec 32) (k : Fin k0_t2_loop.trips)
  (f_arg3 : arg3.view.ty.Contents (Elt Ideal)) (f_arg8 : arg8.view.ty.Contents (Elt Ideal))

/-- The slab's contents after each column chunk. -/
theorem slabs (W : ℕ → ℕ → EReal)
    (h0 : ∀ (r : Fin 256) (l : Fin 128), tripV.sl.r_2 (F := Ideal) arg3 arg8 arg2 k f_arg3 f_arg8 (ix2 r l) = W r (128 * 0 + l))
    (h1 : ∀ (r : Fin 256) (l : Fin 128), tripV.sl.r_21 (F := Ideal) arg3 arg8 arg2 k f_arg3 f_arg8 (ix2 r l) = W r (128 * 1 + l))
    (h2 : ∀ (r : Fin 256) (l : Fin 128), tripV.sl.r_43 (F := Ideal) arg3 arg8 arg2 k f_arg3 f_arg8 (ix2 r l) = W r (128 * 2 + l))
    (h3 : ∀ (r : Fin 256) (l : Fin 128), tripV.sl.r_58 (F := Ideal) arg3 arg8 arg2 k f_arg3 f_arg8 (ix2 r l) = W r (128 * 3 + l)) :
    SlabOK0 arg3 arg8 arg2 k f_arg3 f_arg8 W ∧ SlabOK1 arg3 arg8 arg2 k f_arg3 f_arg8 W ∧ SlabOK2 arg3 arg8 arg2 k f_arg3 f_arg8 W ∧ SlabOK3 arg3 arg8 arg2 k f_arg3 f_arg8 W := by
  have s0 : SlabOK0 arg3 arg8 arg2 k f_arg3 f_arg8 W := slabList0 arg3 arg8 arg2 k f_arg3 f_arg8 W (abs0 arg3 arg8 arg2 k f_arg3 f_arg8 W h0)
  have s1 : SlabOK1 arg3 arg8 arg2 k f_arg3 f_arg8 W := slabList1 arg3 arg8 arg2 k f_arg3 f_arg8 W s0 (abs1 arg3 arg8 arg2 k f_arg3 f_arg8 W h1)
  have s2 : SlabOK2 arg3 arg8 arg2 k f_arg3 f_arg8 W := slabList2 arg3 arg8 arg2 k f_arg3 f_arg8 W s1 (abs2 arg3 arg8 arg2 k f_arg3 f_arg8 W h2)
  exact ⟨s0, s1, s2, slabList3 arg3 arg8 arg2 k f_arg3 f_arg8 W s2 (abs3 arg3 arg8 arg2 k f_arg3 f_arg8 W h3)⟩

/-- Every piece of codes is what the model says. -/
theorem codeList (W : ℕ → ℕ → EReal)
    (h0 : ∀ (r : Fin 256) (l : Fin 128), tripV.sl.r_2 (F := Ideal) arg3 arg8 arg2 k f_arg3 f_arg8 (ix2 r l) = W r (128 * 0 + l))
    (h1 : ∀ (r : Fin 256) (l : Fin 128), tripV.sl.r_21 (F := Ideal) arg3 arg8 arg2 k f_arg3 f_arg8 (ix2 r l) = W r (128 * 1 + l))
    (h2 : ∀ (r : Fin 256) (l : Fin 128), tripV.sl.r_43 (F := Ideal) arg3 arg8 arg2 k f_arg3 f_arg8 (ix2 r l) = W r (128 * 2 + l))
    (h3 : ∀ (r : Fin 256) (l : Fin 128), tripV.sl.r_58 (F := Ideal) arg3 arg8 arg2 k f_arg3 f_arg8 (ix2 r l) = W r (128 * 3 + l)) :
    ∀ p ∈ tripV.sl.Harg13_32 (F := Ideal) arg3 arg8 arg11 arg12 arg2 k f_arg3 f_arg8, ∀ x, p.2 x = codeG W (p.1.emb x) := by
  obtain ⟨s0, s1, s2, s3⟩ := slabs arg3 arg8 arg2 k f_arg3 f_arg8 W h0 h1 h2 h3
  unfold tripV.sl.Harg13_32
  refine List.forall_mem_cons.mpr ⟨codeOK_3_7 arg3 arg8 arg11 arg12 arg2 k f_arg3 f_arg8 W s3 h3, ?_⟩
  refine List.forall_mem_cons.mpr ⟨codeOK_3_6 arg3 arg8 arg11 arg12 arg2 k f_arg3 f_arg8 W s3 h3, ?_⟩
  refine List.forall_mem_cons.mpr ⟨codeOK_3_5 arg3 arg8 arg11 arg12 arg2 k f_arg3 f_arg8 W s3 h3, ?_⟩
  refine List.forall_mem_cons.mpr ⟨codeOK_3_4 arg3 arg8 arg11 arg12 arg2 k f_arg3 f_arg8 W s3 h3, ?_⟩
  refine List.forall_mem_cons.mpr ⟨codeOK_3_3 arg3 arg8 arg11 arg12 arg2 k f_arg3 f_arg8 W s3 h3, ?_⟩
  refine List.forall_mem_cons.mpr ⟨codeOK_3_2 arg3 arg8 arg11 arg12 arg2 k f_arg3 f_arg8 W s3 h3, ?_⟩
  refine List.forall_mem_cons.mpr ⟨codeOK_3_1 arg3 arg8 arg11 arg12 arg2 k f_arg3 f_arg8 W s3 h3, ?_⟩
  refine List.forall_mem_cons.mpr ⟨codeOK_3_0 arg3 arg8 arg11 arg12 arg2 k f_arg3 f_arg8 W s3 h3, ?_⟩
  refine List.forall_mem_cons.mpr ⟨codeOK_2_7 arg3 arg8 arg11 arg12 arg2 k f_arg3 f_arg8 W s2 h2, ?_⟩
  refine List.forall_mem_cons.mpr ⟨codeOK_2_6 arg3 arg8 arg11 arg12 arg2 k f_arg3 f_arg8 W s2 h2, ?_⟩
  refine List.forall_mem_cons.mpr ⟨codeOK_2_5 arg3 arg8 arg11 arg12 arg2 k f_arg3 f_arg8 W s2 h2, ?_⟩
  refine List.forall_mem_cons.mpr ⟨codeOK_2_4 arg3 arg8 arg11 arg12 arg2 k f_arg3 f_arg8 W s2 h2, ?_⟩
  refine List.forall_mem_cons.mpr ⟨codeOK_2_3 arg3 arg8 arg11 arg12 arg2 k f_arg3 f_arg8 W s2 h2, ?_⟩
  refine List.forall_mem_cons.mpr ⟨codeOK_2_2 arg3 arg8 arg11 arg12 arg2 k f_arg3 f_arg8 W s2 h2, ?_⟩
  refine List.forall_mem_cons.mpr ⟨codeOK_2_1 arg3 arg8 arg11 arg12 arg2 k f_arg3 f_arg8 W s2 h2, ?_⟩
  refine List.forall_mem_cons.mpr ⟨codeOK_2_0 arg3 arg8 arg11 arg12 arg2 k f_arg3 f_arg8 W s2 h2, ?_⟩
  refine List.forall_mem_cons.mpr ⟨codeOK_1_7 arg3 arg8 arg11 arg12 arg2 k f_arg3 f_arg8 W s1 h1, ?_⟩
  refine List.forall_mem_cons.mpr ⟨codeOK_1_6 arg3 arg8 arg11 arg12 arg2 k f_arg3 f_arg8 W s1 h1, ?_⟩
  refine List.forall_mem_cons.mpr ⟨codeOK_1_5 arg3 arg8 arg11 arg12 arg2 k f_arg3 f_arg8 W s1 h1, ?_⟩
  refine List.forall_mem_cons.mpr ⟨codeOK_1_4 arg3 arg8 arg11 arg12 arg2 k f_arg3 f_arg8 W s1 h1, ?_⟩
  refine List.forall_mem_cons.mpr ⟨codeOK_1_3 arg3 arg8 arg11 arg12 arg2 k f_arg3 f_arg8 W s1 h1, ?_⟩
  refine List.forall_mem_cons.mpr ⟨codeOK_1_2 arg3 arg8 arg11 arg12 arg2 k f_arg3 f_arg8 W s1 h1, ?_⟩
  refine List.forall_mem_cons.mpr ⟨codeOK_1_1 arg3 arg8 arg11 arg12 arg2 k f_arg3 f_arg8 W s1 h1, ?_⟩
  refine List.forall_mem_cons.mpr ⟨codeOK_1_0 arg3 arg8 arg11 arg12 arg2 k f_arg3 f_arg8 W s1 h1, ?_⟩
  refine List.forall_mem_cons.mpr ⟨codeOK_0_7 arg3 arg8 arg11 arg12 arg2 k f_arg3 f_arg8 W s0 h0, ?_⟩
  refine List.forall_mem_cons.mpr ⟨codeOK_0_6 arg3 arg8 arg11 arg12 arg2 k f_arg3 f_arg8 W s0 h0, ?_⟩
  refine List.forall_mem_cons.mpr ⟨codeOK_0_5 arg3 arg8 arg11 arg12 arg2 k f_arg3 f_arg8 W s0 h0, ?_⟩
  refine List.forall_mem_cons.mpr ⟨codeOK_0_4 arg3 arg8 arg11 arg12 arg2 k f_arg3 f_arg8 W s0 h0, ?_⟩
  refine List.forall_mem_cons.mpr ⟨codeOK_0_3 arg3 arg8 arg11 arg12 arg2 k f_arg3 f_arg8 W s0 h0, ?_⟩
  refine List.forall_mem_cons.mpr ⟨codeOK_0_2 arg3 arg8 arg11 arg12 arg2 k f_arg3 f_arg8 W s0 h0, ?_⟩
  refine List.forall_mem_cons.mpr ⟨codeOK_0_1 arg3 arg8 arg11 arg12 arg2 k f_arg3 f_arg8 W s0 h0, ?_⟩
  refine List.forall_mem_cons.mpr ⟨codeOK_0_0 arg3 arg8 arg11 arg12 arg2 k f_arg3 f_arg8 W s0 h0, ?_⟩
  exact fun p hp => absurd hp List.not_mem_nil

/-- All 32 squares are among the pieces of codes. -/
theorem codeHas (c : Fin 4) (b : Fin 8) : codeRect c b ∈ (tripV.sl.Harg13_32 (F := Ideal) arg3 arg8 arg11 arg12 arg2 k f_arg3 f_arg8).map (·.1) := by
  unfold tripV.sl.Harg13_32
  simp only [List.map_cons]
  fin_cases c <;> fin_cases b
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))
  · exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))
  · exact List.mem_cons_of_mem _ (List.mem_cons_of_mem _ (List.mem_cons_of_mem _ (List.mem_cons_of_mem _ (List.mem_cons_of_mem _ (List.mem_cons_of_mem _ (List.mem_cons_of_mem _ (List.mem_cons_self)))))))
  · exact List.mem_cons_of_mem _ (List.mem_cons_of_mem _ (List.mem_cons_of_mem _ (List.mem_cons_of_mem _ (List.mem_cons_of_mem _ (List.mem_cons_of_mem _ (List.mem_cons_self))))))
  · exact List.mem_cons_of_mem _ (List.mem_cons_of_mem _ (List.mem_cons_of_mem _ (List.mem_cons_of_mem _ (List.mem_cons_of_mem _ (List.mem_cons_self)))))
  · exact List.mem_cons_of_mem _ (List.mem_cons_of_mem _ (List.mem_cons_of_mem _ (List.mem_cons_of_mem _ (List.mem_cons_self))))
  · exact List.mem_cons_of_mem _ (List.mem_cons_of_mem _ (List.mem_cons_of_mem _ (List.mem_cons_self)))
  · exact List.mem_cons_of_mem _ (List.mem_cons_of_mem _ (List.mem_cons_self))
  · exact List.mem_cons_of_mem _ (List.mem_cons_self)
  · exact List.mem_cons_self

/-- The codes of one half of the columns, read back. -/
theorem codeHalf0 (W : ℕ → ℕ → EReal)
    (h0 : ∀ (r : Fin 256) (l : Fin 128), tripV.sl.r_2 (F := Ideal) arg3 arg8 arg2 k f_arg3 f_arg8 (ix2 r l) = W r (128 * 0 + l))
    (h1 : ∀ (r : Fin 256) (l : Fin 128), tripV.sl.r_21 (F := Ideal) arg3 arg8 arg2 k f_arg3 f_arg8 (ix2 r l) = W r (128 * 1 + l))
    (h2 : ∀ (r : Fin 256) (l : Fin 128), tripV.sl.r_43 (F := Ideal) arg3 arg8 arg2 k f_arg3 f_arg8 (ix2 r l) = W r (128 * 2 + l))
    (h3 : ∀ (r : Fin 256) (l : Fin 128), tripV.sl.r_58 (F := Ideal) arg3 arg8 arg2 k f_arg3 f_arg8 (ix2 r l) = W r (128 * 3 + l)) (r q : Fin 256) :
    tripV.sl.v1623 (F := Ideal) arg3 arg8 arg11 arg12 arg13 arg2 k f_arg3 f_arg8 (ix2 r q) = code W r (256 * 0 + q) :=
  code_read arg13.view W _ (codeList arg3 arg8 arg11 arg12 arg2 k f_arg3 f_arg8 W h0 h1 h2 h3) (codeHas arg3 arg8 arg11 arg12 arg2 k f_arg3 f_arg8) 0 _ rfl _ r q

/-- The codes of one half of the columns, read back. -/
theorem codeHalf1 (W : ℕ → ℕ → EReal)
    (h0 : ∀ (r : Fin 256) (l : Fin 128), tripV.sl.r_2 (F := Ideal) arg3 arg8 arg2 k f_arg3 f_arg8 (ix2 r l) = W r (128 * 0 + l))
    (h1 : ∀ (r : Fin 256) (l : Fin 128), tripV.sl.r_21 (F := Ideal) arg3 arg8 arg2 k f_arg3 f_arg8 (ix2 r l) = W r (128 * 1 + l))
    (h2 : ∀ (r : Fin 256) (l : Fin 128), tripV.sl.r_43 (F := Ideal) arg3 arg8 arg2 k f_arg3 f_arg8 (ix2 r l) = W r (128 * 2 + l))
    (h3 : ∀ (r : Fin 256) (l : Fin 128), tripV.sl.r_58 (F := Ideal) arg3 arg8 arg2 k f_arg3 f_arg8 (ix2 r l) = W r (128 * 3 + l)) (r q : Fin 256) :
    tripV.sl.v1643 (F := Ideal) arg3 arg8 arg11 arg12 arg13 arg2 k f_arg3 f_arg8 (ix2 r q) = code W r (256 * 1 + q) :=
  code_read arg13.view W _ (codeList arg3 arg8 arg11 arg12 arg2 k f_arg3 f_arg8 W h0 h1 h2 h3) (codeHas arg3 arg8 arg11 arg12 arg2 k f_arg3 f_arg8) 1 _ rfl _ r q

end Cert.KernelIdeal.Hand
-- ==== Proof.TripOut.lean ====
module

public import proofs.«01_k».proof.Proof.CodeAll
public import Idealize.ShloMosaic.Lib.WritesUnit
public import Idealize.ShloMosaic.Lib.VecWindow

@[expose] public section

set_option maxRecDepth 8192
set_option maxHeartbeats 400000

noncomputable section

namespace Cert.KernelIdeal.Hand

open Cert.KernelIdeal Cert.KernelIdeal.Gen
open Idealize.ShloMosaic Requant
open Idealize.ShloMosaic.View

variable (𝒱 : Variants) (c : Dev nD) (bd : Option 𝒱.V) (i : grid0.Coords) (arg3 : Memref sig .tc .vmem S1x4096x512 .fp8e4m3) (harg3 : arg3.IsWhole) (arg4 : Memref sig .tc .vmem S1x4096x112 .i8) (harg4 : arg4.IsWhole) (arg5 : Memref sig .tc .vmem S1x512x4096 .fp8e4m3) (harg5 : arg5.IsWhole) (arg6 : Memref sig .tc .vmem S1x512x128 .i8) (harg6 : arg6.IsWhole) (arg7 : Memref sig .tc .vmem S1x3584 .f32) (harg7 : arg7.IsWhole) (arg8 : Memref sig .tc .vmem S4096x128 .bf16) (harg8 : arg8.IsWhole) (arg9 : Memref sig .tc .vmem S128x4096 .bf16) (harg9 : arg9.IsWhole) (arg10 : Memref sig .tc .vmem S256x256 .fp8e4m3) (harg10 : arg10.IsWhole) (arg11 : Memref sig .tc .vmem S4x72x2x128 .bf16) (harg11 : arg11.IsWhole) (arg12 : Memref sig .tc .vmem S4x8x128 .i32) (harg12 : arg12.IsWhole) (arg13 : Memref sig .tc .vmem S256x512 .fp8e4m3) (harg13 : arg13.IsWhole) (arg14 : Memref sig .tc .vmem S128x512 .i32) (harg14 : arg14.IsWhole) (arg15 : Memref sig .tc .vmem S7x16x512 .f32) (harg15 : arg15.IsWhole) (arg2 : BitVec 32)
   (k : Fin k0_t2_loop.trips) (f_arg3 : BufTy.Contents (Elt Ideal) arg3.view.ty) (f_arg8 : BufTy.Contents (Elt Ideal) arg8.view.ty) (f_arg9 : BufTy.Contents (Elt Ideal) arg9.view.ty) (f_arg10 : BufTy.Contents (Elt Ideal) arg10.view.ty) (f_arg15 : BufTy.Contents (Elt Ideal) arg15.view.ty)

/-- The identity times a matrix transposed. -/
theorem eye_mul (e : S256x256.Idx → EReal) (he : ∀ a b : Fin 256, e (ix2 a b) = if a = b then 1 else 0) (w : Fin 256 → EReal) (r : Fin 256) :
    (∑ x : Fin 256, e (ix2 r x) * w x) = w r := by
  rw [Finset.sum_eq_single r]
  · rw [he, if_pos rfl, one_mul]
  · intro b _ hb
    rw [he, if_neg (Ne.symm hb), zero_mul]
  · intro h; exact absurd (Finset.mem_univ _) h

theorem half_lo (W : ℕ → ℕ → EReal)
    (h0 : ∀ (r : Fin 256) (l : Fin 128), tripV.sl.r_2 (F := Ideal) arg3 arg8 arg2 k f_arg3 f_arg8 (ix2 r l) = W r (128 * 0 + l))
    (h1 : ∀ (r : Fin 256) (l : Fin 128), tripV.sl.r_21 (F := Ideal) arg3 arg8 arg2 k f_arg3 f_arg8 (ix2 r l) = W r (128 * 1 + l))
    (h2 : ∀ (r : Fin 256) (l : Fin 128), tripV.sl.r_43 (F := Ideal) arg3 arg8 arg2 k f_arg3 f_arg8 (ix2 r l) = W r (128 * 2 + l))
    (h3 : ∀ (r : Fin 256) (l : Fin 128), tripV.sl.r_58 (F := Ideal) arg3 arg8 arg2 k f_arg3 f_arg8 (ix2 r l) = W r (128 * 3 + l))
    (he : ∀ a b : Fin 256, arg10.view.read (Elt Ideal) f_arg10 (ix2 a b) = if a = b then (1 : EReal) else 0) (r j : Fin 256) :
    (k0_pay175 (tripV.sl.r_77 (F := Ideal) arg3 arg8 arg10 arg11 arg12 arg13 arg2 k f_arg3 f_arg8 f_arg10) : S1x256x256.Idx → EReal) (ix3 0 r j) = code W j r := by
  pointwise [k0_pay175, tripV.sl.r_77, k0_pay174]
  refine (eye_mul (View.readAt (Elt Ideal) arg10.view (Rect.unit ![0, 0] S256x256.size Gen.inb_S256x256_S256x256_0_0).toLoadRect f_arg10)
    (fun a b => (congrFun (View.readAt_full arg10.view f_arg10 Gen.inb_S256x256_S256x256_0_0) (ix2 a b)).trans (he a b))
    (fun x => tripV.sl.v1623 (F := Ideal) arg3 arg8 arg11 arg12 arg13 arg2 k f_arg3 f_arg8 (ix2 j x)) r).trans ?_
  rw [codeHalf0 arg3 arg8 arg11 arg12 arg13 arg2 k f_arg3 f_arg8 W h0 h1 h2 h3, Nat.mul_zero, Nat.zero_add]

theorem half_hi (W : ℕ → ℕ → EReal)
    (h0 : ∀ (r : Fin 256) (l : Fin 128), tripV.sl.r_2 (F := Ideal) arg3 arg8 arg2 k f_arg3 f_arg8 (ix2 r l) = W r (128 * 0 + l))
    (h1 : ∀ (r : Fin 256) (l : Fin 128), tripV.sl.r_21 (F := Ideal) arg3 arg8 arg2 k f_arg3 f_arg8 (ix2 r l) = W r (128 * 1 + l))
    (h2 : ∀ (r : Fin 256) (l : Fin 128), tripV.sl.r_43 (F := Ideal) arg3 arg8 arg2 k f_arg3 f_arg8 (ix2 r l) = W r (128 * 2 + l))
    (h3 : ∀ (r : Fin 256) (l : Fin 128), tripV.sl.r_58 (F := Ideal) arg3 arg8 arg2 k f_arg3 f_arg8 (ix2 r l) = W r (128 * 3 + l))
    (he : ∀ a b : Fin 256, arg10.view.read (Elt Ideal) f_arg10 (ix2 a b) = if a = b then (1 : EReal) else 0) (r j : Fin 256) :
    (k0_pay7 (View.readAt (Elt Ideal) arg10.view (Rect.unit ![0, 0] S256x256.size Gen.inb_S256x256_S256x256_0_0).toLoadRect f_arg10) (tripV.sl.v1643 (F := Ideal) arg3 arg8 arg11 arg12 arg13 arg2 k f_arg3 f_arg8) : S1x256x256.Idx → EReal) (ix3 0 r j) = code W j (256 + r) := by
  pointwise [k0_pay7]
  refine (eye_mul (View.readAt (Elt Ideal) arg10.view (Rect.unit ![0, 0] S256x256.size Gen.inb_S256x256_S256x256_0_0).toLoadRect f_arg10)
    (fun a b => (congrFun (View.readAt_full arg10.view f_arg10 Gen.inb_S256x256_S256x256_0_0) (ix2 a b)).trans (he a b))
    (fun x => tripV.sl.v1643 (F := Ideal) arg3 arg8 arg11 arg12 arg13 arg2 k f_arg3 f_arg8 (ix2 j x)) r).trans ?_
  rw [codeHalf1 arg3 arg8 arg11 arg12 arg13 arg2 k f_arg3 f_arg8 W h0 h1 h2 h3, Nat.mul_one]

/-- What one trip leaves of the codes' block. -/
theorem trip_codes (W : ℕ → ℕ → EReal)
    (h0 : ∀ (r : Fin 256) (l : Fin 128), tripV.sl.r_2 (F := Ideal) arg3 arg8 arg2 k f_arg3 f_arg8 (ix2 r l) = W r (128 * 0 + l))
    (h1 : ∀ (r : Fin 256) (l : Fin 128), tripV.sl.r_21 (F := Ideal) arg3 arg8 arg2 k f_arg3 f_arg8 (ix2 r l) = W r (128 * 1 + l))
    (h2 : ∀ (r : Fin 256) (l : Fin 128), tripV.sl.r_43 (F := Ideal) arg3 arg8 arg2 k f_arg3 f_arg8 (ix2 r l) = W r (128 * 2 + l))
    (h3 : ∀ (r : Fin 256) (l : Fin 128), tripV.sl.r_58 (F := Ideal) arg3 arg8 arg2 k f_arg3 f_arg8 (ix2 r l) = W r (128 * 3 + l))
    (he : ∀ a b : Fin 256, arg10.view.read (Elt Ideal) f_arg10 (ix2 a b) = if a = b then (1 : EReal) else 0)
    (f_arg5 : arg5.view.ty.Contents (Elt Ideal)) (q : Fin 512) (n : Fin 4096) :
    arg5.view.read (Elt Ideal) (arg5.view.writes (Elt Ideal) f_arg5 (tripV (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 k f_arg3 f_arg8 f_arg9 f_arg10 f_arg15).1) (ix3 0 q n)
      = if 256 * k.val ≤ n.val ∧ n.val < 256 * k.val + 256 then code W (n.val - 256 * k.val) q.val else arg5.view.read (Elt Ideal) f_arg5 (ix3 0 q n) := by
  have e20 := k0_off20_eq k
  have e17 := k0_off17_eq k
  have hk : k.val < 16 := Nat.lt_of_lt_of_le k.isLt k0_t2_abs.2.1
  by_cases h : 256 * k.val ≤ n.val ∧ n.val < 256 * k.val + 256
  · rw [if_pos h]
    by_cases hq : 256 ≤ q.val
    · refine (read_writes_cons_unit_of_mem arg5.view f_arg5 _ _ _ _ (ix3 0 ⟨q.val - 256, by omega⟩ ⟨n.val - 256 * k.val, by omega⟩) e20 ?_).trans ?_
      · intro a
        match a with
        | ⟨0, _⟩ => rfl
        | ⟨1, _⟩ => show q.val = 256 + (q.val - 256); omega
        | ⟨2, _⟩ => show n.val = 256 * k.val + (n.val - 256 * k.val); omega
      · refine (half_hi arg3 arg8 arg10 arg11 arg12 arg13 arg2 k f_arg3 f_arg8 f_arg10 W h0 h1 h2 h3 he _ _).trans ?_
        show code W (n.val - 256 * k.val) (256 + (q.val - 256)) = _
        rw [Nat.add_sub_cancel' hq]
    · refine (read_writes_cons_unit_of_not_mem arg5.view f_arg5 _ _ _ _ e20 ⟨1, by decide⟩ (Or.inl (by show q.val < 256; omega))).trans ?_
      refine (read_writes_cons_unit_of_mem arg5.view f_arg5 _ _ _ _ (ix3 0 ⟨q.val, by omega⟩ ⟨n.val - 256 * k.val, by omega⟩) e17 ?_).trans ?_
      · intro a
        match a with
        | ⟨0, _⟩ => rfl
        | ⟨1, _⟩ => show q.val = 0 + q.val; omega
        | ⟨2, _⟩ => show n.val = 256 * k.val + (n.val - 256 * k.val); omega
      · exact half_lo arg3 arg8 arg10 arg11 arg12 arg13 arg2 k f_arg3 f_arg8 f_arg10 W h0 h1 h2 h3 he _ _
  · rw [if_neg h]
    have hh : n.val < 256 * k.val ∨ 256 * k.val + 256 ≤ n.val := by omega
    refine (read_writes_cons_unit_of_not_mem arg5.view f_arg5 _ _ _ _ e20 ⟨2, by decide⟩ hh).trans ?_
    exact read_writes_cons_unit_of_not_mem arg5.view f_arg5 _ _ _ _ e17 (2 : Fin 3) (by exact hh)

/-- What one trip leaves of the exponents' scratch. -/
theorem trip_exps (W : ℕ → ℕ → EReal)
    (h0 : ∀ (r : Fin 256) (l : Fin 128), tripV.sl.r_2 (F := Ideal) arg3 arg8 arg2 k f_arg3 f_arg8 (ix2 r l) = W r (128 * 0 + l))
    (h1 : ∀ (r : Fin 256) (l : Fin 128), tripV.sl.r_21 (F := Ideal) arg3 arg8 arg2 k f_arg3 f_arg8 (ix2 r l) = W r (128 * 1 + l))
    (h2 : ∀ (r : Fin 256) (l : Fin 128), tripV.sl.r_43 (F := Ideal) arg3 arg8 arg2 k f_arg3 f_arg8 (ix2 r l) = W r (128 * 2 + l))
    (h3 : ∀ (r : Fin 256) (l : Fin 128), tripV.sl.r_58 (F := Ideal) arg3 arg8 arg2 k f_arg3 f_arg8 (ix2 r l) = W r (128 * 3 + l)) (f_arg14 : arg14.view.ty.Contents (Elt Ideal)) (p : Fin 128) (q : Fin 512) :
    arg14.view.read (Elt Ideal) (arg14.view.writes (Elt Ideal) f_arg14 (tripV (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 k f_arg3 f_arg8 f_arg9 f_arg10 f_arg15).2.1) (ix2 p q)
      = if 8 * k.val ≤ p.val ∧ p.val < 8 * k.val + 8 then expo (level W (p.val - 8 * k.val) q.val) else arg14.view.read (Elt Ideal) f_arg14 (ix2 p q) := by
  have hk : k.val < 16 := Nat.lt_of_lt_of_le k.isLt k0_t2_abs.2.1
  obtain ⟨s0, s1, s2, s3⟩ := slabs arg3 arg8 arg2 k f_arg3 f_arg8 W h0 h1 h2 h3
  have e14 := k0_off14_eq k
  have e12 := k0_off12_eq k
  have e10 := k0_off10_eq k
  have e8 := k0_off8_eq k
  by_cases h : 8 * k.val ≤ p.val ∧ p.val < 8 * k.val + 8
  · rw [if_pos h]
    by_cases hq3 : 384 ≤ q.val
    · refine (read_writes_cons_unit_of_mem arg14.view f_arg14 _ _ _ _ (ix2 ⟨p.val - 8 * k.val, by omega⟩ ⟨q.val - 384, by omega⟩) e14 ?_).trans ?_
      · intro a
        match a with
        | ⟨0, _⟩ => show p.val = 8 * k.val + (p.val - 8 * k.val); omega
        | ⟨1, _⟩ => show q.val = 384 + (q.val - 384); omega
      · refine (expOut3 arg3 arg8 arg11 arg2 k f_arg3 f_arg8 W s3 _ _).trans ?_
        show expo (level W (p.val - 8 * k.val) (128 * 3 + (q.val - 384))) = _
        rw [show 128 * 3 + (q.val - 384) = q.val by omega]
    · refine (read_writes_cons_unit_of_not_mem arg14.view f_arg14 _ _ _ _ e14 ⟨1, by decide⟩ (Or.inl (by show q.val < 384; omega))).trans ?_
      by_cases hq2 : 256 ≤ q.val
      · refine (read_writes_cons_unit_of_mem arg14.view f_arg14 _ _ _ _ (ix2 ⟨p.val - 8 * k.val, by omega⟩ ⟨q.val - 256, by omega⟩) e12 ?_).trans ?_
        · intro a
          match a with
          | ⟨0, _⟩ => show p.val = 8 * k.val + (p.val - 8 * k.val); omega
          | ⟨1, _⟩ => show q.val = 256 + (q.val - 256); omega
        · refine (expOut2 arg3 arg8 arg11 arg2 k f_arg3 f_arg8 W s2 _ _).trans ?_
          show expo (level W (p.val - 8 * k.val) (128 * 2 + (q.val - 256))) = _
          rw [show 128 * 2 + (q.val - 256) = q.val by omega]
      · refine (read_writes_cons_unit_of_not_mem arg14.view f_arg14 _ _ _ _ e12 ⟨1, by decide⟩ (Or.inl (by show q.val < 256; omega))).trans ?_
        by_cases hq1 : 128 ≤ q.val
        · refine (read_writes_cons_unit_of_mem arg14.view f_arg14 _ _ _ _ (ix2 ⟨p.val - 8 * k.val, by omega⟩ ⟨q.val - 128, by omega⟩) e10 ?_).trans ?_
          · intro a
            match a with
            | ⟨0, _⟩ => show p.val = 8 * k.val + (p.val - 8 * k.val); omega
            | ⟨1, _⟩ => show q.val = 128 + (q.val - 128); omega
          · refine (expOut1 arg3 arg8 arg11 arg2 k f_arg3 f_arg8 W s1 _ _).trans ?_
            show expo (level W (p.val - 8 * k.val) (128 * 1 + (q.val - 128))) = _
            rw [show 128 * 1 + (q.val - 128) = q.val by omega]
        · refine (read_writes_cons_unit_of_not_mem arg14.view f_arg14 _ _ _ _ e10 ⟨1, by decide⟩ (Or.inl (by show q.val < 128; omega))).trans ?_
          by_cases hq0 : 0 ≤ q.val
          · refine (read_writes_cons_unit_of_mem arg14.view f_arg14 _ _ _ _ (ix2 ⟨p.val - 8 * k.val, by omega⟩ ⟨q.val - 0, by omega⟩) e8 ?_).trans ?_
            · intro a
              match a with
              | ⟨0, _⟩ => show p.val = 8 * k.val + (p.val - 8 * k.val); omega
              | ⟨1, _⟩ => show q.val = 0 + (q.val - 0); omega
            · refine (expOut0 arg3 arg8 arg11 arg2 k f_arg3 f_arg8 W s0 _ _).trans ?_
              show expo (level W (p.val - 8 * k.val) (128 * 0 + (q.val - 0))) = _
              rw [show 128 * 0 + (q.val - 0) = q.val by omega]
          · omega
  · rw [if_neg h]
    have hh : p.val < 8 * k.val ∨ 8 * k.val + 8 ≤ p.val := by omega
    refine (read_writes_cons_unit_of_not_mem arg14.view f_arg14 _ _ _ _ e14 ⟨0, by decide⟩ hh).trans ?_
    refine (read_writes_cons_unit_of_not_mem arg14.view f_arg14 _ _ _ _ e12 ⟨0, by decide⟩ hh).trans ?_
    refine (read_writes_cons_unit_of_not_mem arg14.view f_arg14 _ _ _ _ e10 ⟨0, by decide⟩ hh).trans ?_
    exact read_writes_cons_unit_of_not_mem arg14.view f_arg14 _ _ _ _ e8 (0 : Fin 2) (by exact hh)

/-- What one trip leaves of the accumulators. -/
theorem trip_acc (i2 : Fin 7) (hi : (i 2).val = i2.val) (hk : k.val < 16) (a : Fin 7) (j : Fin 16) (q : Fin 512) :
    arg15.view.read (Elt Ideal) (arg15.view.writes (Elt Ideal) f_arg15 (tripV (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 k f_arg3 f_arg8 f_arg9 f_arg10 f_arg15).2.2.1) (ix3 a j q)
      = if a = i2 then arg15.view.read (Elt Ideal) f_arg15 (ix3 a j q)
          + ∑ r : Fin 256, arg9.view.read (Elt Ideal) f_arg9 (ix2 ⟨16 * i2.val + j.val, by omega⟩ ⟨256 * k.val + r.val, by omega⟩)
              * arg3.view.read (Elt Ideal) f_arg3 (ix3 0 ⟨256 * k.val + r.val, by omega⟩ q)
        else arg15.view.read (Elt Ideal) f_arg15 (ix3 a j q) := by
  have e18 := k0_off18_eq i
  have e15 := k0_off15_eq i
  have e5 := k0_off5_eq i k
  have e16 := k0_off16_eq k
  have e19 := k0_off19_eq k
  rw [hi] at e18 e15 e5
  have hT : ∀ (j : Fin 16) (r : Fin 256), tripV.sl.r (F := Ideal) i arg9 k f_arg9 (ix2 j r)
      = arg9.view.read (Elt Ideal) f_arg9 (ix2 ⟨16 * i2.val + j.val, by omega⟩ ⟨256 * k.val + r.val, by omega⟩) := by
    intro j r
    unfold tripV.sl.r
    refine congrArg (arg9.view.read (Elt Ideal) f_arg9) (funext fun a => Fin.ext ?_)
    match a with
    | ⟨0, _⟩ => show k0_off5 i k 0 + 1 * j.val = 16 * i2.val + j.val; rw [e5]; show 16 * i2.val + 1 * j.val = _; omega
    | ⟨1, _⟩ => show k0_off5 i k 1 + 1 * r.val = 256 * k.val + r.val; rw [e5]; show 256 * k.val + 1 * r.val = _; omega
  by_cases h : a = i2
  · rw [if_pos h]
    subst h
    by_cases hq : 256 ≤ q.val
    · refine (read_writes_cons_unit_of_mem arg15.view f_arg15 _ _ _ _ (ix3 0 j ⟨q.val - 256, by omega⟩) e18 ?_).trans ?_
      · intro x
        match x with
        | ⟨0, _⟩ => rfl
        | ⟨1, _⟩ => show j.val = 0 + j.val; omega
        | ⟨2, _⟩ => show q.val = 256 + (q.val - 256); omega
      · pointwise [k0_pay6, tripV.sl.r_78, k0_pay176, tripV.sl.r_79, k0_pay177, tripV.sl.cst_606]
        simp only [hT]
        refine congrArg₂ (· + ·) ?_ (Finset.sum_congr rfl fun r _ => congrArg₂ (· * ·) rfl ?_)
        · refine congrArg (arg15.view.read (Elt Ideal) f_arg15) (funext fun x => Fin.ext ?_)
          match x with
          | ⟨0, _⟩ => show k0_off18 i 0 + 1 * 0 = a.val; rw [e18]; rfl
          | ⟨1, _⟩ => show k0_off18 i 1 + 1 * j.val = j.val; rw [e18]; show 0 + 1 * j.val = _; omega
          | ⟨2, _⟩ => show k0_off18 i 2 + 1 * (q.val - 256) = q.val; rw [e18]; show 256 + 1 * (q.val - 256) = _; omega
        · refine congrArg (arg3.view.read (Elt Ideal) f_arg3) (funext fun x => Fin.ext ?_)
          match x with
          | ⟨0, _⟩ => show k0_off19 k 0 + 1 * 0 = 0; rw [e19]; rfl
          | ⟨1, _⟩ => show k0_off19 k 1 + 1 * r.val = 256 * k.val + r.val; rw [e19]; show 256 * k.val + 1 * r.val = _; omega
          | ⟨2, _⟩ => show k0_off19 k 2 + 1 * (q.val - 256) = q.val; rw [e19]; show 256 + 1 * (q.val - 256) = _; omega
    · refine (read_writes_cons_unit_of_not_mem arg15.view f_arg15 _ _ _ _ e18 ⟨2, by decide⟩ (Or.inl (by show q.val < 256; omega))).trans ?_
      refine (read_writes_cons_unit_of_mem arg15.view f_arg15 _ _ _ _ (ix3 0 j ⟨q.val, by omega⟩) e15 ?_).trans ?_
      · intro x
        match x with
        | ⟨0, _⟩ => rfl
        | ⟨1, _⟩ => show j.val = 0 + j.val; omega
        | ⟨2, _⟩ => show q.val = 0 + q.val; omega
      · pointwise [k0_pay173]
        simp only [hT]
        refine congrArg₂ (· + ·) ?_ (Finset.sum_congr rfl fun r _ => congrArg₂ (· * ·) rfl ?_)
        · refine congrArg (arg15.view.read (Elt Ideal) f_arg15) (funext fun x => Fin.ext ?_)
          match x with
          | ⟨0, _⟩ => show k0_off15 i 0 + 1 * 0 = a.val; rw [e15]; rfl
          | ⟨1, _⟩ => show k0_off15 i 1 + 1 * j.val = j.val; rw [e15]; show 0 + 1 * j.val = _; omega
          | ⟨2, _⟩ => show k0_off15 i 2 + 1 * q.val = q.val; rw [e15]; show 0 + 1 * q.val = _; omega
        · refine congrArg (arg3.view.read (Elt Ideal) f_arg3) (funext fun x => Fin.ext ?_)
          match x with
          | ⟨0, _⟩ => show k0_off16 k 0 + 1 * 0 = 0; rw [e16]; rfl
          | ⟨1, _⟩ => show k0_off16 k 1 + 1 * r.val = 256 * k.val + r.val; rw [e16]; show 256 * k.val + 1 * r.val = _; omega
          | ⟨2, _⟩ => show k0_off16 k 2 + 1 * q.val = q.val; rw [e16]; show 0 + 1 * q.val = _; omega
  · rw [if_neg h]
    have hne : a.val ≠ i2.val := fun e => h (Fin.ext e)
    have hh : a.val < i2.val ∨ i2.val + 1 ≤ a.val := by omega
    refine (read_writes_cons_unit_of_not_mem arg15.view f_arg15 _ _ _ _ e18 ⟨0, by decide⟩ hh).trans ?_
    exact read_writes_cons_unit_of_not_mem arg15.view f_arg15 _ _ _ _ e15 (0 : Fin 3) (by exact hh)

end Cert.KernelIdeal.Hand
-- ==== Proof.GroupVals.lean ====
module

public import proofs.«01_k».proof.Proof.LoopV
public import proofs.«01_k».proof.Proof.TripOut

@[expose] public section

set_option maxRecDepth 8192
set_option maxHeartbeats 400000

noncomputable section

namespace Cert.KernelIdeal.Hand

open Cert.KernelIdeal Cert.KernelIdeal.Gen
open Idealize.ShloMosaic Requant
open Idealize.ShloMosaic.View

/-- The values of a block: row `n` of column `q` of column block `d`, the codes times their own scale. -/
def blockVals (x s : ℕ → ℕ → EReal) (d n q : ℕ) : EReal := x n q * s n (16 * d + q / 32)

/-- What the accumulator gains from rows below `N`: the rows of the transposed table times the codes. -/
def rowSum (x s : ℕ → ℕ → EReal) (d j q N : ℕ) : EReal := ∑ n ∈ Finset.range N, s n (16 * d + j) * x n q

theorem level_shift (V : ℕ → ℕ → EReal) (k b q : ℕ) : level (fun r q => V (256 * k + r) q) b q = level V (8 * k + b) q := by
  unfold level amax aW
  simp only [show ∀ i : ℕ, 256 * k + (32 * b + i) = 32 * (8 * k + b) + i from fun i => by omega]

theorem code_shift (V : ℕ → ℕ → EReal) (k r q : ℕ) : code (fun r q => V (256 * k + r) q) r q = code V (256 * k + r) q := by
  unfold code
  rw [level_shift, show (256 * k + r) / 32 = 8 * k + r / 32 by omega]

theorem rowSum_step (x s : ℕ → ℕ → EReal) (d j q k : ℕ) :
    rowSum x s d j q (256 * (k + 1)) = rowSum x s d j q (256 * k) + ∑ r : Fin 256, s (256 * k + r.val) (16 * d + j) * x (256 * k + r.val) q := by
  unfold rowSum
  rw [show 256 * (k + 1) = 256 * k + 256 by omega, Finset.sum_range_add, Finset.sum_range (n := 256)]

variable (c : Dev nD) (i : grid0.Coords) (arg3 : Memref sig .tc .vmem S1x4096x512 .fp8e4m3) (harg3 : arg3.IsWhole) (arg4 : Memref sig .tc .vmem S1x4096x112 .i8) (harg4 : arg4.IsWhole) (arg5 : Memref sig .tc .vmem S1x512x4096 .fp8e4m3) (harg5 : arg5.IsWhole) (arg6 : Memref sig .tc .vmem S1x512x128 .i8) (harg6 : arg6.IsWhole) (arg7 : Memref sig .tc .vmem S1x3584 .f32) (harg7 : arg7.IsWhole) (arg8 : Memref sig .tc .vmem S4096x128 .bf16) (harg8 : arg8.IsWhole) (arg9 : Memref sig .tc .vmem S128x4096 .bf16) (harg9 : arg9.IsWhole) (arg10 : Memref sig .tc .vmem S256x256 .fp8e4m3) (harg10 : arg10.IsWhole) (arg11 : Memref sig .tc .vmem S4x72x2x128 .bf16) (harg11 : arg11.IsWhole) (arg12 : Memref sig .tc .vmem S4x8x128 .i32) (harg12 : arg12.IsWhole) (arg13 : Memref sig .tc .vmem S256x512 .fp8e4m3) (harg13 : arg13.IsWhole) (arg14 : Memref sig .tc .vmem S128x512 .i32) (harg14 : arg14.IsWhole) (arg15 : Memref sig .tc .vmem S7x16x512 .f32) (harg15 : arg15.IsWhole)
   (f_arg3 : BufTy.Contents (Elt Ideal) arg3.view.ty) (f_arg8 : BufTy.Contents (Elt Ideal) arg8.view.ty) (f_arg9 : BufTy.Contents (Elt Ideal) arg9.view.ty) (f_arg10 : BufTy.Contents (Elt Ideal) arg10.view.ty) (G_arg15 : BufTy.Contents (Elt Ideal) arg15.view.ty)

/-- The four column chunks' values at a row and a column. -/
theorem chunk_vals (d : Fin 7) (hi : (i 2).val = d.val) (x s : ℕ → ℕ → EReal)
    (hx : ∀ (n : Fin 4096) (q : Fin 512), arg3.view.read (Elt Ideal) f_arg3 (ix3 0 n q) = x n.val q.val)
    (h8 : ∀ (n : Fin 4096) (g : Fin 128), g.val < 112 → arg8.view.read (Elt Ideal) f_arg8 (ix2 n g) = s n.val g.val)
    (k : Fin k0_t2_loop.trips) :
    (∀ (r : Fin 256) (l : Fin 128), tripV.sl.r_2 (F := Ideal) arg3 arg8 (BitVec.ofNat 32 (i 2).val) k f_arg3 f_arg8 (ix2 r l) = (fun r q => blockVals x s d.val (256 * k.val + r) q) r.val (128 * 0 + l.val)) ∧
    (∀ (r : Fin 256) (l : Fin 128), tripV.sl.r_21 (F := Ideal) arg3 arg8 (BitVec.ofNat 32 (i 2).val) k f_arg3 f_arg8 (ix2 r l) = (fun r q => blockVals x s d.val (256 * k.val + r) q) r.val (128 * 1 + l.val)) ∧
    (∀ (r : Fin 256) (l : Fin 128), tripV.sl.r_43 (F := Ideal) arg3 arg8 (BitVec.ofNat 32 (i 2).val) k f_arg3 f_arg8 (ix2 r l) = (fun r q => blockVals x s d.val (256 * k.val + r) q) r.val (128 * 2 + l.val)) ∧
    (∀ (r : Fin 256) (l : Fin 128), tripV.sl.r_58 (F := Ideal) arg3 arg8 (BitVec.ofNat 32 (i 2).val) k f_arg3 f_arg8 (ix2 r l) = (fun r q => blockVals x s d.val (256 * k.val + r) q) r.val (128 * 3 + l.val)) := by
  have hk : k.val < 16 := Nat.lt_of_lt_of_le k.isLt k0_t2_abs.2.1
  have ha : BitVec.ofNat 32 (i 2).val = BitVec.ofNat 32 d.val := by rw [hi]
  refine ⟨?_, ?_, ?_, ?_⟩ <;> intro r l
  · rw [val0 arg3 arg8 _ k f_arg3 f_arg8 d ha r l (by omega), hx, h8 _ _ (by show 16 * d.val + 0 + l.val / 32 < 112; omega)]
    show x (256 * k.val + r.val) (128 * 0 + l.val) * s (256 * k.val + r.val) (16 * d.val + 0 + l.val / 32) = x (256 * k.val + r.val) (128 * 0 + l.val) * s (256 * k.val + r.val) (16 * d.val + (128 * 0 + l.val) / 32)
    rw [show 16 * d.val + 0 + l.val / 32 = 16 * d.val + (128 * 0 + l.val) / 32 by omega]
  · rw [val1 arg3 arg8 _ k f_arg3 f_arg8 d ha r l (by omega), hx, h8 _ _ (by show 16 * d.val + 4 + l.val / 32 < 112; omega)]
    show x (256 * k.val + r.val) (128 * 1 + l.val) * s (256 * k.val + r.val) (16 * d.val + 4 + l.val / 32) = x (256 * k.val + r.val) (128 * 1 + l.val) * s (256 * k.val + r.val) (16 * d.val + (128 * 1 + l.val) / 32)
    rw [show 16 * d.val + 4 + l.val / 32 = 16 * d.val + (128 * 1 + l.val) / 32 by omega]
  · rw [val2 arg3 arg8 _ k f_arg3 f_arg8 d ha r l (by omega), hx, h8 _ _ (by show 16 * d.val + 8 + l.val / 32 < 112; omega)]
    show x (256 * k.val + r.val) (128 * 2 + l.val) * s (256 * k.val + r.val) (16 * d.val + 8 + l.val / 32) = x (256 * k.val + r.val) (128 * 2 + l.val) * s (256 * k.val + r.val) (16 * d.val + (128 * 2 + l.val) / 32)
    rw [show 16 * d.val + 8 + l.val / 32 = 16 * d.val + (128 * 2 + l.val) / 32 by omega]
  · rw [val3 arg3 arg8 _ k f_arg3 f_arg8 d ha r l (by omega), hx, h8 _ _ (by show 16 * d.val + 12 + l.val / 32 < 112; omega)]
    show x (256 * k.val + r.val) (128 * 3 + l.val) * s (256 * k.val + r.val) (16 * d.val + 12 + l.val / 32) = x (256 * k.val + r.val) (128 * 3 + l.val) * s (256 * k.val + r.val) (16 * d.val + (128 * 3 + l.val) / 32)
    rw [show 16 * d.val + 12 + l.val / 32 = 16 * d.val + (128 * 3 + l.val) / 32 by omega]

/-- What the groups before `k` leave in the codes' block. -/
theorem groups_codes (d : Fin 7) (hi : (i 2).val = d.val) (x s : ℕ → ℕ → EReal)
    (hx : ∀ (n : Fin 4096) (q : Fin 512), arg3.view.read (Elt Ideal) f_arg3 (ix3 0 n q) = x n.val q.val)
    (h8 : ∀ (n : Fin 4096) (g : Fin 128), g.val < 112 → arg8.view.read (Elt Ideal) f_arg8 (ix2 n g) = s n.val g.val)
    (h9 : ∀ (g : Fin 128) (n : Fin 4096), g.val < 112 → arg9.view.read (Elt Ideal) f_arg9 (ix2 g n) = s n.val g.val)
    (he : ∀ a b : Fin 256, arg10.view.read (Elt Ideal) f_arg10 (ix2 a b) = if a = b then (1 : EReal) else 0)
    (f_arg5 : BufTy.Contents (Elt Ideal) arg5.view.ty) (q : Fin 512) (n : Fin 4096) :
    ∀ k : ℕ, k ≤ 16 → arg5.view.read (Elt Ideal) (arg5.view.writes (Elt Ideal) f_arg5 (groups (F := Ideal) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) f_arg3 f_arg8 f_arg9 f_arg10 G_arg15 k).1) (ix3 0 q n)
      = if n.val < 256 * k then code (blockVals x s d.val) n.val q.val else arg5.view.read (Elt Ideal) f_arg5 (ix3 0 q n)
  | 0, _ => by rw [if_neg (by omega)]; rfl
  | k + 1, h => by
    have hkt : k < k0_t2_loop.trips := Nat.lt_of_lt_of_le (by omega) (show 16 ≤ k0_t2_loop.trips by decide)
    obtain ⟨c0, c1, c2, c3⟩ := chunk_vals i arg3 arg8 f_arg3 f_arg8 d hi x s hx h8 ⟨k, hkt⟩
    have ih := groups_codes d hi x s hx h8 h9 he f_arg5 q n k (by omega)
    rw [groups_succ (F := Ideal) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) f_arg3 f_arg8 f_arg9 f_arg10 G_arg15 ⟨k, hkt⟩, View.writes_append]
    refine (trip_codes Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) ⟨k, hkt⟩ f_arg3 f_arg8 f_arg9 f_arg10 _ (fun r q => blockVals x s d.val (256 * k + r) q) c0 c1 c2 c3 he _ q n).trans ?_
    rw [ih]
    by_cases h1 : 256 * k ≤ n.val ∧ n.val < 256 * k + 256
    · rw [if_pos h1, if_pos (by omega), code_shift]
      show code _ (256 * k + (n.val - 256 * k)) _ = _
      rw [show 256 * k + (n.val - 256 * k) = n.val by omega]
    · rw [if_neg h1]
      by_cases h2 : n.val < 256 * k
      · rw [if_pos h2, if_pos (by omega)]
      · rw [if_neg h2, if_neg (by omega)]

/-- What the groups before `k` leave in the exponents' buffer. -/
theorem groups_exps (d : Fin 7) (hi : (i 2).val = d.val) (x s : ℕ → ℕ → EReal)
    (hx : ∀ (n : Fin 4096) (q : Fin 512), arg3.view.read (Elt Ideal) f_arg3 (ix3 0 n q) = x n.val q.val)
    (h8 : ∀ (n : Fin 4096) (g : Fin 128), g.val < 112 → arg8.view.read (Elt Ideal) f_arg8 (ix2 n g) = s n.val g.val)
    (f_arg14 : BufTy.Contents (Elt Ideal) arg14.view.ty) (p : Fin 128) (q : Fin 512) :
    ∀ k : ℕ, k ≤ 16 → arg14.view.read (Elt Ideal) (arg14.view.writes (Elt Ideal) f_arg14 (groups (F := Ideal) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) f_arg3 f_arg8 f_arg9 f_arg10 G_arg15 k).2.1) (ix2 p q)
      = if p.val < 8 * k then expo (level (blockVals x s d.val) p.val q.val) else arg14.view.read (Elt Ideal) f_arg14 (ix2 p q)
  | 0, _ => by rw [if_neg (by omega)]; rfl
  | k + 1, h => by
    have hkt : k < k0_t2_loop.trips := Nat.lt_of_lt_of_le (by omega) (show 16 ≤ k0_t2_loop.trips by decide)
    obtain ⟨c0, c1, c2, c3⟩ := chunk_vals i arg3 arg8 f_arg3 f_arg8 d hi x s hx h8 ⟨k, hkt⟩
    have ih := groups_exps d hi x s hx h8 f_arg14 p q k (by omega)
    rw [groups_succ (F := Ideal) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) f_arg3 f_arg8 f_arg9 f_arg10 G_arg15 ⟨k, hkt⟩, View.writes_append]
    refine (trip_exps Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) ⟨k, hkt⟩ f_arg3 f_arg8 f_arg9 f_arg10 _ (fun r q => blockVals x s d.val (256 * k + r) q) c0 c1 c2 c3 _ p q).trans ?_
    rw [ih]
    by_cases h1 : 8 * k ≤ p.val ∧ p.val < 8 * k + 8
    · rw [if_pos h1, if_pos (by omega), level_shift]
      show expo (level _ (8 * k + (p.val - 8 * k)) _) = _
      rw [show 8 * k + (p.val - 8 * k) = p.val by omega]
    · rw [if_neg h1]
      by_cases h2 : p.val < 8 * k
      · rw [if_pos h2, if_pos (by omega)]
      · rw [if_neg h2, if_neg (by omega)]

/-- What the groups before `k` leave in the accumulator: in plane `d` the rows' sum added, the other planes as they were. -/
theorem groups_acc (d : Fin 7) (hi : (i 2).val = d.val) (x s : ℕ → ℕ → EReal)
    (hx : ∀ (n : Fin 4096) (q : Fin 512), arg3.view.read (Elt Ideal) f_arg3 (ix3 0 n q) = x n.val q.val)
    (h9 : ∀ (g : Fin 128) (n : Fin 4096), g.val < 112 → arg9.view.read (Elt Ideal) f_arg9 (ix2 g n) = s n.val g.val)
    (a : Fin 7) (j : Fin 16) (q : Fin 512) :
    ∀ k : ℕ, k ≤ 16 → arg15.view.read (Elt Ideal) (arg15.view.writes (Elt Ideal) G_arg15 (groups (F := Ideal) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) f_arg3 f_arg8 f_arg9 f_arg10 G_arg15 k).2.2) (ix3 a j q)
      = if a = d then arg15.view.read (Elt Ideal) G_arg15 (ix3 a j q) + rowSum x s d.val j.val q.val (256 * k)
        else arg15.view.read (Elt Ideal) G_arg15 (ix3 a j q)
  | 0, _ => by
    have h0 : rowSum x s d.val j.val q.val (256 * 0) = 0 := by unfold rowSum; rfl
    rw [h0, add_zero, ite_self]; rfl
  | k + 1, h => by
    have hkt : k < k0_t2_loop.trips := Nat.lt_of_lt_of_le (by omega) (show 16 ≤ k0_t2_loop.trips by decide)
    have ih := groups_acc d hi x s hx h9 a j q k (by omega)
    rw [groups_succ (F := Ideal) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) f_arg3 f_arg8 f_arg9 f_arg10 G_arg15 ⟨k, hkt⟩, View.writes_append]
    refine (trip_acc Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) ⟨k, hkt⟩ f_arg3 f_arg8 f_arg9 f_arg10 _ d hi (by show k < 16; omega) a j q).trans ?_
    rw [ih]
    by_cases ha : a = d
    · rw [if_pos ha, if_pos ha, if_pos ha, rowSum_step, ← add_assoc]
      congr 1
      refine Finset.sum_congr rfl fun r _ => ?_
      rw [hx, h9 _ _ (by show 16 * d.val + j.val < 112; omega)]
    · rw [if_neg ha, if_neg ha, if_neg ha]

end Cert.KernelIdeal.Hand
end
-- ==== Proof.BodyPays.lean ====
module

public import proofs.«01_k».proof.Proof.GroupVals

@[expose] public section

set_option maxRecDepth 8192
set_option maxHeartbeats 400000

noncomputable section

namespace Cert.KernelIdeal.Hand

open Cert.KernelIdeal Cert.KernelIdeal.Gen
open Idealize.ShloMosaic Requant
open Idealize.ShloMosaic.View

/-- Comparing two small numbers' words. -/
theorem cmp_ofNat (a b : ℕ) (ha : a < 4294967296) (hb : b < 4294967296) :
    IntOp.cmpi .eq (BitVec.ofNat 32 a) (BitVec.ofNat 32 b) = BitVec.ofBool (decide (a = b)) := by
  show BitVec.ofBool (BitVec.ofNat 32 a == BitVec.ofNat 32 b) = _
  congr 1
  by_cases hab : a = b
  · subst hab; simp
  · have : BitVec.ofNat 32 a ≠ BitVec.ofNat 32 b := fun he => hab (by
      have := congrArg BitVec.toNat he
      simp only [BitVec.toNat_ofNat] at this
      omega)
    simp [hab, this]

/-- The identity matrix stored at the first grid point. -/
theorem eye_apply (a b : Fin 256) : (k0_pay1 (F := Ideal) : S256x256.Idx → EReal) (ix2 a b) = if a = b then 1 else 0 := by
  pointwise [k0_pay1]
  rw [cmp_ofNat _ _ (by omega) (by omega), sel_ofBool]
  simp only [Fin.ext_iff]

/-- The zeros a plane of the accumulator starts from. -/
theorem zero_apply (j : Fin 16) (q : Fin 512) : (k0_pay2 (F := Ideal) : S1x16x512.Idx → EReal) (ix3 0 j q) = 0 := by
  pointwise [k0_pay2]

/-- The table's rows from the stored scales. -/
theorem table_apply (v : IVec S1x256x112 8) (r : Fin 256) (g : Fin 128) (hg : g.val < 112) :
    (k0_pay4 (F := Ideal) v : S256x128.Idx → EReal) (ix2 r g) = th (v (ix3 0 r ⟨g.val, hg⟩)).toNat := by
  pointwise [k0_pay4, k0_pay3]
  rw [dif_pos hg]
  exact ofBits_scale _

/-- The transposed table's columns from the stored scales. -/
theorem tableT_apply (v : IVec S1x256x112 8) (r : Fin 256) (g : Fin 128) (hg : g.val < 112) :
    (k0_pay5 (F := Ideal) v : S128x256.Idx → EReal) (ix2 g r) = th (v (ix3 0 r ⟨g.val, hg⟩)).toNat := by
  pointwise [k0_pay5, k0_pay3]
  rw [dif_pos hg]
  exact ofBits_scale _

/-- The scales stored are the exponents' low eight bits, transposed. -/
theorem scale_apply (v : IVec S128x512 32) (q : Fin 512) (m : Fin 128) :
    k0_pay8 (F := Ideal) v (ix3 0 q m) = (v (ix2 m q)).setWidth 8 := by
  pointwise [k0_pay8]

/-- The column sums stored are the accumulator's row of the column's own scale. -/
theorem diag_apply (v : S1x16x512.Idx → EReal) (q : Fin 512) :
    (k0_pay9 (F := Ideal) v : S1x512.Idx → EReal) (ix2 0 q) = v (ix3 0 ⟨q.val / 32, by omega⟩ q) := by
  have hq : ∀ q : Fin 512, (Scalar.select
            (IntOp.andi
              (IntOp.cmpi CmpIPredicate.ne
                (IntOp.subi (BitVec.setWidth 32 (IntOp.cmpi CmpIPredicate.sgt (BitVec.ofNat 32 q.val) 0#32))
                  (BitVec.setWidth 32 (IntOp.cmpi CmpIPredicate.slt (BitVec.ofNat 32 q.val) 0#32)))
                (Scalar.subi (Scalar.extui (Scalar.cmpi CmpIPredicate.sgt 32#32 0#32))
                  (Scalar.extui (Scalar.cmpi CmpIPredicate.slt 32#32 0#32))))
              (IntOp.cmpi CmpIPredicate.ne (IntOp.remsi ArithUnit.vector (BitVec.ofNat 32 q.val) 32#32) 0#32))
            (IntOp.subi (IntOp.divsi ArithUnit.vector (BitVec.ofNat 32 q.val) 32#32) 1#32)
            (IntOp.divsi ArithUnit.vector (BitVec.ofNat 32 q.val) 32#32)) = BitVec.ofNat 32 (q.val / 32) := by
    decide +kernel
  pointwise [k0_pay9, hq]
  have hs : ∀ x : Fin 16, Scalar.select (IntOp.cmpi CmpIPredicate.eq (BitVec.ofNat 32 x.val) (BitVec.ofNat 32 (q.val / 32))) (v (ix3 0 x q)) 0
      = if x = ⟨q.val / 32, by omega⟩ then v (ix3 0 x q) else 0 := by
    intro x
    rw [cmp_ofNat _ _ (by omega) (by omega), sel_ofBool]
    simp only [Fin.ext_iff]
  simp only [hs, Finset.sum_ite_eq', Finset.mem_univ, if_true]

end Cert.KernelIdeal.Hand
end
-- ==== Proof.TableVals.lean ====
module

public import proofs.«01_k».proof.Proof.BodyPays

@[expose] public section

set_option maxRecDepth 8192
set_option maxHeartbeats 400000

noncomputable section

namespace Cert.KernelIdeal.Hand

open Cert.KernelIdeal Cert.KernelIdeal.Gen
open Idealize.ShloMosaic Requant
open Idealize.ShloMosaic.View

variable (c : Dev nD) (i : grid0.Coords) (arg3 : Memref sig .tc .vmem S1x4096x512 .fp8e4m3) (harg3 : arg3.IsWhole) (arg4 : Memref sig .tc .vmem S1x4096x112 .i8) (harg4 : arg4.IsWhole) (arg5 : Memref sig .tc .vmem S1x512x4096 .fp8e4m3) (harg5 : arg5.IsWhole) (arg6 : Memref sig .tc .vmem S1x512x128 .i8) (harg6 : arg6.IsWhole) (arg7 : Memref sig .tc .vmem S1x3584 .f32) (harg7 : arg7.IsWhole) (arg8 : Memref sig .tc .vmem S4096x128 .bf16) (harg8 : arg8.IsWhole) (arg9 : Memref sig .tc .vmem S128x4096 .bf16) (harg9 : arg9.IsWhole) (arg10 : Memref sig .tc .vmem S256x256 .fp8e4m3) (harg10 : arg10.IsWhole) (arg11 : Memref sig .tc .vmem S4x72x2x128 .bf16) (harg11 : arg11.IsWhole) (arg12 : Memref sig .tc .vmem S4x8x128 .i32) (harg12 : arg12.IsWhole) (arg13 : Memref sig .tc .vmem S256x512 .fp8e4m3) (harg13 : arg13.IsWhole) (arg14 : Memref sig .tc .vmem S128x512 .i32) (harg14 : arg14.IsWhole) (arg15 : Memref sig .tc .vmem S7x16x512 .f32) (harg15 : arg15.IsWhole) (k0_h3 : k0_cond3 i = 1#1) (X_arg4 : BufTy.Contents (Elt Ideal) arg4.view.ty)

/-- The stored scales a trip loads. -/
theorem scales_read (k : Fin k0_t1_loop.trips) (inb : ∀ a, k0_off2 k a + S1x256x112.size a ≤ S1x4096x112.size a) (r : Fin 256) (g : Fin 112) (h1 : 256 * k.val + r.val < 4096) :
    View.readAt (Elt Ideal) arg4.view (Rect.unit (s := S1x4096x112) (k0_off2 k) S1x256x112.size inb).toLoadRect X_arg4 (ix3 0 r g)
      = arg4.view.read (Elt Ideal) X_arg4 (ix3 0 ⟨256 * k.val + r.val, h1⟩ g) := by
  have h := k0_off2_eq k
  refine congrArg (arg4.view.read (Elt Ideal) X_arg4) (funext fun a => Fin.ext ?_)
  match a with
  | ⟨0, _⟩ => show k0_off2 k 0 + 1 * 0 = 0; rw [h]; rfl
  | ⟨1, _⟩ => show k0_off2 k 1 + 1 * r.val = 256 * k.val + r.val; rw [h]; show 256 * k.val + 1 * r.val = 256 * k.val + r.val; omega
  | ⟨2, _⟩ => show k0_off2 k 2 + 1 * g.val = g.val; rw [h]; show 0 + 1 * g.val = g.val; omega

/-- What the trips before `k` leave in the table: the multipliers of the rows below `256 k`. -/
theorem table_vals (s : ℕ → ℕ → EReal)
    (hs : ∀ (n : Fin 4096) (g : Fin 112), th (arg4.view.read (Elt Ideal) X_arg4 (ix3 0 n g) : BitVec 8).toNat = s n.val g.val)
    (G : BufTy.Contents (Elt Ideal) arg8.view.ty) (n : Fin 4096) (g : Fin 128) (hg : g.val < 112) :
    ∀ k : ℕ, k ≤ 16 → arg8.view.read (Elt Ideal) (arg8.view.writes (Elt Ideal) G (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 k0_h3 X_arg4 k).1) (ix2 n g)
      = if n.val < 256 * k then s n.val g.val else arg8.view.read (Elt Ideal) G (ix2 n g)
  | 0, _ => by rw [if_neg (by omega)]; rfl
  | k + 1, h => by
    have hkt : k < k0_t1_loop.trips := Nat.lt_of_lt_of_le (by omega) (show 16 ≤ k0_t1_loop.trips by decide)
    have ih := table_vals s hs G n g hg k (by omega)
    have e := k0_off3_eq (⟨k, hkt⟩ : Fin k0_t1_loop.trips)
    rw [pb_k0_t1_succ (F := Ideal) Variants.none c none i arg3 harg3 arg4 harg4 arg5 harg5 arg6 harg6 arg7 harg7 arg8 harg8 arg9 harg9 arg10 harg10 arg11 harg11 arg12 harg12 arg13 harg13 arg14 harg14 arg15 harg15 k0_h3 X_arg4 ⟨k, hkt⟩, View.writes_append]
    unfold tripL_k0_t1 trip_k0_t1
    by_cases h1 : 256 * k ≤ n.val ∧ n.val < 256 * k + 256
    · rw [if_pos (by omega)]
      refine (read_writes_cons_unit_of_mem _ _ _ _ [] (ix2 n g) (ix2 ⟨n.val - 256 * k, by omega⟩ g) e (fun a => ?_)).trans ?_
      · match a with
        | ⟨0, _⟩ => show n.val = 256 * k + (n.val - 256 * k); omega
        | ⟨1, _⟩ => show g.val = 0 + g.val; omega
      · rw [table_apply _ _ _ hg]
        rw [scales_read arg4 X_arg4 ⟨k, hkt⟩ _ _ _ (by show 256 * k + (n.val - 256 * k) < 4096; omega), hs]
        show s (256 * k + (n.val - 256 * k)) g.val = _
        rw [show 256 * k + (n.val - 256 * k) = n.val by omega]
    · refine (read_writes_cons_unit_of_not_mem _ _ _ _ [] (ix2 n g) e (0 : Fin 2) (by show n.val < 256 * k ∨ 256 * k + 256 ≤ n.val; omega)).trans ?_
      refine Eq.trans ?_ (ih.trans ?_)
      · rfl
      · by_cases h2 : n.val < 256 * k
        · rw [if_pos h2, if_pos (by omega)]
        · rw [if_neg h2, if_neg (by omega)]

/-- What the trips before `k` leave in the transposed table. -/
theorem tableT_vals (s : ℕ → ℕ → EReal)
    (hs : ∀ (n : Fin 4096) (g : Fin 112), th (arg4.view.read (Elt Ideal) X_arg4 (ix3 0 n g) : BitVec 8).toNat = s n.val g.val)
    (G : BufTy.Contents (Elt Ideal) arg9.view.ty) (n : Fin 4096) (g : Fin 128) (hg : g.val < 112) :
    ∀ k : ℕ, k ≤ 16 → arg9.view.read (Elt Ideal) (arg9.view.writes (Elt Ideal) G (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 k0_h3 X_arg4 k).2) (ix2 g n)
      = if n.val < 256 * k then s n.val g.val else arg9.view.read (Elt Ideal) G (ix2 g n)
  | 0, _ => by rw [if_neg (by omega)]; rfl
  | k + 1, h => by
    have hkt : k < k0_t1_loop.trips := Nat.lt_of_lt_of_le (by omega) (show 16 ≤ k0_t1_loop.trips by decide)
    have ih := tableT_vals s hs G n g hg k (by omega)
    have e := k0_off4_eq (⟨k, hkt⟩ : Fin k0_t1_loop.trips)
    rw [pb_k0_t1_succ (F := Ideal) Variants.none c none i arg3 harg3 arg4 harg4 arg5 harg5 arg6 harg6 arg7 harg7 arg8 harg8 arg9 harg9 arg10 harg10 arg11 harg11 arg12 harg12 arg13 harg13 arg14 harg14 arg15 harg15 k0_h3 X_arg4 ⟨k, hkt⟩, View.writes_append]
    unfold tripL_k0_t1 trip_k0_t1
    by_cases h1 : 256 * k ≤ n.val ∧ n.val < 256 * k + 256
    · rw [if_pos (by omega)]
      refine (read_writes_cons_unit_of_mem _ _ _ _ [] (ix2 g n) (ix2 g ⟨n.val - 256 * k, by omega⟩) e (fun a => ?_)).trans ?_
      · match a with
        | ⟨0, _⟩ => show g.val = 0 + g.val; omega
        | ⟨1, _⟩ => show n.val = 256 * k + (n.val - 256 * k); omega
      · rw [tableT_apply _ _ _ hg]
        rw [scales_read arg4 X_arg4 ⟨k, hkt⟩ _ _ _ (by show 256 * k + (n.val - 256 * k) < 4096; omega), hs]
        show s (256 * k + (n.val - 256 * k)) g.val = _
        rw [show 256 * k + (n.val - 256 * k) = n.val by omega]
    · refine (read_writes_cons_unit_of_not_mem _ _ _ _ [] (ix2 g n) e (1 : Fin 2) (by show n.val < 256 * k ∨ 256 * k + 256 ≤ n.val; omega)).trans ?_
      refine Eq.trans ?_ (ih.trans ?_)
      · rfl
      · by_cases h2 : n.val < 256 * k
        · rw [if_pos h2, if_pos (by omega)]
        · rw [if_neg h2, if_neg (by omega)]

end Cert.KernelIdeal.Hand
end
-- ==== Proof.BodyMem.lean ====
module

public import proofs.«01_k».proof.Proof.TableVals

@[expose] public section

set_option maxRecDepth 8192
set_option maxHeartbeats 400000

noncomputable section

namespace Cert.KernelIdeal.Hand

open Cert.KernelIdeal Cert.KernelIdeal.Gen
open Idealize.ShloMosaic Requant
open Idealize.ShloMosaic.View

/-- The first grid point. -/
theorem cond1_iff (i : grid0.Coords) :
    Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32)) : BitVec 32) 0#32 = 1#1
      ↔ (i 0).val = 0 ∧ (i 1).val = 0 ∧ (i 2).val = 0 := by
  revert i; decide +kernel

/-- The first batch and row block. -/
theorem cond2_iff (i : grid0.Coords) : k0_cond2 i = 1#1 ↔ (i 0).val = 0 ∧ (i 1).val = 0 := by
  revert i; decide +kernel

/-- The first column block. -/
theorem cond3_iff (i : grid0.Coords) : k0_cond3 i = 1#1 ↔ (i 2).val = 0 := by
  revert i; decide +kernel

/-- The last batch and row block. -/
theorem cond4_iff (i : grid0.Coords) : k0_cond4 i = 1#1 ↔ (i 0).val = 3 ∧ (i 1).val = 1 := by
  revert i; decide +kernel

/-- The identity buffer after the first conditional. -/
theorem eye_after (arg10 : Memref sig .tc .vmem S256x256 .fp8e4m3) (f : BufTy.Contents (Elt Ideal) arg10.view.ty) (p : Prop) [Decidable p]
    (inb : ∀ a, ![0, 0] a + S256x256.size a ≤ S256x256.size a)
    (h : p ∨ ∀ a b : Fin 256, arg10.view.read (Elt Ideal) f (ix2 a b) = if a = b then (1 : EReal) else 0) (a b : Fin 256) :
    arg10.view.read (Elt Ideal) (if hc : p then arg10.view.writes (Elt Ideal) f [⟨Rect.unit (s := S256x256) ![0, 0] S256x256.size inb, k0_pay1 (F := Ideal)⟩] else f) (ix2 a b)
      = if a = b then (1 : EReal) else 0 := by
  by_cases hp : p
  · rw [dif_pos hp]
    refine (read_writes_cons_unit_of_mem _ _ _ _ [] (ix2 a b) (ix2 a b) rfl (fun x => ?_)).trans (eye_apply a b)
    match x with
    | ⟨0, _⟩ => show a.val = 0 + a.val; omega
    | ⟨1, _⟩ => show b.val = 0 + b.val; omega
  · rw [dif_neg hp]
    exact h.resolve_left hp a b

/-- The accumulator after the second conditional. -/
theorem acc_in (i : grid0.Coords) (d : Fin 7) (hi : (i 2).val = d.val) (arg15 : Memref sig .tc .vmem S7x16x512 .f32) (f : BufTy.Contents (Elt Ideal) arg15.view.ty)
    (inb : k0_cond2 i = 1#1 → ∀ a, k0_off1 i a + S1x16x512.size a ≤ S7x16x512.size a) (a : Fin 7) (j : Fin 16) (q : Fin 512) :
    arg15.view.read (Elt Ideal) (if hc : k0_cond2 i = 1#1 then arg15.view.writes (Elt Ideal) f [⟨Rect.unit (s := S7x16x512) (k0_off1 i) S1x16x512.size (inb hc), k0_pay2 (F := Ideal)⟩] else f) (ix3 a j q)
      = if a = d then (if (i 0).val = 0 ∧ (i 1).val = 0 then 0 else arg15.view.read (Elt Ideal) f (ix3 a j q)) else arg15.view.read (Elt Ideal) f (ix3 a j q) := by
  have e := k0_off1_eq i
  rw [hi] at e
  by_cases hp : k0_cond2 i = 1#1
  · rw [dif_pos hp, if_pos ((cond2_iff i).1 hp)]
    by_cases ha : a = d
    · rw [if_pos ha]
      refine (read_writes_cons_unit_of_mem _ _ _ _ [] (ix3 a j q) (ix3 0 j q) e (fun x => ?_)).trans (zero_apply j q)
      match x with
      | ⟨0, _⟩ => show a.val = d.val + 0; rw [ha]; rfl
      | ⟨1, _⟩ => show j.val = 0 + j.val; omega
      | ⟨2, _⟩ => show q.val = 0 + q.val; omega
    · rw [if_neg ha]
      have hv : a.val ≠ d.val := fun h => ha (Fin.ext h)
      exact read_writes_cons_unit_of_not_mem _ _ _ _ [] (ix3 a j q) e (0 : Fin 3) (by show a.val < d.val ∨ d.val + 1 ≤ a.val; omega)
  · rw [dif_neg hp, if_neg (fun h => hp ((cond2_iff i).2 h)), ite_self]

/-- The scales' block: the exponents' low bytes, transposed. -/
theorem scale_out (arg6 : Memref sig .tc .vmem S1x512x128 .i8) (f6 : BufTy.Contents (Elt Ideal) arg6.view.ty) (arg14 : Memref sig .tc .vmem S128x512 .i32) (f14 : BufTy.Contents (Elt Ideal) arg14.view.ty)
    (inb : ∀ a, ![0, 0, 0] a + S1x512x128.size a ≤ S1x512x128.size a) (inb' : ∀ a, ![0, 0] a + S128x512.size a ≤ S128x512.size a)
    (q : Fin 512) (m : Fin 128) :
    arg6.view.read (Elt Ideal) (arg6.view.writes (Elt Ideal) f6 [⟨Rect.unit (s := S1x512x128) ![0, 0, 0] S1x512x128.size inb,
        k0_pay8 (F := Ideal) (View.readAt (Elt Ideal) arg14.view (Rect.unit (s := S128x512) ![0, 0] S128x512.size inb').toLoadRect f14)⟩]) (ix3 0 q m)
      = BitVec.setWidth 8 (arg14.view.read (Elt Ideal) f14 (ix2 m q) : BitVec 32) := by
  refine (read_writes_cons_unit_of_mem _ _ _ _ [] (ix3 0 q m) (ix3 0 q m) rfl (fun x => ?_)).trans ?_
  · match x with
    | ⟨0, _⟩ => rfl
    | ⟨1, _⟩ => show q.val = 0 + q.val; omega
    | ⟨2, _⟩ => show m.val = 0 + m.val; omega
  · exact (scale_apply _ q m).trans (congrArg (BitVec.setWidth 8) (congrFun (View.readAt_full arg14.view f14 inb') (ix2 m q)))

/-- The column sums' block after the last conditional. -/
theorem dbias_out (i : grid0.Coords) (d : Fin 7) (hi : (i 2).val = d.val) (arg7 : Memref sig .tc .vmem S1x3584 .f32) (f7 : BufTy.Contents (Elt Ideal) arg7.view.ty)
    (arg15 : Memref sig .tc .vmem S7x16x512 .f32) (f15 : BufTy.Contents (Elt Ideal) arg15.view.ty)
    (inb : ∀ a, k0_off22 i a + S1x512.size a ≤ S1x3584.size a) (inb' : ∀ a, k0_off21 i a + S1x16x512.size a ≤ S7x16x512.size a) (p : Fin 3584) :
    arg7.view.read (Elt Ideal) (arg7.view.writes (Elt Ideal) f7 [⟨Rect.unit (s := S1x3584) (k0_off22 i) S1x512.size inb,
        k0_pay9 (F := Ideal) (View.readAt (Elt Ideal) arg15.view (Rect.unit (s := S7x16x512) (k0_off21 i) S1x16x512.size inb').toLoadRect f15)⟩]) (ix2 0 p)
      = if p.val / 512 = d.val then arg15.view.read (Elt Ideal) f15 (ix3 d ⟨p.val % 512 / 32, by omega⟩ ⟨p.val % 512, by omega⟩) else arg7.view.read (Elt Ideal) f7 (ix2 0 p) := by
  have e := k0_off22_eq i
  have e' := k0_off21_eq i
  rw [hi] at e e'
  by_cases hp : p.val / 512 = d.val
  · rw [if_pos hp]
    refine (read_writes_cons_unit_of_mem _ _ _ _ [] (ix2 0 p) (ix2 0 ⟨p.val % 512, by omega⟩) e (fun x => ?_)).trans ?_
    · match x with
      | ⟨0, _⟩ => rfl
      | ⟨1, _⟩ => show p.val = 512 * d.val + p.val % 512; omega
    · rw [diag_apply]
      refine congrArg (arg15.view.read (Elt Ideal) f15) (funext fun a => Fin.ext ?_)
      match a with
      | ⟨0, _⟩ => show k0_off21 i 0 + 1 * 0 = d.val; rw [e']; rfl
      | ⟨1, _⟩ => show k0_off21 i 1 + 1 * (p.val % 512 / 32) = p.val % 512 / 32; rw [e']; show 0 + 1 * (p.val % 512 / 32) = p.val % 512 / 32; omega
      | ⟨2, _⟩ => show k0_off21 i 2 + 1 * (p.val % 512) = p.val % 512; rw [e']; show 0 + 1 * (p.val % 512) = p.val % 512; omega
  · rw [if_neg hp]
    exact read_writes_cons_unit_of_not_mem _ _ _ _ [] (ix2 0 p) e (1 : Fin 2) (by show p.val < 512 * d.val ∨ 512 * d.val + 512 ≤ p.val; omega)

end Cert.KernelIdeal.Hand
end
-- ==== Proof.BodyV.lean ====
module

public import proofs.«01_k».proof.Proof.BodyMem
public import Idealize.ShloMosaic.Lib.Pipeline.Frame
public import Idealize.ShloMosaic.Lib.Tactic

@[expose] public section

set_option maxRecDepth 8192
set_option maxHeartbeats 8000000

noncomputable section

namespace Cert.KernelIdeal.Hand

open Requant
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- The kernel's body at a grid point, with values. The codes' block and the scales' block are the block's codes and
    exponents; in the accumulator plane `d` gains the block's row sums (from zero in the first batch and row block); at the
    last batch and row block the column sums of column block `d` are stored; the tables and the identity are in place. -/
theorem bodyV (c : Dev nD) (i : grid0.Coords) (arg3 : Memref sig .tc .vmem S1x4096x512 .fp8e4m3) (harg3 : arg3.IsWhole) (arg4 : Memref sig .tc .vmem S1x4096x112 .i8) (harg4 : arg4.IsWhole) (arg5 : Memref sig .tc .vmem S1x512x4096 .fp8e4m3) (harg5 : arg5.IsWhole) (arg6 : Memref sig .tc .vmem S1x512x128 .i8) (harg6 : arg6.IsWhole) (arg7 : Memref sig .tc .vmem S1x3584 .f32) (harg7 : arg7.IsWhole) (arg8 : Memref sig .tc .vmem S4096x128 .bf16) (harg8 : arg8.IsWhole) (arg9 : Memref sig .tc .vmem S128x4096 .bf16) (harg9 : arg9.IsWhole) (arg10 : Memref sig .tc .vmem S256x256 .fp8e4m3) (harg10 : arg10.IsWhole) (arg11 : Memref sig .tc .vmem S4x72x2x128 .bf16) (harg11 : arg11.IsWhole) (arg12 : Memref sig .tc .vmem S4x8x128 .i32) (harg12 : arg12.IsWhole) (arg13 : Memref sig .tc .vmem S256x512 .fp8e4m3) (harg13 : arg13.IsWhole) (arg14 : Memref sig .tc .vmem S128x512 .i32) (harg14 : arg14.IsWhole) (arg15 : Memref sig .tc .vmem S7x16x512 .f32) (harg15 : arg15.IsWhole) (f_arg3 : BufTy.Contents (Elt Ideal) arg3.view.ty) (f_arg4 : BufTy.Contents (Elt Ideal) arg4.view.ty) (f_arg5 : BufTy.Contents (Elt Ideal) arg5.view.ty) (f_arg6 : BufTy.Contents (Elt Ideal) arg6.view.ty) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty)
   (d : Fin 7) (hi : (i 2).val = d.val) (x s : ℕ → ℕ → EReal)
   (hx : ∀ (n : Fin 4096) (q : Fin 512), arg3.view.read (Elt Ideal) f_arg3 (ix3 0 n q) = x n.val q.val)
   (hs : ∀ (n : Fin 4096) (g : Fin 112), th (arg4.view.read (Elt Ideal) f_arg4 (ix3 0 n g) : BitVec 8).toNat = s n.val g.val)
   (h8 : (i 2).val ≠ 0 → ∀ (n : Fin 4096) (g : Fin 128), g.val < 112 → arg8.view.read (Elt Ideal) f_arg8 (ix2 n g) = s n.val g.val)
   (h9 : (i 2).val ≠ 0 → ∀ (g : Fin 128) (n : Fin 4096), g.val < 112 → arg9.view.read (Elt Ideal) f_arg9 (ix2 g n) = s n.val g.val)
   (he : ¬ ((i 0).val = 0 ∧ (i 1).val = 0 ∧ (i 2).val = 0) → ∀ a b : Fin 256, arg10.view.read (Elt Ideal) f_arg10 (ix2 a b) = if a = b then (1 : EReal) else 0) :
   (iprop((arg3.view.loc (c : Thread nD τ) ↦[arg3.view.set]{fullShare} f_arg3) ∗ (arg4.view.loc (c : Thread nD τ) ↦[arg4.view.set]{fullShare} f_arg4) ∗ (arg5.view.loc (c : Thread nD τ) ↦[arg5.view.set]{fullShare} f_arg5) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15)) : sProp 𝕄)
   ⊢ wp frame (wpE (defs₀ (F := Ideal)) Variants.none (c : Thread nD τ) none) Set.univ (cc0_requant (F := Ideal) i arg3 harg3 arg4 harg4 arg5 harg5 arg6 harg6 arg7 harg7 arg8 harg8 arg9 harg9 arg10 harg10 arg11 harg11 arg12 harg12 arg13 harg13 arg14 harg14 arg15 harg15)
     (fun _ => iprop((arg3.view.loc (c : Thread nD τ) ↦[arg3.view.set]{fullShare} f_arg3) ∗ (arg4.view.loc (c : Thread nD τ) ↦[arg4.view.set]{fullShare} f_arg4) ∗ (∃ f, (arg5.view.loc (c : Thread nD τ) ↦[arg5.view.set]{fullShare} f) ∗ ⌜∀ (q : Fin 512) (n : Fin 4096), arg5.view.read (Elt Ideal) f (ix3 0 q n) = code (blockVals x s d.val) n.val q.val⌝) ∗ (∃ f, (arg6.view.loc (c : Thread nD τ) ↦[arg6.view.set]{fullShare} f) ∗ ⌜∀ (q : Fin 512) (m : Fin 128), arg6.view.read (Elt Ideal) f (ix3 0 q m) = BitVec.setWidth 8 (expo (level (blockVals x s d.val) m.val q.val))⌝) ∗ (∃ f, (arg7.view.loc (c : Thread nD τ) ↦[arg7.view.set]{fullShare} f) ∗ ⌜(i 0).val = 3 ∧ (i 1).val = 1 → ∀ p : Fin 3584, arg7.view.read (Elt Ideal) f (ix2 0 p) = if p.val / 512 = d.val then arg15.view.read (Elt Ideal) f_arg15 (ix3 d ⟨p.val % 512 / 32, by omega⟩ ⟨p.val % 512, by omega⟩) + rowSum x s d.val (p.val % 512 / 32) (p.val % 512) 4096 else arg7.view.read (Elt Ideal) f_arg7 (ix2 0 p)⌝) ∗ (∃ f, (arg8.view.loc (c : Thread nD τ) ↦[arg8.view.set]{fullShare} f) ∗ ⌜∀ (n : Fin 4096) (g : Fin 128), g.val < 112 → arg8.view.read (Elt Ideal) f (ix2 n g) = s n.val g.val⌝) ∗ (∃ f, (arg9.view.loc (c : Thread nD τ) ↦[arg9.view.set]{fullShare} f) ∗ ⌜∀ (g : Fin 128) (n : Fin 4096), g.val < 112 → arg9.view.read (Elt Ideal) f (ix2 g n) = s n.val g.val⌝) ∗ (∃ f, (arg10.view.loc (c : Thread nD τ) ↦[arg10.view.set]{fullShare} f) ∗ ⌜∀ a b : Fin 256, arg10.view.read (Elt Ideal) f (ix2 a b) = if a = b then (1 : EReal) else 0⌝) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f) ∗ ⌜∀ (a : Fin 7) (j : Fin 16) (q : Fin 512), arg15.view.read (Elt Ideal) f (ix3 a j q) = if a = d then (if (i 0).val = 0 ∧ (i 1).val = 0 then 0 else arg15.view.read (Elt Ideal) f_arg15 (ix3 a j q)) + rowSum x s d.val j.val q.val 4096 else arg15.view.read (Elt Ideal) f_arg15 (ix3 a j q)⌝))) := by
  simp only [cc0_requant_eq_skeleton]; unfold cc0_requant_skel
  iintro ⟨Harg3, Harg4, Harg5, Harg6, Harg7, Harg8, Harg9, Harg10, Harg11, Harg12, Harg13, Harg14, Harg15⟩
  by_cases hc3 : k0_cond3 i = 1#1
  · sl_exec (disch := sl_exact hc3)
    sl_step
    isplitl [Harg3]; · iexact Harg3
    isplitl [Harg4]; · iexact Harg4
    isplitl [Harg5]
    · iexists _; isplitl; · iexact Harg5
      ipureintro
      exact fun q n => Eq.trans (groups_codes c i arg3 harg3 arg4 harg4 arg5 harg5 arg6 harg6 arg7 harg7 arg8 harg8 arg9 harg9 arg10 harg10 arg11 harg11 arg12 harg12 arg13 harg13 arg14 harg14 arg15 harg15 _ _ _ _ _ d hi x s hx (fun n g hg => Eq.trans (table_vals c i arg3 harg3 arg4 harg4 arg5 harg5 arg6 harg6 arg7 harg7 arg8 harg8 arg9 harg9 arg10 harg10 arg11 harg11 arg12 harg12 arg13 harg13 arg14 harg14 arg15 harg15 hc3 f_arg4 s hs _ n g hg 16 le_rfl) (if_pos (by omega))) (fun g n hg => Eq.trans (tableT_vals c i arg3 harg3 arg4 harg4 arg5 harg5 arg6 harg6 arg7 harg7 arg8 harg8 arg9 harg9 arg10 harg10 arg11 harg11 arg12 harg12 arg13 harg13 arg14 harg14 arg15 harg15 hc3 f_arg4 s hs _ n g hg 16 le_rfl) (if_pos (by omega))) (eye_after arg10 f_arg10 _ _ (or_iff_not_imp_left.2 fun hz => he fun h => hz ((cond1_iff i).2 h))) _ q n 16 le_rfl) (if_pos (by omega))
    isplitl [Harg6]
    · iexists _; isplitl; · iexact Harg6
      ipureintro
      exact fun q m => Eq.trans (scale_out arg6 f_arg6 arg14 _ _ _ q m) (congrArg (BitVec.setWidth 8) (Eq.trans (groups_exps c i arg3 harg3 arg4 harg4 arg5 harg5 arg6 harg6 arg7 harg7 arg8 harg8 arg9 harg9 arg10 harg10 arg11 harg11 arg12 harg12 arg13 harg13 arg14 harg14 arg15 harg15 _ _ _ _ _ d hi x s hx (fun n g hg => Eq.trans (table_vals c i arg3 harg3 arg4 harg4 arg5 harg5 arg6 harg6 arg7 harg7 arg8 harg8 arg9 harg9 arg10 harg10 arg11 harg11 arg12 harg12 arg13 harg13 arg14 harg14 arg15 harg15 hc3 f_arg4 s hs _ n g hg 16 le_rfl) (if_pos (by omega))) _ m q 16 le_rfl) (if_pos (by omega))))
    isplitl [Harg7]
    · iexists _; isplitl; · iexact Harg7
      ipureintro
      intro hl p
      rw [dif_pos ((cond4_iff i).2 hl)]
      refine Eq.trans (dbias_out i d hi arg7 f_arg7 arg15 _ _ _ p) ?_
      by_cases hp : p.val / 512 = d.val
      · rw [if_pos hp, if_pos hp]
        refine Eq.trans (groups_acc c i arg3 harg3 arg4 harg4 arg5 harg5 arg6 harg6 arg7 harg7 arg8 harg8 arg9 harg9 arg10 harg10 arg11 harg11 arg12 harg12 arg13 harg13 arg14 harg14 arg15 harg15 _ _ _ _ _ d hi x s hx (fun g n hg => Eq.trans (tableT_vals c i arg3 harg3 arg4 harg4 arg5 harg5 arg6 harg6 arg7 harg7 arg8 harg8 arg9 harg9 arg10 harg10 arg11 harg11 arg12 harg12 arg13 harg13 arg14 harg14 arg15 harg15 hc3 f_arg4 s hs _ n g hg 16 le_rfl) (if_pos (by omega))) d ⟨p.val % 512 / 32, by omega⟩ ⟨p.val % 512, by omega⟩ 16 le_rfl) ?_
        rw [acc_in i d hi arg15 f_arg15 _ d ⟨p.val % 512 / 32, by omega⟩ ⟨p.val % 512, by omega⟩, if_pos rfl, if_pos rfl, if_neg (by omega)]
      · rw [if_neg hp, if_neg hp]
    isplitl [Harg8]
    · iexists _; isplitl; · iexact Harg8
      ipureintro
      exact fun n g hg => Eq.trans (table_vals c i arg3 harg3 arg4 harg4 arg5 harg5 arg6 harg6 arg7 harg7 arg8 harg8 arg9 harg9 arg10 harg10 arg11 harg11 arg12 harg12 arg13 harg13 arg14 harg14 arg15 harg15 hc3 f_arg4 s hs _ n g hg 16 le_rfl) (if_pos (by omega))
    isplitl [Harg9]
    · iexists _; isplitl; · iexact Harg9
      ipureintro
      exact fun g n hg => Eq.trans (tableT_vals c i arg3 harg3 arg4 harg4 arg5 harg5 arg6 harg6 arg7 harg7 arg8 harg8 arg9 harg9 arg10 harg10 arg11 harg11 arg12 harg12 arg13 harg13 arg14 harg14 arg15 harg15 hc3 f_arg4 s hs _ n g hg 16 le_rfl) (if_pos (by omega))
    isplitl [Harg10]
    · iexists _; isplitl; · iexact Harg10
      ipureintro
      exact eye_after arg10 f_arg10 _ _ (or_iff_not_imp_left.2 fun hz => he fun h => hz ((cond1_iff i).2 h))
    isplitl [Harg11]; · iexists _; iexact Harg11
    isplitl [Harg12]; · iexists _; iexact Harg12
    isplitl [Harg13]; · iexists _; iexact Harg13
    isplitl [Harg14]; · iexists _; iexact Harg14
    iexists _; isplitl; · iexact Harg15
    ipureintro
    exact fun a j q => by
      refine Eq.trans (groups_acc c i arg3 harg3 arg4 harg4 arg5 harg5 arg6 harg6 arg7 harg7 arg8 harg8 arg9 harg9 arg10 harg10 arg11 harg11 arg12 harg12 arg13 harg13 arg14 harg14 arg15 harg15 _ _ _ _ _ d hi x s hx (fun g n hg => Eq.trans (tableT_vals c i arg3 harg3 arg4 harg4 arg5 harg5 arg6 harg6 arg7 harg7 arg8 harg8 arg9 harg9 arg10 harg10 arg11 harg11 arg12 harg12 arg13 harg13 arg14 harg14 arg15 harg15 hc3 f_arg4 s hs _ n g hg 16 le_rfl) (if_pos (by omega))) a j q 16 le_rfl) ?_
      rw [acc_in i d hi arg15 f_arg15 _ a j q]
      by_cases ha : a = d
      · rw [if_pos ha, if_pos ha, if_pos ha]
      · rw [if_neg ha, if_neg ha, if_neg ha]
  · sl_exec (disch := sl_exact hc3)
    sl_step
    isplitl [Harg3]; · iexact Harg3
    isplitl [Harg4]; · iexact Harg4
    isplitl [Harg5]
    · iexists _; isplitl; · iexact Harg5
      ipureintro
      exact fun q n => Eq.trans (groups_codes c i arg3 harg3 arg4 harg4 arg5 harg5 arg6 harg6 arg7 harg7 arg8 harg8 arg9 harg9 arg10 harg10 arg11 harg11 arg12 harg12 arg13 harg13 arg14 harg14 arg15 harg15 _ _ _ _ _ d hi x s hx (h8 (fun h => hc3 ((cond3_iff i).2 h))) (h9 (fun h => hc3 ((cond3_iff i).2 h))) (eye_after arg10 f_arg10 _ _ (or_iff_not_imp_left.2 fun hz => he fun h => hz ((cond1_iff i).2 h))) _ q n 16 le_rfl) (if_pos (by omega))
    isplitl [Harg6]
    · iexists _; isplitl; · iexact Harg6
      ipureintro
      exact fun q m => Eq.trans (scale_out arg6 f_arg6 arg14 _ _ _ q m) (congrArg (BitVec.setWidth 8) (Eq.trans (groups_exps c i arg3 harg3 arg4 harg4 arg5 harg5 arg6 harg6 arg7 harg7 arg8 harg8 arg9 harg9 arg10 harg10 arg11 harg11 arg12 harg12 arg13 harg13 arg14 harg14 arg15 harg15 _ _ _ _ _ d hi x s hx (h8 (fun h => hc3 ((cond3_iff i).2 h))) _ m q 16 le_rfl) (if_pos (by omega))))
    isplitl [Harg7]
    · iexists _; isplitl; · iexact Harg7
      ipureintro
      intro hl p
      rw [dif_pos ((cond4_iff i).2 hl)]
      refine Eq.trans (dbias_out i d hi arg7 f_arg7 arg15 _ _ _ p) ?_
      by_cases hp : p.val / 512 = d.val
      · rw [if_pos hp, if_pos hp]
        refine Eq.trans (groups_acc c i arg3 harg3 arg4 harg4 arg5 harg5 arg6 harg6 arg7 harg7 arg8 harg8 arg9 harg9 arg10 harg10 arg11 harg11 arg12 harg12 arg13 harg13 arg14 harg14 arg15 harg15 _ _ _ _ _ d hi x s hx (h9 (fun h => hc3 ((cond3_iff i).2 h))) d ⟨p.val % 512 / 32, by omega⟩ ⟨p.val % 512, by omega⟩ 16 le_rfl) ?_
        rw [acc_in i d hi arg15 f_arg15 _ d ⟨p.val % 512 / 32, by omega⟩ ⟨p.val % 512, by omega⟩, if_pos rfl, if_pos rfl, if_neg (by omega)]
      · rw [if_neg hp, if_neg hp]
    isplitl [Harg8]
    · iexists _; isplitl; · iexact Harg8
      ipureintro
      exact h8 (fun h => hc3 ((cond3_iff i).2 h))
    isplitl [Harg9]
    · iexists _; isplitl; · iexact Harg9
      ipureintro
      exact h9 (fun h => hc3 ((cond3_iff i).2 h))
    isplitl [Harg10]
    · iexists _; isplitl; · iexact Harg10
      ipureintro
      exact eye_after arg10 f_arg10 _ _ (or_iff_not_imp_left.2 fun hz => he fun h => hz ((cond1_iff i).2 h))
    isplitl [Harg11]; · iexists _; iexact Harg11
    isplitl [Harg12]; · iexists _; iexact Harg12
    isplitl [Harg13]; · iexists _; iexact Harg13
    isplitl [Harg14]; · iexists _; iexact Harg14
    iexists _; isplitl; · iexact Harg15
    ipureintro
    exact fun a j q => by
      refine Eq.trans (groups_acc c i arg3 harg3 arg4 harg4 arg5 harg5 arg6 harg6 arg7 harg7 arg8 harg8 arg9 harg9 arg10 harg10 arg11 harg11 arg12 harg12 arg13 harg13 arg14 harg14 arg15 harg15 _ _ _ _ _ d hi x s hx (h9 (fun h => hc3 ((cond3_iff i).2 h))) a j q 16 le_rfl) ?_
      rw [acc_in i d hi arg15 f_arg15 _ a j q]
      by_cases ha : a = d
      · rw [if_pos ha, if_pos ha, if_pos ha]
      · rw [if_neg ha, if_neg ha, if_neg ha]

end Cert.KernelIdeal.Hand
end
-- ==== Proof.Blocks.lean ====
module

public import proofs.«01_k».proof.Proof.GroupVals
public import Idealize.ShloMosaic.Lib.Pipeline.ValueKit
public import proofs.«01_k».proof.Proof.Gen.KernelIdeal.Frame
public import proofs.«01_k».proof.Proof.Gen.KernelIdeal.Points

@[expose] public section

set_option maxRecDepth 8192
set_option maxHeartbeats 400000

noncomputable section

namespace Cert.KernelIdeal.Hand

open Cert.KernelIdeal Cert.KernelIdeal.Gen
open Idealize.ShloMosaic Idealize.ShloMosaic.TcCoe Requant

/-! ### The argument arrays over the naturals, and what a grid point sees of them -/

/-- The codes of the argument at (batch, row, column); zero outside. -/
def xN (A : Fin 4 → Fin 8192 → Fin 3584 → EReal) (b n q : ℕ) : EReal :=
  if h : b < 4 ∧ n < 8192 ∧ q < 3584 then A ⟨b, h.1⟩ ⟨n, h.2.1⟩ ⟨q, h.2.2⟩ else 0

/-- The scale a biased exponent of the argument names, at (batch, row, group of 32 columns); zero outside. -/
def sN (B : Fin 4 → Fin 8192 → Fin 112 → BitVec 8) (b n g : ℕ) : EReal :=
  if h : b < 4 ∧ n < 8192 ∧ g < 112 then th (B ⟨b, h.1⟩ ⟨n, h.2.1⟩ ⟨g, h.2.2⟩).toNat else 0

/-- The dequantised value. -/
def vN (A : Fin 4 → Fin 8192 → Fin 3584 → EReal) (B : Fin 4 → Fin 8192 → Fin 112 → BitVec 8) (b n q : ℕ) : EReal :=
  xN A b n q * sN B b n (q / 32)

variable (m : (ℓ : Loc nD τ sig) → Buf (Elt Ideal) ℓ) (c : Dev nD)

/-- The first argument. -/
abbrev argX (b : Fin 4) (n : Fin 8192) (q : Fin 3584) : EReal := (m ((c : Thread nD τ).loc main_arg0) : S4x8192x3584.Idx → EReal) (ix3 b n q)

/-- The second argument. -/
abbrev argS (b : Fin 4) (n : Fin 8192) (g : Fin 112) : BitVec 8 := (m ((c : Thread nD τ).loc main_arg1) : S4x8192x112.Idx → BitVec 8) (ix3 b n g)

/-- The block of codes a point sees. -/
def xP (t : ℕ) (n q : ℕ) : EReal := xN (argX m c) (t / 14) (4096 * (t / 7 % 2) + n) (512 * (t % 7) + q)

/-- The block of scales a point sees. -/
def sP (t : ℕ) (n g : ℕ) : EReal := sN (argS m c) (t / 14) (4096 * (t / 7 % 2) + n) g

/-- What a point adds to the accumulator. -/
def gain (t : ℕ) (j q : ℕ) : EReal := rowSum (xP m c t) (sP m c t) (t % 7) j q 4096

/-- What plane `a` of the accumulator has gathered before point `t`. -/
def gathered (t a j q : ℕ) : EReal := ∑ u ∈ Finset.range t, if u % 7 = a then gain m c u j q else 0

theorem gathered_succ (t a j q : ℕ) : gathered m c (t + 1) a j q = gathered m c t a j q + if t % 7 = a then gain m c t j q else 0 :=
  Finset.sum_range_succ _ _

/-- Before its first point a plane has gathered nothing. -/
theorem gathered_zero (t a j q : ℕ) (h : t ≤ a) (ha : a < 7) : gathered m c t a j q = 0 :=
  Finset.sum_eq_zero fun u hu => if_neg (by have := Finset.mem_range.1 hu; omega)

theorem coord0 : ∀ t : Fin cfg0.N, (grid0.coords t 0).val = t.val / 14 := (by decide +kernel : ∀ t : Fin grid0.N, (grid0.coords t 0).val = t.val / 14)
theorem coord1 : ∀ t : Fin cfg0.N, (grid0.coords t 1).val = t.val / 7 % 2 := (by decide +kernel : ∀ t : Fin grid0.N, (grid0.coords t 1).val = t.val / 7 % 2)
theorem coord2 : ∀ t : Fin cfg0.N, (grid0.coords t 2).val = t.val % 7 := (by decide +kernel : ∀ t : Fin grid0.N, (grid0.coords t 2).val = t.val % 7)

theorem idx0 : ∀ t : Fin cfg0.N, (cfg0.win 0).index t (0 : Fin 3) = t.val / 14 ∧ (cfg0.win 0).index t (1 : Fin 3) = t.val / 7 % 2 ∧ (cfg0.win 0).index t (2 : Fin 3) = t.val % 7 :=
  (by decide +kernel : ∀ t : Fin grid0.N, win0_0.index t (0 : Fin 3) = t.val / 14 ∧ win0_0.index t (1 : Fin 3) = t.val / 7 % 2 ∧ win0_0.index t (2 : Fin 3) = t.val % 7)
theorem idx1 : ∀ t : Fin cfg0.N, (cfg0.win 1).index t (0 : Fin 3) = t.val / 14 ∧ (cfg0.win 1).index t (1 : Fin 3) = t.val / 7 % 2 ∧ (cfg0.win 1).index t (2 : Fin 3) = 0 :=
  (by decide +kernel : ∀ t : Fin grid0.N, win0_1.index t (0 : Fin 3) = t.val / 14 ∧ win0_1.index t (1 : Fin 3) = t.val / 7 % 2 ∧ win0_1.index t (2 : Fin 3) = 0)
theorem idx2 : ∀ t : Fin cfg0.N, (cfg0.win 2).index t (0 : Fin 3) = t.val / 14 ∧ (cfg0.win 2).index t (1 : Fin 3) = t.val % 7 ∧ (cfg0.win 2).index t (2 : Fin 3) = t.val / 7 % 2 :=
  (by decide +kernel : ∀ t : Fin grid0.N, win0_2.index t (0 : Fin 3) = t.val / 14 ∧ win0_2.index t (1 : Fin 3) = t.val % 7 ∧ win0_2.index t (2 : Fin 3) = t.val / 7 % 2)
theorem idx3 : ∀ t : Fin cfg0.N, (cfg0.win 3).index t (0 : Fin 3) = t.val / 14 ∧ (cfg0.win 3).index t (1 : Fin 3) = t.val % 7 ∧ (cfg0.win 3).index t (2 : Fin 3) = t.val / 7 % 2 :=
  (by decide +kernel : ∀ t : Fin grid0.N, win0_3.index t (0 : Fin 3) = t.val / 14 ∧ win0_3.index t (1 : Fin 3) = t.val % 7 ∧ win0_3.index t (2 : Fin 3) = t.val / 7 % 2)
theorem idx4 : ∀ t : Fin cfg0.N, (cfg0.win 4).index t (0 : Fin 2) = 0 ∧ (cfg0.win 4).index t (1 : Fin 2) = 0 :=
  (by decide +kernel : ∀ t : Fin grid0.N, win0_4.index t (0 : Fin 2) = 0 ∧ win0_4.index t (1 : Fin 2) = 0)

theorem lt56 (t : Fin cfg0.N) : t.val < 56 := Nat.lt_of_lt_of_eq t.isLt N_0

/-- The block of codes at a point. -/
theorem x_blk (t : Fin cfg0.N) (n : Fin 4096) (q : Fin 512) :
    (iblk m c 0 t : S1x4096x512.Idx → EReal) (ix3 0 n q) = xP m c t.val n.val q.val := by
  have ht := lt56 t
  obtain ⟨h0, h1, h2⟩ := idx0 t
  unfold xP xN
  rw [dif_pos ⟨by omega, by omega, by omega⟩]
  unfold argX
  blk_ext [iblk, V, h0, h1, h2]

/-- The block of scales at a point. -/
theorem s_blk (t : Fin cfg0.N) (n : Fin 4096) (g : Fin 112) :
    th ((iblk m c 1 t : S1x4096x112.Idx → BitVec 8) (ix3 0 n g)).toNat = sP m c t.val n.val g.val := by
  have ht := lt56 t
  obtain ⟨h0, h1, h2⟩ := idx1 t
  unfold sP sN
  rw [dif_pos ⟨by omega, by omega, by omega⟩]
  refine congrArg (fun w : BitVec 8 => th w.toNat) ?_
  unfold argS
  blk_ext [iblk, V, h0, h1, h2]

end Cert.KernelIdeal.Hand
-- ==== Proof.FrameV.lean ====
module

public import proofs.«01_k».proof.Proof.BodyV
public import proofs.«01_k».proof.Proof.Blocks
public import proofs.«01_k».proof.Proof.FrameKernelIdeal
public import Idealize.ShloMosaic.Lib.Pipeline.DatRel
public import Idealize.ShloMosaic.Lib.Pipeline.ArrRel

@[expose] public section

set_option maxRecDepth 8192
set_option maxHeartbeats 400000

noncomputable section

namespace Cert.KernelIdeal.Hand

open Cert.KernelIdeal Cert.KernelIdeal.Gen
open Idealize.ShloMosaic Idealize.ShloMosaic.TcCoe Idealize.ShloMosaic.Tactic Requant
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

local notation "𝕄" => MT nD τ sig Unit (Elt Ideal) ℕ (UR sig nD τ) ℕ

variable (m : (ℓ : Loc nD τ sig) → Buf (Elt Ideal) ℓ) (ρ : Dev nD → PrngReg)

/-! ### The run with values: what the scratch buffers carry from point to point, what each point leaves in the results -/

/-- Before point `t`: the two tables hold the scales of the row block under way, the identity is in place, each plane of the
    accumulator holds what it has gathered; the other scratch buffers anything. -/
def Inv (c : Dev nD) (t : ℕ) : sProp 𝕄 :=
  iprop(((∃ d : S4096x128.Idx → EReal, ⌜t % 7 ≠ 0 → ∀ (n : Fin 4096) (g : Fin 128), g.val < 112 → d (ix2 n g) = sP m c t n.val g.val⌝ ∗ owns (c : Thread nD τ) (Memref.whole cc0_scratch0) fullShare d) ∗ (∃ d : S128x4096.Idx → EReal, ⌜t % 7 ≠ 0 → ∀ (g : Fin 128) (n : Fin 4096), g.val < 112 → d (ix2 g n) = sP m c t n.val g.val⌝ ∗ owns (c : Thread nD τ) (Memref.whole cc0_scratch1) fullShare d) ∗ (∃ d : S256x256.Idx → EReal, ⌜t ≠ 0 → ∀ a b : Fin 256, d (ix2 a b) = if a = b then (1 : EReal) else 0⌝ ∗ owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d : S7x16x512.Idx → EReal, ⌜∀ (a : Fin 7) (j : Fin 16) (q : Fin 512), a.val < t → d (ix3 a j q) = gathered m c t a.val j.val q.val⌝ ∗ owns (c : Thread nD τ) (Memref.whole cc0_scratch7) fullShare d)) ∗ (∃ r, prngReg c r))

/-- The results' windows. -/
def claims0 : Fin 5 → Bool := ![false, false, true, true, true]

/-- What a point leaves in a result's block. -/
def Rl (c : Dev nD) : (w : Fin cfg0.W) → Fin cfg0.N → ((cfg0.win w).block.Idx → Elt Ideal (cfg0.win w).elt) → Prop
  | 2 => fun t X => ∀ (q : Fin 512) (n : Fin 4096), (X : S1x512x4096.Idx → EReal) (ix3 0 q n)
      = code (vN (argX m c) (argS m c) (t.val / 14)) (4096 * (t.val / 7 % 2) + n.val) (512 * (t.val % 7) + q.val)
  | 3 => fun t X => ∀ (q : Fin 512) (k : Fin 128), (X : S1x512x128.Idx → BitVec 8) (ix3 0 q k)
      = BitVec.setWidth 8 (expo (level (vN (argX m c) (argS m c) (t.val / 14)) (128 * (t.val / 7 % 2) + k.val) (512 * (t.val % 7) + q.val)))
  | 4 => fun t X => 49 ≤ t.val → ∀ p : Fin 3584, p.val / 512 ≤ t.val - 49 → (X : S1x3584.Idx → EReal) (ix2 0 p)
      = gathered m c (50 + p.val / 512) (p.val / 512) (p.val % 512 / 32) (p.val % 512)
  | 0 => fun _ _ => True
  | 1 => fun _ _ => True

/-- The proof data on a core: the arrays as the region finds them, the inputs' blocks left in place, the scratch at `Inv`. -/
def datsV (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => Pipeline.Dat.unnamed (cfg := cfg0) 2 t
    | 3 => Pipeline.Dat.unnamed (cfg := cfg0) 3 t
    | 4 => Pipeline.Dat.unnamed (cfg := cfg0) 4 t
  Φ t := Inv m c t.val
  q _ := fullShare
  owed _ := 0

theorem A_eqV (c : Dev nD) (w : Fin cfg0.W) : (datsV m 0 c).A w = V m c (Pipeline.arrRef spec0 w) := by dsimp only [datsV]

/-- The relational reading of the data. -/
abbrev rdatV (c : Dev nD) := (datsV m 0 c).toRRel claims0 (Rl m c)

/-- The third result's block is not moved between points: a point finds what the one before left. -/
theorem finds4 (c : Dev nD) (t : Fin cfg0.N) (ht : t.val ≠ 0) (Y) (h : (rdatV m c).Finds 4 t Y) :
    Rl m c 4 ⟨t.val - 1, Nat.lt_of_le_of_lt (Nat.sub_le _ _) t.isLt⟩ Y := by
  have ht' := lt56 t
  rw [Pipeline.RDat.finds_of_pos (rdatV m c) rfl ht Y] at h
  refine Pipeline.Dat.toRRel_leaves (datsV m 0 c) (w := 4) rfl (h.resolve_left fun hf => ?_)
  have := (flush0_4 _).1 hf
  simp only at this
  omega

/-- What the body is called with at a point. -/
def bodyPreV (c : Dev nD) (t : Fin cfg0.N) : sProp 𝕄 :=
  iprop((datsV m 0 c).Φ t.castSucc ∗ (datsV m 0 c).owesAt () t.castSucc
    ∗ (∃ d, owns (c : Thread nD τ) (st0_0 t) fullShare ((datsV m 0 c).before 0 t d))
    ∗ (∃ d, owns (c : Thread nD τ) (st0_1 t) fullShare ((datsV m 0 c).before 1 t d))
    ∗ (∃ Y, ⌜(rdatV m c).Finds 2 t Y⌝ ∗ owns (c : Thread nD τ) (st0_2 t) fullShare Y)
    ∗ (∃ Y, ⌜(rdatV m c).Finds 3 t Y⌝ ∗ owns (c : Thread nD τ) (st0_3 t) fullShare Y)
    ∗ (∃ Y, ⌜(rdatV m c).Finds 4 t Y⌝ ∗ owns (c : Thread nD τ) (st0_4 t) fullShare Y))
/-- What the body returns at a point. -/
def bodyPostV (c : Dev nD) (t : Fin cfg0.N) : sProp 𝕄 :=
  iprop((datsV m 0 c).Φ t.succ ∗ (datsV m 0 c).owesAt () t.succ
    ∗ owns (c : Thread nD τ) (st0_0 t) fullShare ((datsV m 0 c).after 0 t)
    ∗ owns (c : Thread nD τ) (st0_1 t) fullShare ((datsV m 0 c).after 1 t)
    ∗ (∃ X, ⌜Rl m c 2 t X⌝ ∗ owns (c : Thread nD τ) (st0_2 t) fullShare X)
    ∗ (∃ X, ⌜Rl m c 3 t X⌝ ∗ owns (c : Thread nD τ) (st0_3 t) fullShare X)
    ∗ (∃ X, ⌜Rl m c 4 t X⌝ ∗ owns (c : Thread nD τ) (st0_4 t) fullShare X))

theorem blockVals_eq (c : Dev nD) (t n q : ℕ) :
    blockVals (xP m c t) (sP m c t) (t % 7) n q = vN (argX m c) (argS m c) (t / 14) (4096 * (t / 7 % 2) + n) (512 * (t % 7) + q) := by
  unfold blockVals xP sP vN
  rw [show (512 * (t % 7) + q) / 32 = 16 * (t % 7) + q / 32 by omega]

/-- The codes of a block are the codes of the array. -/
theorem code_block (c : Dev nD) (t n q : ℕ) :
    code (blockVals (xP m c t) (sP m c t) (t % 7)) n q = code (vN (argX m c) (argS m c) (t / 14)) (4096 * (t / 7 % 2) + n) (512 * (t % 7) + q) := by
  have e := code_shift (fun n q => vN (argX m c) (argS m c) (t / 14) n (512 * (t % 7) + q)) (16 * (t / 7 % 2)) n q
  simp only [show 256 * (16 * (t / 7 % 2)) = 4096 * (t / 7 % 2) by omega] at e
  refine Eq.trans ?_ (e.trans rfl)
  congr 1
  funext r q; exact blockVals_eq m c t r q

/-- The levels of a block are the levels of the array. -/
theorem level_block (c : Dev nD) (t k q : ℕ) :
    level (blockVals (xP m c t) (sP m c t) (t % 7)) k q = level (vN (argX m c) (argS m c) (t / 14)) (128 * (t / 7 % 2) + k) (512 * (t % 7) + q) := by
  have e := level_shift (fun n q => vN (argX m c) (argS m c) (t / 14) n (512 * (t % 7) + q)) (16 * (t / 7 % 2)) k q
  simp only [show 256 * (16 * (t / 7 % 2)) = 4096 * (t / 7 % 2) by omega, show 8 * (16 * (t / 7 % 2)) = 128 * (t / 7 % 2) by omega] at e
  refine Eq.trans ?_ (e.trans rfl)
  congr 1
  funext r q; exact blockVals_eq m c t r q

/-- Within a row of column blocks the scales stay. -/
theorem sP_next (c : Dev nD) (t n g : ℕ) (h : (t + 1) % 7 ≠ 0) : sP m c (t + 1) n g = sP m c t n g := by
  unfold sP
  rw [show (t + 1) / 14 = t / 14 by omega, show (t + 1) / 7 = t / 7 by omega]

/-- The accumulator's planes after a point. -/
theorem gathered_next (c : Dev nD) (t : Fin cfg0.N) (a : Fin 7) (j q : ℕ) (old : EReal)
    (ho : a.val < t.val → old = gathered m c t.val a.val j q) (ha : a.val < t.val + 1) :
    (if a = (⟨t.val % 7, by omega⟩ : Fin 7) then (if (grid0.coords t 0).val = 0 ∧ (grid0.coords t 1).val = 0 then 0 else old)
        + rowSum (xP m c t.val) (sP m c t.val) (t.val % 7) j q 4096 else old)
      = gathered m c (t.val + 1) a.val j q := by
  have ht := lt56 t
  rw [gathered_succ, coord0, coord1]
  by_cases h : a = (⟨t.val % 7, by omega⟩ : Fin 7)
  · have h' : a.val = t.val % 7 := congrArg Fin.val h
    rw [if_pos h, if_pos h'.symm]
    show _ + gain m c t.val j q = _
    congr 1
    by_cases h7 : t.val < 7
    · rw [if_pos (by omega), gathered_zero m c _ _ _ _ (by omega) a.isLt]
    · rw [if_neg (by omega), ho (by omega)]
  · have h' : ¬ a.val = t.val % 7 := fun e => h (Fin.ext e)
    rw [if_neg h, if_neg (fun e => h' e.symm), add_zero, ho (by omega)]

/-- The body at a grid point, with values: `bodyV` between the invariants. -/
theorem sound_bodyV (c : Dev nD) (t : Fin cfg0.N) :
    bodyPreV m c t ⊢ wp frame (wpE (defs₀ (F := Ideal)) Variants.none c none) Set.univ (bodyAt0 t) (fun _ => bodyPostV m c t) := by
  have ht := lt56 t
  unfold bodyPreV bodyPostV bodyAt0
  rw [show (datsV m 0 c).Φ t.succ = Inv m c (t.val + 1) from rfl,
    show (datsV m 0 c).owesAt () t.succ = (datsV m 0 c).owesAt () t.castSucc from rfl,
    show (datsV m 0 c).Φ t.castSucc = Inv m c t.val from rfl]
  simp only [before0_0_of m (datsV m 0 c) (A_eqV m c 0) (fun _ => rfl), before0_1_of m (datsV m 0 c) (A_eqV m c 1) (fun _ => rfl)]
  rw [show (datsV m 0 c).after 0 t = iblk m c 0 t from rfl, show (datsV m 0 c).after 1 t = iblk m c 1 t from rfl]
  unfold Inv owns
  iintro ⟨⟨⟨⟨%d8, %h8, %farg8, %e8, Harg8⟩, ⟨%d9, %h9, %farg9, %e9, Harg9⟩, ⟨%d10, %h10, %farg10, %e10, Harg10⟩, ⟨%d11, %farg11, -, Harg11⟩, ⟨%d12, %farg12, -, Harg12⟩, ⟨%d13, %farg13, -, Harg13⟩, ⟨%d14, %farg14, -, Harg14⟩, ⟨%d15, %h15, %farg15, %e15, Harg15⟩⟩, Hg⟩, HO, ⟨%d3, %farg3, %h3, Harg3⟩, ⟨%d4, %farg4, %h4, Harg4⟩, ⟨%d5, -, %farg5, -, Harg5⟩, ⟨%d6, -, %farg6, -, Harg6⟩, ⟨%d7, %h7, %farg7, %e7, Harg7⟩⟩
  iapply (wp_wand_r frame (wpE (defs₀ (F := Ideal)) Variants.none (c : Thread nD τ) none) Set.univ)
  isplitl [Harg3 Harg4 Harg5 Harg6 Harg7 Harg8 Harg9 Harg10 Harg11 Harg12 Harg13 Harg14 Harg15]
  · iapply (bodyV c (grid0.coords t) _ _ _ _ _ _ _ _ _ _ _ _ _ _ _ _ _ _ _ _ _ _ _ _ _ _ farg3 farg4 farg5 farg6 farg7 farg8 farg9 farg10 farg11 farg12 farg13 farg14 farg15 (⟨t.val % 7, by omega⟩ : Fin 7) (coord2 t) (xP m c t.val) (sP m c t.val)
      (fun n q => by rw [h3]; exact x_blk m c t n q) (fun n g => by rw [h4]; exact s_blk m c t n g)
      (fun hz n g hg => (congrFun e8 _).trans (h8 (by rw [← coord2 t]; exact hz) n g hg))
      (fun hz g n hg => (congrFun e9 _).trans (h9 (by rw [← coord2 t]; exact hz) g n hg))
      (fun hz a b => (congrFun e10 _).trans (h10 (fun h0 => hz (by rw [coord0, coord1, coord2, h0]; decide)) a b)))
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg10]; · iexact Harg10
    isplitl [Harg11]; · iexact Harg11
    isplitl [Harg12]; · iexact Harg12
    isplitl [Harg13]; · iexact Harg13
    isplitl [Harg14]; · iexact Harg14
    iexact Harg15
  iintro %_ ⟨Harg3, Harg4, ⟨%garg5, Harg5, %p5⟩, ⟨%garg6, Harg6, %p6⟩, ⟨%garg7, Harg7, %p7⟩, ⟨%garg8, Harg8, %p8⟩, ⟨%garg9, Harg9, %p9⟩, ⟨%garg10, Harg10, %p10⟩, ⟨%garg11, Harg11⟩, ⟨%garg12, Harg12⟩, ⟨%garg13, Harg13⟩, ⟨%garg14, Harg14⟩, ⟨%garg15, Harg15, %p15⟩⟩
  isplitl [Harg8 Harg9 Harg10 Harg11 Harg12 Harg13 Harg14 Harg15 Hg]
  · isplitr [Hg]
    · isplitl [Harg8]
      · iexists _; isplitr
        · ipureintro
          exact fun hz n g hg => (p8 n g hg).trans (sP_next m c _ _ _ hz).symm
        · iexists _; isplitr; swap; · iexact Harg8
          ipureintro; rfl
      isplitl [Harg9]
      · iexists _; isplitr
        · ipureintro
          exact fun hz g n hg => (p9 g n hg).trans (sP_next m c _ _ _ hz).symm
        · iexists _; isplitr; swap; · iexact Harg9
          ipureintro; rfl
      isplitl [Harg10]
      · iexists _; isplitr
        · ipureintro
          exact fun _ => p10
        · iexists _; isplitr; swap; · iexact Harg10
          ipureintro; rfl
      isplitl [Harg11]
      · iexists _, _; isplitr; swap; · iexact Harg11
        ipureintro; rfl
      isplitl [Harg12]
      · iexists _, _; isplitr; swap; · iexact Harg12
        ipureintro; rfl
      isplitl [Harg13]
      · iexists _, _; isplitr; swap; · iexact Harg13
        ipureintro; rfl
      isplitl [Harg14]
      · iexists _, _; isplitr; swap; · iexact Harg14
        ipureintro; rfl
      iexists _; isplitr
      · ipureintro
        exact fun a j q ha => (p15 a j q).trans (gathered_next m c t a j.val q.val _ (fun h => (congrFun e15 _).trans (h15 a j q h)) ha)
      · iexists _; isplitr; swap; · iexact Harg15
        ipureintro; rfl
    iexact Hg
  isplitl [HO]; · iexact HO
  isplitl [Harg3]
  · iexists _; isplitr; swap; · iexact Harg3
    ipureintro; exact h3
  isplitl [Harg4]
  · iexists _; isplitr; swap; · iexact Harg4
    ipureintro; exact h4
  isplitl [Harg5]
  · iexists _; isplitr
    · ipureintro
      exact fun q n => (p5 q n).trans (code_block m c t.val n.val q.val)
    · iexists _; isplitr; swap; · iexact Harg5
      ipureintro; rfl
  isplitl [Harg6]
  · iexists _; isplitr
    · ipureintro
      exact fun q k => (p6 q k).trans (congrArg (fun y => BitVec.setWidth 8 (expo y)) (level_block m c t.val k.val q.val))
    · iexists _; isplitr; swap; · iexact Harg6
      ipureintro; rfl
  iexists _; isplitr
  · ipureintro
    exact fun h49 p hp => by
      refine (p7 (by rw [coord0, coord1]; omega) p).trans ?_
      by_cases hd : p.val / 512 = t.val % 7
      · rw [if_pos hd, congrFun e15 _, h15 _ _ _ (by show t.val % 7 < t.val; omega)]
        rw [show 50 + p.val / 512 = t.val + 1 by omega, gathered_succ, if_pos hd.symm, hd]
        rfl
      · rw [if_neg hd, e7]
        exact finds4 m c t (by omega) d7 h7 (by show 49 ≤ t.val - 1; omega) p (by show p.val / 512 ≤ t.val - 1 - 49; omega)
  · iexists _; isplitr; swap; · iexact Harg7
    ipureintro; rfl

/-- The library's body obligation, the results' windows held to `Rl`. -/
theorem body_obligationV (c : Dev nD) :
    Pipeline.BodyObligationRel (datsV m 0 c) (defs₀ (F := Ideal)) Variants.none () Set.univ claims0 (Rl m c) := fun t => by
  rw [bigSep_W0, bigSep_W0, defs₀_row]
  exact triple_restated (sound_bodyV m c t) rfl .rfl fun _ => .rfl

end Cert.KernelIdeal.Hand
-- ==== Proof.RunV.lean ====
module

public import proofs.«01_k».proof.Proof.FrameV

@[expose] public section

set_option maxRecDepth 8192
set_option maxHeartbeats 400000

noncomputable section

namespace Cert.KernelIdeal.Hand

open Cert.KernelIdeal Cert.KernelIdeal.Gen
open Idealize.ShloMosaic Idealize.ShloMosaic.TcCoe Idealize.ShloMosaic.Tactic Requant
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

local notation "𝕄" => MT nD τ sig Unit (Elt Ideal) ℕ (UR sig nD τ) ℕ

variable (m : (ℓ : Loc nD τ sig) → Buf (Elt Ideal) ℓ) (ρ : Dev nD → PrngReg)

/-- Before the first point the scratch may hold anything. -/
theorem inv_in (c : Dev nD) : (Pipeline.ΦA spec0 c : sProp 𝕄) ⊢ Inv m c 0 := by
  rw [PhiA_eq]
  unfold Inv
  iintro ⟨⟨⟨%d8, H8⟩, ⟨%d9, H9⟩, ⟨%d10, H10⟩, H11, H12, H13, H14, ⟨%d15, H15⟩⟩, Hg⟩
  isplitr [Hg]
  · isplitl [H8]
    · iexists d8; isplitr
      · ipureintro; exact fun h => absurd rfl h
      · iexact H8
    isplitl [H9]
    · iexists d9; isplitr
      · ipureintro; exact fun h => absurd rfl h
      · iexact H9
    isplitl [H10]
    · iexists d10; isplitr
      · ipureintro; exact fun h => absurd rfl h
      · iexact H10
    isplitl [H11]; · iexact H11
    isplitl [H12]; · iexact H12
    isplitl [H13]; · iexact H13
    isplitl [H14]; · iexact H14
    iexists d15; isplitr
    · ipureintro; exact fun a j q h => absurd h (Nat.not_lt_zero _)
    · iexact H15
  · iexact Hg

/-- What the scratch holds may be forgotten. -/
theorem inv_out (c : Dev nD) (t : ℕ) : Inv m c t ⊢ (Pipeline.ΦA spec0 c : sProp 𝕄) := by
  rw [PhiA_eq]
  unfold Inv
  iintro ⟨⟨⟨%d8, -, H8⟩, ⟨%d9, -, H9⟩, ⟨%d10, -, H10⟩, H11, H12, H13, H14, ⟨%d15, -, H15⟩⟩, Hg⟩
  isplitr [Hg]
  · isplitl [H8]; · iexists d8; iexact H8
    isplitl [H9]; · iexists d9; iexact H9
    isplitl [H10]; · iexists d10; iexact H10
    isplitl [H11]; · iexact H11
    isplitl [H12]; · iexact H12
    isplitl [H13]; · iexact H13
    isplitl [H14]; · iexact H14
    iexists d15; iexact H15
  · iexact Hg

set_option backward.isDefEq.respectTransparency.types false in
/-- Every weakly fair execution ends, every result's block at each write-back as `Rl` says. -/
theorem run_mainV :
    θ_run defs (onTc (τ := τ) (main (F := Ideal))) (s₀ m ρ)
      (fun r => Pipeline.RDat.FramePost (cfgs 0) (fun c => rdatV m c) (V m) r) :=
  Pipeline.RDat.θ_run_frame_track (Q' := _) cfgs (0 : Fin 1) launch0 defs₀ Variants.none (fun c => rdatV m c) m ρ main
    (hbody := fun c => (body_obligationV m c).toRRel) (hshare := fun c => (datsV m 0 c).share_full fun _ => rfl)
    (howed := fun _ _ => rfl) (V := V m) (hmain := hmain m Variants.none) (hA := fun c w => A_eqV m c w)
    (hin := fun c => inv_in m c) (hout := fun c => inv_out m c _) (hQ' := fun _ h => h.1)

/-- The codes the kernel leaves. -/
def codesK (c : Dev nD) : S4x3584x8192.Idx → EReal := fun y => code (vN (argX m c) (argS m c) (y 0).val) (y 2).val (y 1).val

/-- The biased exponents the kernel leaves. -/
def scalesK (c : Dev nD) : S4x3584x256.Idx → BitVec 8 := fun y =>
  BitVec.setWidth 8 (expo (level (vN (argX m c) (argS m c) (y 0).val) (y 2).val (y 1).val))

/-- The column sums the kernel leaves. -/
def sumsK (c : Dev nD) : S1x3584.Idx → EReal := fun y =>
  gathered m c (50 + (y 1).val / 512) ((y 1).val / 512) ((y 1).val % 512 / 32) ((y 1).val % 512)

section
variable (c : Dev nD) (after : (w' : Fin cfg0.W) → Fin cfg0.N → (cfg0.win w').block.Idx → Elt Ideal (cfg0.win w').elt)

/-- The first result's array. -/
theorem arr2 (h : ∀ t, Rl m c 2 t (after 2 t)) : ((rdatV m c).withAfter after).arrAt 2 cfg0.N = codesK m c := by
  refine Pipeline.Dat.arrAt_eq_of_covers _ 2 _ (by decide +kernel) fun t hf y => ?_
  obtain ⟨h0, h1, h2⟩ := idx2 t
  blk_simp
  have e := h t (y 1) (y 2)
  have hy : (ix3 0 (y 1) (y 2) : S1x512x4096.Idx) = y := by
    funext a; fin_cases a
    · exact Subsingleton.elim (α := Fin 1) _ _
    · rfl
    · rfl
  rw [hy] at e
  refine Eq.trans e ?_
  have y0 : (y 0).val = 0 := congrArg Fin.val (Subsingleton.elim (α := Fin 1) (y 0) 0)
  have e0 : ((win0_2.blk t).view.emb y (0 : Fin 3)).val = t.val / 14 := by blk_simp; erw [h0]
  have e1 : ((win0_2.blk t).view.emb y (1 : Fin 3)).val = 512 * (t.val % 7) + (y 1).val := by blk_simp; erw [h1]; omega
  have e2 : ((win0_2.blk t).view.emb y (2 : Fin 3)).val = 4096 * (t.val / 7 % 2) + (y 2).val := by blk_simp; erw [h2]; omega
  unfold codesK
  rw [e0, e1, e2]

/-- The second result's array. -/
theorem arr3 (h : ∀ t, Rl m c 3 t (after 3 t)) : ((rdatV m c).withAfter after).arrAt 3 cfg0.N = scalesK m c := by
  refine Pipeline.Dat.arrAt_eq_of_covers _ 3 _ (by decide +kernel) fun t hf y => ?_
  obtain ⟨h0, h1, h2⟩ := idx3 t
  blk_simp
  have e := h t (y 1) (y 2)
  have hy : (ix3 0 (y 1) (y 2) : S1x512x128.Idx) = y := by
    funext a; fin_cases a
    · exact Subsingleton.elim (α := Fin 1) _ _
    · rfl
    · rfl
  rw [hy] at e
  refine Eq.trans e ?_
  have y0 : (y 0).val = 0 := congrArg Fin.val (Subsingleton.elim (α := Fin 1) (y 0) 0)
  have e0 : ((win0_3.blk t).view.emb y (0 : Fin 3)).val = t.val / 14 := by blk_simp; erw [h0]
  have e1 : ((win0_3.blk t).view.emb y (1 : Fin 3)).val = 512 * (t.val % 7) + (y 1).val := by blk_simp; erw [h1]; omega
  have e2 : ((win0_3.blk t).view.emb y (2 : Fin 3)).val = 128 * (t.val / 7 % 2) + (y 2).val := by blk_simp; erw [h2]; omega
  unfold scalesK
  rw [e0, e1, e2]

/-- The third result's array. -/
theorem arr4 (h : ∀ t, (cfg0.win 4).flush t = true → Rl m c 4 t (after 4 t)) : ((rdatV m c).withAfter after).arrAt 4 cfg0.N = sumsK m c := by
  refine Pipeline.Dat.arrAt_eq_of_covers _ 4 _ (by decide +kernel) fun t hf y => ?_
  have ht := lt56 t
  have h55 := (flush0_4 t).1 hf
  obtain ⟨h0, h1⟩ := idx4 t
  blk_simp
  have hp : (y 1).val < 3584 := (y 1).isLt
  have e := h t hf (by omega) (y 1) (by omega)
  have hy : (ix2 0 (y 1) : S1x3584.Idx) = y := by
    funext a; fin_cases a
    · exact Subsingleton.elim (α := Fin 1) _ _
    · rfl
  rw [hy] at e
  refine Eq.trans e ?_
  have e1 : ((win0_4.blk t).view.emb y (1 : Fin 2)).val = (y 1).val := by blk_simp; erw [h1]; omega
  unfold sumsK
  rw [e1]

end

/-- What the kernel leaves: its three results, its arguments unchanged. -/
theorem results :
    θ_run defs (onTc (τ := τ) (main (F := Ideal))) ⟨m, fun _ => 0, ρ⟩ (fun r => ∀ c : Dev nD,
      r.2.mem ((c.tc : Thread nD τ).loc main_v0_0) = codesK m c
      ∧ r.2.mem ((c.tc : Thread nD τ).loc main_v0_1) = scalesK m c
      ∧ r.2.mem ((c.tc : Thread nD τ).loc main_v0_2) = sumsK m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    obtain ⟨after, hL, hA⟩ := h.exists_exact c
    refine ⟨(hA 2).trans (arr2 m c after fun t => Pipeline.Dat.toRRel_leaves (datsV m 0 c) (w := 2) rfl (hL 2 t (flush0_2 t))),
      (hA 3).trans (arr3 m c after fun t => Pipeline.Dat.toRRel_leaves (datsV m 0 c) (w := 3) rfl (hL 3 t (flush0_3 t))),
      (hA 4).trans (arr4 m c after fun t hf => Pipeline.Dat.toRRel_leaves (datsV m 0 c) (w := 4) rfl (hL 4 t hf)),
      (h.arr_in c 0 rfl).trans (A_eqV m c 0), (h.arr_in c 1 rfl).trans (A_eqV m c 1)⟩) (run_mainV m ρ)

end Cert.KernelIdeal.Hand
-- ==== Proof.RefPay.lean ====
module

public import proofs.«01_k».proof.Proof.Blocks
public import proofs.«01_k».proof.Proof.Gen.ReferenceIdeal.Frame
public import Idealize.ShloMosaic.Lib.Pointwise

@[expose] public section

set_option maxRecDepth 8192
set_option maxHeartbeats 400000

noncomputable section

namespace Cert.ReferenceIdeal.Hand

open Cert.ReferenceIdeal Cert.ReferenceIdeal.Gen
open Idealize.ShloMosaic Idealize.ShloMosaic.TcCoe Requant
open Cert.KernelIdeal.Hand (xN sN vN aW amax level code)

/-- A sum over the two leading axes of three. -/
theorem reduceAdd_01 {n0 n1 n2 : Nat} (h : (⟨3, ![n0, n1, n2]⟩ : Shape).Reduces [0, 1] ⟨1, ![n2]⟩)
    (v : (⟨3, ![n0, n1, n2]⟩ : Shape).Idx → EReal) (q : Fin n2) :
    Ideal.reduceAdd h v (ix1 q) = ∑ a : Fin n0, ∑ b : Fin n1, v (ix3 a b q) := by
  unfold Ideal.reduceAdd
  refine (Finset.sum_filter_eq_sum_of_fiber _ (fun k : Fin n0 × Fin n1 => ix3 k.1 k.2 q)
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

/-- The dequantised value at an index. -/
theorem pay2_apply (s : S4x8192x112.Idx → BitVec 8) (x : S4x8192x3584.Idx → EReal) (b : Fin 4) (n : Fin 8192) (q : Fin 3584) :
    (k0_pay2 (F := Ideal) s x : S4x8192x3584.Idx → EReal) (ix3 b n q) = x (ix3 b n q) * th (s (ix3 b n ⟨q.val / 32, by omega⟩)).toNat := by
  rw [← pow2_scale]
  unfold k0_pay2 pow2
  pointwise []
  generalize (s (ix3 b n ⟨q.val / 32, by omega⟩)).setWidth 32 = w
  have h : IntOp.cmpi .slt (IntOp.subi w 127#32) 4294967170#32 = 0#1 ∨ IntOp.cmpi .slt (IntOp.subi w 127#32) 4294967170#32 = 1#1 := by
    generalize IntOp.cmpi .slt (IntOp.subi w 127#32) 4294967170#32 = c
    revert c; decide
  rcases h with h | h
  · unfold Scalar.select; rw [h]; rfl
  · rw [h]; simp only [sel_one]

/-- The column sums at an index. -/
theorem pay3_apply (s : S4x8192x112.Idx → BitVec 8) (x : S4x8192x3584.Idx → EReal) (q : Fin 3584) :
    (k0_pay3 (F := Ideal) s x : S1x3584.Idx → EReal) (ix2 0 q) = ∑ b : Fin 4, ∑ n : Fin 8192, (k0_pay2 (F := Ideal) s x : S4x8192x3584.Idx → EReal) (ix3 b n q) := by
  unfold k0_pay3
  pointwise []
  exact reduceAdd_01 _ _ q

/-- The transposed values at an index. -/
theorem pay4_apply (s : S4x8192x112.Idx → BitVec 8) (x : S4x8192x3584.Idx → EReal) (b : Fin 4) (q : Fin 3584) (k : Fin 256) (i : Fin 32) :
    (k0_pay4 (F := Ideal) s x : S4x3584x256x32.Idx → EReal) (ix4 b q k i) = (k0_pay2 (F := Ideal) s x : S4x8192x3584.Idx → EReal) (ix3 b ⟨32 * k.val + i.val, by omega⟩ q) := by
  unfold k0_pay4
  pointwise []
  refine congrArg (fun j : Fin 8192 => k0_pay2 (F := Ideal) s x (ix3 b j q)) (Fin.ext ?_)
  show k.val * 32 + i.val = 32 * k.val + i.val
  omega

end Cert.ReferenceIdeal.Hand
-- ==== Proof.RefMax.lean ====
module

public import proofs.«01_k».proof.Proof.Blocks
public import proofs.«01_k».proof.Proof.Gen.ReferenceIdeal.Frame
public import Idealize.ShloMosaic.Lib.Pointwise

@[expose] public section

set_option maxRecDepth 8192
set_option maxHeartbeats 400000

noncomputable section

namespace Cert.ReferenceIdeal.Hand

open Cert.ReferenceIdeal Cert.ReferenceIdeal.Gen
open Idealize.ShloMosaic Idealize.ShloMosaic.TcCoe Requant
open Cert.KernelIdeal.Hand (xN sN vN aW amax level code)

/-- The largest of the 32 values of a block. -/
theorem max32 {n0 n1 n2 n3 : Nat} (h : (⟨4, ![n0, n1, n2, n3]⟩ : Shape).Reduces [3] ⟨3, ![n0, n1, n2]⟩) (v : FVec Ideal ⟨4, ![n0, n1, n2, n3]⟩ .f32)
    (hφ : FKind.Formats .f32) (acc : BitVec 32) (hacc : acc = FKind.maximumf.neutral .f32 hφ) (b : Fin n0) (q : Fin n1) (k : Fin n2) :
    (multiReduction .maximumf [3] ⟨3, ![n0, n1, n2]⟩ v acc h hφ hacc : (⟨3, ![n0, n1, n2]⟩ : Shape).Idx → EReal) (ix3 b q k)
      = (Finset.univ : Finset (Fin n3)).fold max (Ideal.ofBits .f32 acc) (fun i => v (ix4 b q k i)) := by
  rw [multiReduction_maximumf_eq_fold, Shape.Reduces.fold_fiber_r4_a3]
  rfl

/-- A vector times a constant, at an index. -/
theorem scaled {t : Shape} (u : FVec Ideal t .f32) (c : BitVec 32) (j : t.Idx) :
    (mulf (F := Ideal) u (broadcast t (Scalar.ofBits .f32 c)) : t.Idx → EReal) j = (u : t.Idx → EReal) j * Ideal.ofBits .f32 c := rfl

/-- The largest of each block of 32 times a constant, at an index. -/
theorem maxScaled (v : FVec Ideal S4x3584x256x32 .f32) (c : BitVec 32) (b : Fin 4) (q : Fin 3584) (k : Fin 256) :
    (mulf (F := Ideal) (multiReduction .maximumf [3] S4x3584x256 v 0xFF800000#32 reduces_S4x3584x256x32_S4x3584x256 (.inl rfl) rfl)
        (broadcast S4x3584x256 (Scalar.ofBits .f32 c)) : S4x3584x256.Idx → EReal) (ix3 b q k)
      = (Finset.univ : Finset (Fin 32)).fold max (Ideal.ofBits .f32 0xFF800000#32) (fun i => (v : S4x3584x256x32.Idx → EReal) (ix4 b q k i))
        * Ideal.ofBits .f32 c :=
  Eq.trans (scaled _ c _) (congrArg (fun z : EReal => z * Ideal.ofBits .f32 c)
    (max32 reduces_S4x3584x256x32_S4x3584x256 v (.inl rfl) 0xFF800000#32 rfl b q k))

/-- The level at an index. -/
theorem pay5_apply (s : S4x8192x112.Idx → BitVec 8) (x : S4x8192x3584.Idx → EReal) (b : Fin 4) (q : Fin 3584) (k : Fin 256) :
    (k0_pay5 (F := Ideal) s x : S4x3584x256.Idx → EReal) (ix3 b q k)
      = (Finset.univ : Finset (Fin 32)).fold max (Ideal.ofBits .f32 0xFF800000#32) (fun i => absf (F := Ideal) (k0_pay4 (F := Ideal) s x) (ix4 b q k i))
        * Ideal.ofBits .f32 0x3B124925#32 := by
  unfold k0_pay5
  exact maxScaled _ _ b q k

end Cert.ReferenceIdeal.Hand
-- ==== Proof.RefCount.lean ====
module

public import proofs.«01_k».proof.Proof.Blocks
public import proofs.«01_k».proof.Proof.Gen.ReferenceIdeal.Frame
public import Idealize.ShloMosaic.Lib.Pointwise

@[expose] public section

set_option maxRecDepth 8192
set_option maxHeartbeats 400000

noncomputable section

namespace Cert.ReferenceIdeal.Hand

open Cert.ReferenceIdeal Cert.ReferenceIdeal.Gen
open Idealize.ShloMosaic Idealize.ShloMosaic.TcCoe Requant
open Cert.KernelIdeal.Hand (xN sN vN aW amax level code)

/-- The whole-number sum of a block's 254 entries. -/
theorem sumI254 (v : IVec S4x3584x256x254 32) (b : Fin 4) (q : Fin 3584) (k : Fin 256) :
    multiReductionI .add [3] S4x3584x256 v 0#32 reduces_S4x3584x256x254_S4x3584x256 rfl (ix3 b q k)
      = (Finset.univ : Finset (Fin 254)).fold IntOp.addi 0#32 (fun i => v (ix4 b q k i)) := by
  refine Eq.trans (multiReductionI_eq_fold .add v 0#32 reduces_S4x3584x256x254_S4x3584x256 rfl (ix3 b q k)) ?_
  exact Shape.Reduces.fold_fiber_r4_a3 reduces_S4x3584x256x254_S4x3584x256 (ix3 b q k) IntOp.addi 0#32 v

/-- Whether the `i`-th power of two is at most the level. -/
theorem below_apply (y : FVec Ideal S4x3584x256 .f32) (b : Fin 4) (q : Fin 3584) (k : Fin 256) (i : Fin 254) :
    extui 32 (cmpf .ole (select k0_pay7 (broadcast S4x3584x256x254 (Scalar.ofBits .f32 0x00000000#32 : Ideal .f32))
        (select k0_pay8 (broadcast S4x3584x256x254 (Scalar.ofBits .f32 0x7F800000#32 : Ideal .f32)) k0_pay9))
      (broadcastTo S4x3584x256x254 (shapeCast S4x3584x256x1 y shapeCasts_S4x3584x256_S4x3584x256x1)
        broadcasts_S4x3584x256x1_S4x3584x256x254)) natLt_1_32 (ix4 b q k i)
      = (Ideal.cmp .ole (pow2 (IntOp.subi (BitVec.ofNat 32 i.val) 126#32)) ((y : S4x3584x256.Idx → EReal) (ix3 b q k))).setWidth 32 := by
  unfold k0_pay7 k0_pay8 k0_pay9 k0_pay6 pow2
  pointwise []
  rfl

/-- The exponent from the count, at an index. -/
theorem expo_at {t : Shape} (y : FVec Ideal t .f32) (n : IVec t 32) (j : t.Idx) :
    select (ori (cmpi .eq n (broadcast t 0#32)) (cmpf .oeq y (broadcast t (Scalar.ofBits .f32 0x7F800000#32 : Ideal .f32))))
      (broadcast t 0#32) (subi n (broadcast t 126#32)) j = expoOfCount ((y : t.Idx → EReal) j) (n j) := rfl

/-- The exponent at an index. -/
theorem pay10_apply (y : FVec Ideal S4x3584x256 .f32) (b : Fin 4) (q : Fin 3584) (k : Fin 256) :
    k0_pay10 (F := Ideal) y k0_pay7 k0_pay8 k0_pay9 (Scalar.ofBits .f32 0x7F800000#32) (ix3 b q k)
      = expoOfCount ((y : S4x3584x256.Idx → EReal) (ix3 b q k)) (count ((y : S4x3584x256.Idx → EReal) (ix3 b q k))) := by
  unfold k0_pay10
  refine Eq.trans (expo_at _ _ _) (congrArg (expoOfCount _) ?_)
  refine Eq.trans (sumI254 _ b q k) ?_
  unfold Requant.count
  exact Finset.fold_congr fun i _ => below_apply y b q k i

/-- The exponent byte at an index. -/
theorem pay1_apply (e : IVec S4x3584x256 32) (j : S4x3584x256.Idx) : k0_pay1 e j = (IntOp.addi (e j) 127#32).setWidth 8 := rfl

end Cert.ReferenceIdeal.Hand
-- ==== Proof.RefCode.lean ====
module

public import proofs.«01_k».proof.Proof.Blocks
public import proofs.«01_k».proof.Proof.Gen.ReferenceIdeal.Frame
public import Idealize.ShloMosaic.Lib.Pointwise

@[expose] public section

set_option maxRecDepth 8192
set_option maxHeartbeats 400000

noncomputable section

namespace Cert.ReferenceIdeal.Hand

open Cert.ReferenceIdeal Cert.ReferenceIdeal.Gen
open Idealize.ShloMosaic Idealize.ShloMosaic.TcCoe Requant
open Cert.KernelIdeal.Hand (xN sN vN aW amax level code)

/-- The factor each value is multiplied by, at an index. -/
theorem inv_at {t : Shape} (e : IVec t 32) (j : t.Idx) :
    (select (cmpi .sgt e (broadcast t 127#32)) (broadcast t (Scalar.ofBits .f32 0x7FC00000#32 : Ideal .f32))
      (select (cmpi .slt (subi (broadcast t 0#32) e) (broadcast t 4294967170#32)) (broadcast t (Scalar.ofBits .f32 0x00000000#32 : Ideal .f32))
        (select (cmpi .sgt (subi (broadcast t 0#32) e) (broadcast t 127#32)) (broadcast t (Scalar.ofBits .f32 0x7F800000#32 : Ideal .f32))
          (exp2 (sitofp .f32 (subi (broadcast t 0#32) e)))) : FVec Ideal t .f32) : t.Idx → EReal) j = invRef (e j) := rfl

/-- The scaled and clipped values at an index. -/
theorem clip_at (v : FVec Ideal S4x3584x256x32 .f32) (u : FVec Ideal S4x3584x256 .f32) (b : Fin 4) (q : Fin 3584) (n : Fin 8192) :
    (shapeCast S4x3584x8192 (truncf .fp8e4m3 (minimumf (broadcast S4x3584x256x32 (Scalar.ofBits .f32 0x43E00000#32 : Ideal .f32))
        (maximumf (broadcast S4x3584x256x32 (Scalar.ofBits .f32 0xC3E00000#32 : Ideal .f32))
          (mulf v (broadcastTo S4x3584x256x32 (shapeCast S4x3584x256x1 u shapeCasts_S4x3584x256_S4x3584x256x1)
            broadcasts_S4x3584x256x1_S4x3584x256x32)))) bitsLt_fp8e4m3_f32) shapeCasts_S4x3584x256x32_S4x3584x8192 : S4x3584x8192.Idx → EReal) (ix3 b q n)
      = min (Ideal.ofBits .f32 0x43E00000#32) (max (Ideal.ofBits .f32 0xC3E00000#32)
          ((v : S4x3584x256x32.Idx → EReal) (ix4 b q ⟨n.val / 32, by omega⟩ ⟨n.val % 32, by omega⟩)
            * (u : S4x3584x256.Idx → EReal) (ix3 b q ⟨n.val / 32, by omega⟩))) := by
  pointwise []

/-- The codes at an index. -/
theorem pay11_apply (v : FVec Ideal S4x3584x256x32 .f32) (y : FVec Ideal S4x3584x256 .f32) (v34 v36 : IVec S4x3584x256x254 1)
    (v38 : FVec Ideal S4x3584x256x254 .f32) (c : Ideal .f32) (b : Fin 4) (q : Fin 3584) (n : Fin 8192) :
    (k0_pay11 (F := Ideal) v y v34 v36 v38 c : S4x3584x8192.Idx → EReal) (ix3 b q n)
      = min (Ideal.ofBits .f32 0x43E00000#32) (max (Ideal.ofBits .f32 0xC3E00000#32)
          ((v : S4x3584x256x32.Idx → EReal) (ix4 b q ⟨n.val / 32, by omega⟩ ⟨n.val % 32, by omega⟩)
            * invRef (k0_pay10 (F := Ideal) y v34 v36 v38 c (ix3 b q ⟨n.val / 32, by omega⟩)))) := by
  unfold k0_pay11
  generalize k0_pay10 (F := Ideal) y v34 v36 v38 c = e
  refine Eq.trans (clip_at _ _ b q n) ?_
  rw [inv_at]

end Cert.ReferenceIdeal.Hand
-- ==== Proof.RefVals.lean ====
module

public import proofs.«01_k».proof.Proof.RefPay
public import proofs.«01_k».proof.Proof.RefMax
public import proofs.«01_k».proof.Proof.RefCount
public import proofs.«01_k».proof.Proof.RefCode
public import proofs.«01_k».proof.Proof.Gen.ReferenceIdeal.Frame
public import Idealize.ShloMosaic.Lib.Pointwise

@[expose] public section

set_option maxRecDepth 8192
set_option maxHeartbeats 400000

noncomputable section

namespace Cert.ReferenceIdeal.Hand

open Cert.ReferenceIdeal Cert.ReferenceIdeal.Gen
open Idealize.ShloMosaic Idealize.ShloMosaic.TcCoe Requant
open Cert.KernelIdeal.Hand (xN sN vN aW amax level code)

variable (s : S4x8192x112.Idx → BitVec 8) (x : S4x8192x3584.Idx → EReal)

/-- The dequantised values of two argument arrays, over the naturals. -/
abbrev deq (b : ℕ) : ℕ → ℕ → EReal := vN (fun b n q => x (ix3 b n q)) (fun b n g => s (ix3 b n g)) b

/-- The dequantised value is the model's. -/
theorem pay2_eq (b : Fin 4) (n : Fin 8192) (q : Fin 3584) :
    (k0_pay2 (F := Ideal) s x : S4x8192x3584.Idx → EReal) (ix3 b n q) = deq s x b.val n.val q.val := by
  refine Eq.trans (pay2_apply s x b n q) ?_
  unfold deq vN xN sN
  rw [dif_pos ⟨b.isLt, n.isLt, q.isLt⟩, dif_pos ⟨b.isLt, n.isLt, by omega⟩]

/-- The absolute value is the model's. -/
theorem abs_eq (b : Fin 4) (q : Fin 3584) (k : Fin 256) (i : Fin 32) :
    (absf (F := Ideal) (k0_pay4 (F := Ideal) s x) : S4x3584x256x32.Idx → EReal) (ix4 b q k i) = aW (deq s x b.val) (32 * k.val + i.val) q.val := by
  have e := Eq.trans (pay4_apply s x b q k i) (pay2_eq s x b _ q)
  generalize k0_pay4 (F := Ideal) s x = v at e
  unfold aW
  rw [← e]
  rfl

/-- The level is the model's. -/
theorem pay5_eq (b : Fin 4) (q : Fin 3584) (k : Fin 256) :
    (k0_pay5 (F := Ideal) s x : S4x3584x256.Idx → EReal) (ix3 b q k) = level (deq s x b.val) k.val q.val := by
  refine Eq.trans (pay5_apply s x b q k) ?_
  unfold level amax
  rw [ofBits_ninf]
  exact congrArg (fun z : EReal => z * Ideal.ofBits .f32 0x3B124925#32) (Finset.fold_congr fun i _ => abs_eq s x b q k i)

/-- The exponent is the model's. -/
theorem pay10_eq (b : Fin 4) (q : Fin 3584) (k : Fin 256) :
    k0_pay10 (F := Ideal) (k0_pay5 s x) k0_pay7 k0_pay8 k0_pay9 (Scalar.ofBits .f32 0x7F800000#32) (ix3 b q k)
      = expoOfCount (level (deq s x b.val) k.val q.val) (count (level (deq s x b.val) k.val q.val)) := by
  have e := pay5_eq s x b q k
  generalize k0_pay5 (F := Ideal) s x = y at e ⊢
  rw [← e]
  exact pay10_apply y b q k

/-- The stored exponent byte is the model's. -/
theorem scales_eq (b : Fin 4) (q : Fin 3584) (k : Fin 256) :
    k0_pay1 (k0_pay10 (F := Ideal) (k0_pay5 s x) k0_pay7 k0_pay8 k0_pay9 (Scalar.ofBits .f32 0x7F800000#32)) (ix3 b q k)
      = BitVec.setWidth 8 (expo (level (deq s x b.val) k.val q.val)) := by
  refine Eq.trans (pay1_apply _ _) ?_
  rw [pay10_eq, expo_eq]

/-- The code is the model's. -/
theorem codes_eq (b : Fin 4) (q : Fin 3584) (n : Fin 8192) :
    (k0_pay11 (F := Ideal) (k0_pay4 s x) (k0_pay5 s x) k0_pay7 k0_pay8 k0_pay9 (Scalar.ofBits .f32 0x7F800000#32) : S4x3584x8192.Idx → EReal) (ix3 b q n)
      = code (deq s x b.val) n.val q.val := by
  refine Eq.trans (pay11_apply _ _ _ _ _ _ b q n) ?_
  rw [pay10_eq]
  have e := Eq.trans (pay4_apply s x b q ⟨n.val / 32, by omega⟩ ⟨n.val % 32, by omega⟩) (pay2_eq s x b _ q)
  have hn : 32 * (n.val / 32) + n.val % 32 = n.val := by omega
  unfold code
  rw [e]
  simp only [hn]

/-- The column sum is the model's. -/
theorem sums_eq (q : Fin 3584) :
    (k0_pay3 (F := Ideal) s x : S1x3584.Idx → EReal) (ix2 0 q) = ∑ b : Fin 4, ∑ n : Fin 8192, deq s x b.val n.val q.val := by
  refine Eq.trans (pay3_apply s x q) ?_
  exact Finset.sum_congr rfl fun b _ => Finset.sum_congr rfl fun n _ => pay2_eq s x b n q

end Cert.ReferenceIdeal.Hand
-- ==== Proof.RefV.lean ====
module

public import proofs.«01_k».proof.Proof.RefVals
public import Idealize.ShloMosaic.Lib.Pipeline.ValueKit
public import proofs.«01_k».proof.Proof.Gen.ReferenceIdeal.Frame
public import Idealize.ShloMosaic.Lib.Pointwise

@[expose] public section

set_option maxRecDepth 8192
set_option maxHeartbeats 400000

noncomputable section

namespace Cert.ReferenceIdeal.Hand

open Cert.ReferenceIdeal Cert.ReferenceIdeal.Gen
open Idealize.ShloMosaic Idealize.ShloMosaic.TcCoe Requant
open Cert.KernelIdeal.Hand (xN sN vN aW amax level code)

theorem out2_eq (x0 : S4x8192x3584.Idx → EReal) (x1 : S4x8192x112.Idx → BitVec 8) :
    out0_2 (F := Ideal) x0 x1 = k0_pay11 (F := Ideal) (k0_pay4 x1 x0) (k0_pay5 x1 x0) k0_pay7 k0_pay8 k0_pay9 (Scalar.ofBits .f32 0x7F800000#32) := by
  unfold_out out0_2
  frame_out

theorem out3_eq (x0 : S4x8192x3584.Idx → EReal) (x1 : S4x8192x112.Idx → BitVec 8) :
    out0_3 (F := Ideal) x0 x1 = k0_pay1 (k0_pay10 (F := Ideal) (k0_pay5 x1 x0) k0_pay7 k0_pay8 k0_pay9 (Scalar.ofBits .f32 0x7F800000#32)) := by
  unfold_out out0_3
  frame_out

theorem out4_eq (x0 : S4x8192x3584.Idx → EReal) (x1 : S4x8192x112.Idx → BitVec 8) :
    out0_4 (F := Ideal) x0 x1 = k0_pay3 (F := Ideal) x1 x0 := by
  unfold_out out0_4
  frame_out

variable (m : (ℓ : Loc nD τ sig) → Buf (Elt Ideal) ℓ) (ρ : Dev nD → PrngReg) (c : Dev nD)

/-- The first argument array. -/
abbrev xR : S4x8192x3584.Idx → EReal := m ((c : Thread nD τ).loc main_arg0)

/-- The second argument array. -/
abbrev sR : S4x8192x112.Idx → BitVec 8 := m ((c : Thread nD τ).loc main_arg1)

theorem widx0 : ∀ t : Fin cfg0.N, (cfg0.win 0).index t (0 : Fin 3) = 0 ∧ (cfg0.win 0).index t (1 : Fin 3) = 0 ∧ (cfg0.win 0).index t (2 : Fin 3) = 0 :=
  (by decide +kernel : ∀ t : Fin grid0.N, win0_0.index t (0 : Fin 3) = 0 ∧ win0_0.index t (1 : Fin 3) = 0 ∧ win0_0.index t (2 : Fin 3) = 0)
theorem widx1 : ∀ t : Fin cfg0.N, (cfg0.win 1).index t (0 : Fin 3) = 0 ∧ (cfg0.win 1).index t (1 : Fin 3) = 0 ∧ (cfg0.win 1).index t (2 : Fin 3) = 0 :=
  (by decide +kernel : ∀ t : Fin grid0.N, win0_1.index t (0 : Fin 3) = 0 ∧ win0_1.index t (1 : Fin 3) = 0 ∧ win0_1.index t (2 : Fin 3) = 0)
theorem widx2 : ∀ t : Fin cfg0.N, (cfg0.win 2).index t (0 : Fin 3) = 0 ∧ (cfg0.win 2).index t (1 : Fin 3) = 0 ∧ (cfg0.win 2).index t (2 : Fin 3) = 0 :=
  (by decide +kernel : ∀ t : Fin grid0.N, win0_2.index t (0 : Fin 3) = 0 ∧ win0_2.index t (1 : Fin 3) = 0 ∧ win0_2.index t (2 : Fin 3) = 0)
theorem widx3 : ∀ t : Fin cfg0.N, (cfg0.win 3).index t (0 : Fin 3) = 0 ∧ (cfg0.win 3).index t (1 : Fin 3) = 0 ∧ (cfg0.win 3).index t (2 : Fin 3) = 0 :=
  (by decide +kernel : ∀ t : Fin grid0.N, win0_3.index t (0 : Fin 3) = 0 ∧ win0_3.index t (1 : Fin 3) = 0 ∧ win0_3.index t (2 : Fin 3) = 0)
theorem widx4 : ∀ t : Fin cfg0.N, (cfg0.win 4).index t (0 : Fin 2) = 0 ∧ (cfg0.win 4).index t (1 : Fin 2) = 0 :=
  (by decide +kernel : ∀ t : Fin grid0.N, win0_4.index t (0 : Fin 2) = 0 ∧ win0_4.index t (1 : Fin 2) = 0)

/-- The first input's block is its array. -/
theorem x_whole (t : Fin cfg0.N) : (iblk m c 0 t : S4x8192x3584.Idx → EReal) = xR m c := by
  obtain ⟨h0, h1, h2⟩ := widx0 t
  funext y
  unfold xR
  blk_ext [iblk, V, h0, h1, h2]

/-- The second input's block is its array. -/
theorem s_whole (t : Fin cfg0.N) : (iblk m c 1 t : S4x8192x112.Idx → BitVec 8) = sR m c := by
  obtain ⟨h0, h1, h2⟩ := widx1 t
  funext y
  unfold sR
  blk_ext [iblk, V, h0, h1, h2]

end Cert.ReferenceIdeal.Hand
-- ==== Proof.RefRun.lean ====
module

public import proofs.«01_k».proof.Proof.RefV
public import proofs.«01_k».proof.Proof.Gen.ReferenceIdeal.Frame
public import Idealize.ShloMosaic.Lib.Pointwise

@[expose] public section

set_option maxRecDepth 8192
set_option maxHeartbeats 400000

noncomputable section

namespace Cert.ReferenceIdeal.Hand

open Cert.ReferenceIdeal Cert.ReferenceIdeal.Gen
open Idealize.ShloMosaic Idealize.ShloMosaic.TcCoe Requant
open Cert.KernelIdeal.Hand (xN sN vN aW amax level code)

variable (m : (ℓ : Loc nD τ sig) → Buf (Elt Ideal) ℓ) (ρ : Dev nD → PrngReg) (c : Dev nD)

/-- The codes the reference leaves. -/
def codesR : S4x3584x8192.Idx → EReal := fun y => code (deq (sR m c) (xR m c) (y 0).val) (y 2).val (y 1).val

/-- The biased exponents the reference leaves. -/
def scalesR : S4x3584x256.Idx → BitVec 8 := fun y => BitVec.setWidth 8 (expo (level (deq (sR m c) (xR m c) (y 0).val) (y 2).val (y 1).val))

/-- The column sums the reference leaves. -/
def sumsR : S1x3584.Idx → EReal := fun y => ∑ b : Fin 4, ∑ n : Fin 8192, deq (sR m c) (xR m c) b.val n.val (y 1).val

/-- The first result's array. -/
theorem arr2R : (dats m 0 c).arrAt 2 cfg0.N = codesR m c := by
  refine Pipeline.Dat.arrAt_eq_of_covers _ 2 _ (by decide +kernel) fun t hf y => ?_
  obtain ⟨h0, h1, h2⟩ := widx2 t
  blk_simp
  have e := codes_eq (sR m c) (xR m c) (y 0) (y 1) (y 2)
  rw [← out2_eq, ← x_whole m c t, ← s_whole m c t, ← after0_2 m c t] at e
  have hy : (ix3 (y 0) (y 1) (y 2) : S4x3584x8192.Idx) = y := by
    funext a; fin_cases a <;> rfl
  rw [hy] at e
  refine Eq.trans e ?_
  have e0 : ((win0_2.blk t).view.emb y (0 : Fin 3)).val = (y 0).val := by blk_simp; erw [h0]; omega
  have e1 : ((win0_2.blk t).view.emb y (1 : Fin 3)).val = (y 1).val := by blk_simp; erw [h1]; omega
  have e2 : ((win0_2.blk t).view.emb y (2 : Fin 3)).val = (y 2).val := by blk_simp; erw [h2]; omega
  unfold codesR
  rw [e0, e1, e2, x_whole m c t, s_whole m c t]

/-- The second result's array. -/
theorem arr3R : (dats m 0 c).arrAt 3 cfg0.N = scalesR m c := by
  refine Pipeline.Dat.arrAt_eq_of_covers _ 3 _ (by decide +kernel) fun t hf y => ?_
  obtain ⟨h0, h1, h2⟩ := widx3 t
  blk_simp
  have e := scales_eq (sR m c) (xR m c) (y 0) (y 1) (y 2)
  rw [← out3_eq, ← x_whole m c t, ← s_whole m c t, ← after0_3 m c t] at e
  have hy : (ix3 (y 0) (y 1) (y 2) : S4x3584x256.Idx) = y := by
    funext a; fin_cases a <;> rfl
  rw [hy] at e
  refine Eq.trans e ?_
  have e0 : ((win0_3.blk t).view.emb y (0 : Fin 3)).val = (y 0).val := by blk_simp; erw [h0]; omega
  have e1 : ((win0_3.blk t).view.emb y (1 : Fin 3)).val = (y 1).val := by blk_simp; erw [h1]; omega
  have e2 : ((win0_3.blk t).view.emb y (2 : Fin 3)).val = (y 2).val := by blk_simp; erw [h2]; omega
  unfold scalesR
  rw [e0, e1, e2, x_whole m c t, s_whole m c t]

/-- The third result's array. -/
theorem arr4R : (dats m 0 c).arrAt 4 cfg0.N = sumsR m c := by
  refine Pipeline.Dat.arrAt_eq_of_covers _ 4 _ (by decide +kernel) fun t hf y => ?_
  obtain ⟨h0, h1⟩ := widx4 t
  blk_simp
  have e := sums_eq (sR m c) (xR m c) (y 1)
  rw [← out4_eq, ← x_whole m c t, ← s_whole m c t, ← after0_4 m c t] at e
  have hy : (ix2 0 (y 1) : S1x3584.Idx) = y := by
    funext a; fin_cases a
    · exact Subsingleton.elim (α := Fin 1) _ _
    · rfl
  rw [hy] at e
  refine Eq.trans e ?_
  have e1 : ((win0_4.blk t).view.emb y (1 : Fin 2)).val = (y 1).val := by blk_simp; erw [h1]; omega
  unfold sumsR
  rw [e1, x_whole m c t, s_whole m c t]

/-- What the reference leaves: its three results, its arguments unchanged. -/
theorem results :
    θ_run defs (onTc (τ := τ) (main (F := Ideal))) ⟨m, fun _ => 0, ρ⟩ (fun r => ∀ c : Dev nD,
      r.2.mem ((c.tc : Thread nD τ).loc main_v0_0) = codesR m c
      ∧ r.2.mem ((c.tc : Thread nD τ).loc main_v0_1) = scalesR m c
      ∧ r.2.mem ((c.tc : Thread nD τ).loc main_v0_2) = sumsR m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).1 2).trans (arr2R m c), ((h c).1 3).trans (arr3R m c), ((h c).1 4).trans (arr4R m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.ReferenceIdeal.Hand
-- ==== Proof.SumEq.lean ====
module

public import proofs.«01_k».proof.Proof.Blocks

@[expose] public section

set_option maxRecDepth 8192
set_option maxHeartbeats 400000

noncomputable section

namespace Cert.KernelIdeal.Hand

open Cert.KernelIdeal Cert.KernelIdeal.Gen
open Idealize.ShloMosaic Idealize.ShloMosaic.TcCoe Requant

/-- A sum of two consecutive stretches. -/
theorem sum_halves (f : ℕ → EReal) :
    ∑ n ∈ Finset.range 4096, f n + ∑ n ∈ Finset.range 4096, f (4096 + n) = ∑ n : Fin 8192, f n.val := by
  rw [← Finset.sum_range_add, ← Finset.sum_range f]

/-- The points of the grid that add to one plane: every seventh. -/
theorem sum_sevenths (f : ℕ → EReal) (d : ℕ) (hd : d < 7) :
    (∑ u ∈ Finset.range (50 + d), if u % 7 = d then f u else 0) = ∑ w ∈ Finset.range 8, f (7 * w + d) := by
  rw [← Finset.sum_filter]
  refine (Finset.sum_nbij' (fun w => 7 * w + d) (fun u => u / 7) ?_ ?_ ?_ ?_ ?_).symm
  · intro w hw
    have := Finset.mem_range.1 hw
    exact Finset.mem_filter.2 ⟨Finset.mem_range.2 (by omega), by omega⟩
  · intro u hu
    have := Finset.mem_range.1 (Finset.mem_filter.1 hu).1
    exact Finset.mem_range.2 (by omega)
  · intro w _; show (7 * w + d) / 7 = w; omega
  · intro u hu
    have := (Finset.mem_filter.1 hu).2
    show 7 * (u / 7) + d = u
    omega
  · intro w _; rfl

variable (m : (ℓ : Loc nD τ sig) → Buf (Elt Ideal) ℓ) (c : Dev nD)

/-- What one point adds is the dequantised values of its half of the rows. -/
theorem gain_eq (w d q : ℕ) (hd : d < 7) (hq : q < 512) :
    gain m c (7 * w + d) (q / 32) q
      = ∑ n ∈ Finset.range 4096, vN (argX m c) (argS m c) (w / 2) (4096 * (w % 2) + n) (512 * d + q) := by
  unfold gain rowSum xP sP vN
  have h0 : (7 * w + d) / 14 = w / 2 := by omega
  have h1 : (7 * w + d) / 7 % 2 = w % 2 := by omega
  have h2 : (7 * w + d) % 7 = d := by omega
  have h3 : (512 * d + q) / 32 = 16 * d + q / 32 := by omega
  rw [h0, h1, h2, h3]
  exact Finset.sum_congr rfl fun n _ => mul_comm _ _

/-- A plane of the accumulator ends with its columns' sums. -/
theorem gathered_eq (p : ℕ) (hp : p < 3584) :
    gathered m c (50 + p / 512) (p / 512) (p % 512 / 32) (p % 512)
      = ∑ b : Fin 4, ∑ n : Fin 8192, vN (argX m c) (argS m c) b.val n.val p := by
  unfold gathered
  rw [sum_sevenths (fun u => gain m c u (p % 512 / 32) (p % 512)) (p / 512) (by omega)]
  have e : ∀ w, gain m c (7 * w + p / 512) (p % 512 / 32) (p % 512)
      = ∑ n ∈ Finset.range 4096, vN (argX m c) (argS m c) (w / 2) (4096 * (w % 2) + n) p := fun w => by
    rw [gain_eq m c w (p / 512) (p % 512) (by omega) (by omega), Nat.div_add_mod]
  simp only [e]
  rw [Fin.sum_univ_four]
  have h : ∀ b : ℕ, ∑ n : Fin 8192, vN (argX m c) (argS m c) b n.val p
      = ∑ n ∈ Finset.range 4096, vN (argX m c) (argS m c) (2 * b / 2) (4096 * (2 * b % 2) + n) p
        + ∑ n ∈ Finset.range 4096, vN (argX m c) (argS m c) ((2 * b + 1) / 2) (4096 * ((2 * b + 1) % 2) + n) p := fun b => by
    have a0 : 2 * b / 2 = b := by omega
    have a1 : 2 * b % 2 = 0 := by omega
    have a2 : (2 * b + 1) / 2 = b := by omega
    have a3 : (2 * b + 1) % 2 = 1 := by omega
    rw [a0, a1, a2, a3, ← sum_halves (fun n => vN (argX m c) (argS m c) b n p)]
    simp only [Nat.mul_zero, Nat.zero_add, Nat.mul_one]
  rw [h, h, h, h]
  simp only [Finset.sum_range_succ (n := 7), Finset.sum_range_succ (n := 6), Finset.sum_range_succ (n := 5), Finset.sum_range_succ (n := 4),
    Finset.sum_range_succ (n := 3), Finset.sum_range_succ (n := 2), Finset.sum_range_succ (n := 1), Finset.sum_range_one]
  simp only [add_assoc]
  rfl

end Cert.KernelIdeal.Hand
-- ==== Proof.Algebra.lean ====
module

public import proofs.«01_k».proof.Defs
public import proofs.«01_k».proof.Proof.RunV
public import proofs.«01_k».proof.Proof.RefRun
public import proofs.«01_k».proof.Proof.SumEq

@[expose] public section

set_option maxHeartbeats 400000

noncomputable section

namespace Cert.Proof

open Idealize.ShloMosaic Idealize.ShloMosaic.TcCoe Idealize.SL.Sem

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (hx : Cert.ReferenceIdeal.Hand.xR m' c = m ((c : Thread Cert.KernelIdeal.nD Cert.KernelIdeal.τ).loc Cert.KernelIdeal.main_arg0))
  (hs : Cert.ReferenceIdeal.Hand.sR m' c = m ((c : Thread Cert.KernelIdeal.nD Cert.KernelIdeal.τ).loc Cert.KernelIdeal.main_arg1))

include hx hs

/-- On the same arguments the two programs dequantise to the same values. -/
theorem deq_eq (b : ℕ) : Cert.ReferenceIdeal.Hand.deq (Cert.ReferenceIdeal.Hand.sR m' c) (Cert.ReferenceIdeal.Hand.xR m' c) b
    = Cert.KernelIdeal.Hand.vN (Cert.KernelIdeal.Hand.argX m c) (Cert.KernelIdeal.Hand.argS m c) b := by
  rw [hx, hs]

/-- The codes agree. -/
theorem codes_agree : Cert.ReferenceIdeal.Hand.codesR m' c = Cert.KernelIdeal.Hand.codesK m c := by
  funext y
  unfold Cert.ReferenceIdeal.Hand.codesR Cert.KernelIdeal.Hand.codesK
  rw [deq_eq m m' c hx hs]

/-- The exponents agree. -/
theorem scales_agree : Cert.ReferenceIdeal.Hand.scalesR m' c = Cert.KernelIdeal.Hand.scalesK m c := by
  funext y
  unfold Cert.ReferenceIdeal.Hand.scalesR Cert.KernelIdeal.Hand.scalesK
  rw [deq_eq m m' c hx hs]

/-- The column sums agree. -/
theorem sums_agree : Cert.ReferenceIdeal.Hand.sumsR m' c = Cert.KernelIdeal.Hand.sumsK m c := by
  funext y
  unfold Cert.ReferenceIdeal.Hand.sumsR Cert.KernelIdeal.Hand.sumsK
  rw [Cert.KernelIdeal.Hand.gathered_eq m c (y 1).val (y 1).isLt]
  simp only [deq_eq m m' c hx hs]

end

/-- The idealized kernel and the reference leave the same three results on the same arguments. -/
theorem algebraic : Cert.algebraic_KernelIdeal_ReferenceIdeal
    (hKernelIdeal := Cert.KernelIdeal.Gen.facts) (hReferenceIdeal := Cert.ReferenceIdeal.Gen.facts) := by
  intro m g m' g' _ hagree
  refine ⟨fun c => Cert.KernelIdeal.Hand.codesK m c, fun c => Cert.KernelIdeal.Hand.scalesK m c, fun c => Cert.KernelIdeal.Hand.sumsK m c,
    Cert.KernelIdeal.Hand.results m g, ?_⟩
  refine (θ_run _ _ _).mono (fun r h c => ?_) (Cert.ReferenceIdeal.Hand.results m' g')
  obtain ⟨h0, h1, h2, h3, h4⟩ := h c
  exact ⟨h0.trans (codes_agree m m' c (hagree c).1 (hagree c).2), h1.trans (scales_agree m m' c (hagree c).1 (hagree c).2),
    h2.trans (sums_agree m m' c (hagree c).1 (hagree c).2), h3, h4⟩

end Cert.Proof
-- ==== Proof.lean ====
module

public import proofs.«01_k».proof.Defs
public import proofs.«01_k».proof.Proof.FrameKernel
public import proofs.«01_k».proof.Proof.FrameKernelIdeal
public import proofs.«01_k».proof.Proof.Gen.ReferenceIdeal.Frame
public import proofs.«01_k».proof.Proof.Algebra
public import Idealize.ShloMosaic.Lib.Bf16Pair
public import Idealize.ShloMosaic.Lib.Bf16PairInverse

@[expose] public section

noncomputable section

namespace Cert.Proof

open Idealize.ShloMosaic Idealize.SL.Sem

/-- The three programs run to their end with their arguments unchanged and every semaphore at zero, every rewriting
    the idealized kernel rests on preserves the values, and the idealized kernel and the reference leave the same results. -/
theorem claim : Cert.Claim :=
  ⟨Cert.Kernel.Gen.facts, Cert.KernelIdeal.Gen.facts, Cert.ReferenceIdeal.Gen.facts,
    fun m ρ _ => Cert.Kernel.Hand.quiescent m ρ,
    fun m ρ _ => Cert.KernelIdeal.Hand.quiescent m ρ,
    fun m ρ _ => Cert.ReferenceIdeal.Gen.frame m ρ,
    ⟨IdealRules.bf16_pair.bufferStatement _ _, IdealRules.bf16_pair.statement _ _, IdealRules.bf16_pair.statement _ _⟩,
    algebraic⟩

end Cert.Proof

end
